-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Codebook (m : (ℓ : Loc Cert.Codebook.nD Cert.Codebook.τ Cert.Codebook.sig) → Buf (Elt Bits) ℓ) : Prop :=
  True

def Pre_CodebookIdeal (m : (ℓ : Loc Cert.CodebookIdeal.nD Cert.CodebookIdeal.τ Cert.CodebookIdeal.sig) → Buf (Elt Ideal) ℓ) : Prop :=
  True

def Pre_CodebookReferenceIdeal (m : (ℓ : Loc Cert.CodebookReferenceIdeal.nD Cert.CodebookReferenceIdeal.τ Cert.CodebookReferenceIdeal.sig) → Buf (Elt Ideal) ℓ) : Prop :=
  True

def Pre_Assign (m : (ℓ : Loc Cert.Assign.nD Cert.Assign.τ Cert.Assign.sig) → Buf (Elt Bits) ℓ) : Prop :=
  True

def Pre_AssignIdeal (m : (ℓ : Loc Cert.AssignIdeal.nD Cert.AssignIdeal.τ Cert.AssignIdeal.sig) → Buf (Elt Ideal) ℓ) : Prop :=
  True

def Pre_AssignReferenceIdeal (m : (ℓ : Loc Cert.AssignReferenceIdeal.nD Cert.AssignReferenceIdeal.τ Cert.AssignReferenceIdeal.sig) → Buf (Elt Ideal) ℓ) : Prop :=
  True

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Codebook [hCodebook : Cert.Codebook.Facts] : Prop :=
  ∀ (m : (ℓ : Loc Cert.Codebook.nD Cert.Codebook.τ Cert.Codebook.sig) → Buf (Elt Bits) ℓ) (g : Dev Cert.Codebook.nD → PrngReg), Pre_Codebook m →
    θ_run (Cert.Codebook.defs (F := Bits)) (onTc (τ := Cert.Codebook.τ) (Cert.Codebook.main (F := Bits))) ⟨m, fun _ => 0, g⟩ (fun r => (∀ c : Dev Cert.Codebook.nD,
      r.2.mem ((c.tc : Thread Cert.Codebook.nD Cert.Codebook.τ).loc Cert.Codebook.main_arg0) = m ((c.tc : Thread Cert.Codebook.nD Cert.Codebook.τ).loc Cert.Codebook.main_arg0)
      ∧ r.2.mem ((c.tc : Thread Cert.Codebook.nD Cert.Codebook.τ).loc Cert.Codebook.main_arg1) = m ((c.tc : Thread Cert.Codebook.nD Cert.Codebook.τ).loc Cert.Codebook.main_arg1)
      ∧ r.2.mem ((c.tc : Thread Cert.Codebook.nD Cert.Codebook.τ).loc Cert.Codebook.main_arg2) = m ((c.tc : Thread Cert.Codebook.nD Cert.Codebook.τ).loc Cert.Codebook.main_arg2))
      ∧ r.2.sem = fun _ => 0)

def quiescent_CodebookIdeal [hCodebookIdeal : Cert.CodebookIdeal.Facts] : Prop :=
  ∀ (m : (ℓ : Loc Cert.CodebookIdeal.nD Cert.CodebookIdeal.τ Cert.CodebookIdeal.sig) → Buf (Elt Ideal) ℓ) (g : Dev Cert.CodebookIdeal.nD → PrngReg), Pre_CodebookIdeal m →
    θ_run (Cert.CodebookIdeal.defs (F := Ideal)) (onTc (τ := Cert.CodebookIdeal.τ) (Cert.CodebookIdeal.main (F := Ideal))) ⟨m, fun _ => 0, g⟩ (fun r => (∀ c : Dev Cert.CodebookIdeal.nD,
      r.2.mem ((c.tc : Thread Cert.CodebookIdeal.nD Cert.CodebookIdeal.τ).loc Cert.CodebookIdeal.main_arg0) = m ((c.tc : Thread Cert.CodebookIdeal.nD Cert.CodebookIdeal.τ).loc Cert.CodebookIdeal.main_arg0)
      ∧ r.2.mem ((c.tc : Thread Cert.CodebookIdeal.nD Cert.CodebookIdeal.τ).loc Cert.CodebookIdeal.main_arg1) = m ((c.tc : Thread Cert.CodebookIdeal.nD Cert.CodebookIdeal.τ).loc Cert.CodebookIdeal.main_arg1)
      ∧ r.2.mem ((c.tc : Thread Cert.CodebookIdeal.nD Cert.CodebookIdeal.τ).loc Cert.CodebookIdeal.main_arg2) = m ((c.tc : Thread Cert.CodebookIdeal.nD Cert.CodebookIdeal.τ).loc Cert.CodebookIdeal.main_arg2))
      ∧ r.2.sem = fun _ => 0)

def quiescent_CodebookReferenceIdeal [hCodebookReferenceIdeal : Cert.CodebookReferenceIdeal.Facts] : Prop :=
  ∀ (m : (ℓ : Loc Cert.CodebookReferenceIdeal.nD Cert.CodebookReferenceIdeal.τ Cert.CodebookReferenceIdeal.sig) → Buf (Elt Ideal) ℓ) (g : Dev Cert.CodebookReferenceIdeal.nD → PrngReg), Pre_CodebookReferenceIdeal m →
    θ_run (Cert.CodebookReferenceIdeal.defs (F := Ideal)) (onTc (τ := Cert.CodebookReferenceIdeal.τ) (Cert.CodebookReferenceIdeal.main (F := Ideal))) ⟨m, fun _ => 0, g⟩ (fun r => (∀ c : Dev Cert.CodebookReferenceIdeal.nD,
      r.2.mem ((c.tc : Thread Cert.CodebookReferenceIdeal.nD Cert.CodebookReferenceIdeal.τ).loc Cert.CodebookReferenceIdeal.main_arg0) = m ((c.tc : Thread Cert.CodebookReferenceIdeal.nD Cert.CodebookReferenceIdeal.τ).loc Cert.CodebookReferenceIdeal.main_arg0)
      ∧ r.2.mem ((c.tc : Thread Cert.CodebookReferenceIdeal.nD Cert.CodebookReferenceIdeal.τ).loc Cert.CodebookReferenceIdeal.main_arg1) = m ((c.tc : Thread Cert.CodebookReferenceIdeal.nD Cert.CodebookReferenceIdeal.τ).loc Cert.CodebookReferenceIdeal.main_arg1)
      ∧ r.2.mem ((c.tc : Thread Cert.CodebookReferenceIdeal.nD Cert.CodebookReferenceIdeal.τ).loc Cert.CodebookReferenceIdeal.main_arg2) = m ((c.tc : Thread Cert.CodebookReferenceIdeal.nD Cert.CodebookReferenceIdeal.τ).loc Cert.CodebookReferenceIdeal.main_arg2))
      ∧ r.2.sem = fun _ => 0)

def quiescent_Assign [hAssign : Cert.Assign.Facts] : Prop :=
  ∀ (m : (ℓ : Loc Cert.Assign.nD Cert.Assign.τ Cert.Assign.sig) → Buf (Elt Bits) ℓ) (g : Dev Cert.Assign.nD → PrngReg), Pre_Assign m →
    θ_run (Cert.Assign.defs (F := Bits)) (onTc (τ := Cert.Assign.τ) (Cert.Assign.main (F := Bits))) ⟨m, fun _ => 0, g⟩ (fun r => (∀ c : Dev Cert.Assign.nD,
      r.2.mem ((c.tc : Thread Cert.Assign.nD Cert.Assign.τ).loc Cert.Assign.main_arg0) = m ((c.tc : Thread Cert.Assign.nD Cert.Assign.τ).loc Cert.Assign.main_arg0)
      ∧ r.2.mem ((c.tc : Thread Cert.Assign.nD Cert.Assign.τ).loc Cert.Assign.main_arg1) = m ((c.tc : Thread Cert.Assign.nD Cert.Assign.τ).loc Cert.Assign.main_arg1)
      ∧ r.2.mem ((c.tc : Thread Cert.Assign.nD Cert.Assign.τ).loc Cert.Assign.main_arg2) = m ((c.tc : Thread Cert.Assign.nD Cert.Assign.τ).loc Cert.Assign.main_arg2))
      ∧ r.2.sem = fun _ => 0)

def quiescent_AssignIdeal [hAssignIdeal : Cert.AssignIdeal.Facts] : Prop :=
  ∀ (m : (ℓ : Loc Cert.AssignIdeal.nD Cert.AssignIdeal.τ Cert.AssignIdeal.sig) → Buf (Elt Ideal) ℓ) (g : Dev Cert.AssignIdeal.nD → PrngReg), Pre_AssignIdeal m →
    θ_run (Cert.AssignIdeal.defs (F := Ideal)) (onTc (τ := Cert.AssignIdeal.τ) (Cert.AssignIdeal.main (F := Ideal))) ⟨m, fun _ => 0, g⟩ (fun r => (∀ c : Dev Cert.AssignIdeal.nD,
      r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
      ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1)
      ∧ r.2.mem ((c.tc : Thread Cert.AssignIdeal.nD Cert.AssignIdeal.τ).loc Cert.AssignIdeal.main_arg2) = m ((c.tc : Thread Cert.AssignIdeal.nD Cert.AssignIdeal.τ).loc Cert.AssignIdeal.main_arg2))
      ∧ r.2.sem = fun _ => 0)

def quiescent_AssignReferenceIdeal [hAssignReferenceIdeal : Cert.AssignReferenceIdeal.Facts] : Prop :=
  ∀ (m : (ℓ : Loc Cert.AssignReferenceIdeal.nD Cert.AssignReferenceIdeal.τ Cert.AssignReferenceIdeal.sig) → Buf (Elt Ideal) ℓ) (g : Dev Cert.AssignReferenceIdeal.nD → PrngReg), Pre_AssignReferenceIdeal m →
    θ_run (Cert.AssignReferenceIdeal.defs (F := Ideal)) (onTc (τ := Cert.AssignReferenceIdeal.τ) (Cert.AssignReferenceIdeal.main (F := Ideal))) ⟨m, fun _ => 0, g⟩ (fun r => (∀ c : Dev Cert.AssignReferenceIdeal.nD,
      r.2.mem ((c.tc : Thread Cert.AssignReferenceIdeal.nD Cert.AssignReferenceIdeal.τ).loc Cert.AssignReferenceIdeal.main_arg0) = m ((c.tc : Thread Cert.AssignReferenceIdeal.nD Cert.AssignReferenceIdeal.τ).loc Cert.AssignReferenceIdeal.main_arg0)
      ∧ r.2.mem ((c.tc : Thread Cert.AssignReferenceIdeal.nD Cert.AssignReferenceIdeal.τ).loc Cert.AssignReferenceIdeal.main_arg1) = m ((c.tc : Thread Cert.AssignReferenceIdeal.nD Cert.AssignReferenceIdeal.τ).loc Cert.AssignReferenceIdeal.main_arg1)
      ∧ r.2.mem ((c.tc : Thread Cert.AssignReferenceIdeal.nD Cert.AssignReferenceIdeal.τ).loc Cert.AssignReferenceIdeal.main_arg2) = m ((c.tc : Thread Cert.AssignReferenceIdeal.nD Cert.AssignReferenceIdeal.τ).loc Cert.AssignReferenceIdeal.main_arg2))
      ∧ r.2.sem = fun _ => 0)

def preserves_Kernel_KernelIdeal : Prop :=
  IdealRules.named_const.Statement Cert.KernelIdeal.κ "mean" .f32 0x344CCCCD#32 ((5242880⁻¹ : ℝ) : EReal)

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Codebook_CodebookIdeal : Prop :=
  True

def algebraic_CodebookIdeal_CodebookReferenceIdeal [hCodebookIdeal : Cert.CodebookIdeal.Facts] [hCodebookReferenceIdeal : Cert.CodebookReferenceIdeal.Facts] : Prop :=
  ∀ (m : (ℓ : Loc Cert.CodebookIdeal.nD Cert.CodebookIdeal.τ Cert.CodebookIdeal.sig) → Buf (Elt Ideal) ℓ) (g : Dev Cert.CodebookIdeal.nD → PrngReg)
    (m' : (ℓ : Loc Cert.CodebookReferenceIdeal.nD Cert.CodebookReferenceIdeal.τ Cert.CodebookReferenceIdeal.sig) → Buf (Elt Ideal) ℓ) (g' : Dev Cert.CodebookReferenceIdeal.nD → PrngReg), Pre_CodebookIdeal m →
    (∀ c : Dev Cert.CodebookIdeal.nD,
      m' ((c.tc : Thread Cert.CodebookReferenceIdeal.nD Cert.CodebookReferenceIdeal.τ).loc Cert.CodebookReferenceIdeal.main_arg0) = m ((c.tc : Thread Cert.CodebookIdeal.nD Cert.CodebookIdeal.τ).loc Cert.CodebookIdeal.main_arg0)
      ∧ m' ((c.tc : Thread Cert.CodebookReferenceIdeal.nD Cert.CodebookReferenceIdeal.τ).loc Cert.CodebookReferenceIdeal.main_arg1) = m ((c.tc : Thread Cert.CodebookIdeal.nD Cert.CodebookIdeal.τ).loc Cert.CodebookIdeal.main_arg1)
      ∧ m' ((c.tc : Thread Cert.CodebookReferenceIdeal.nD Cert.CodebookReferenceIdeal.τ).loc Cert.CodebookReferenceIdeal.main_arg2) = m ((c.tc : Thread Cert.CodebookIdeal.nD Cert.CodebookIdeal.τ).loc Cert.CodebookIdeal.main_arg2)) →
    ∃ (v0 : (c : Dev Cert.CodebookIdeal.nD) → Buf (Elt Ideal) ((c.tc : Thread Cert.CodebookIdeal.nD Cert.CodebookIdeal.τ).loc Cert.CodebookIdeal.main_v1_0)) (v1 : (c : Dev Cert.CodebookIdeal.nD) → Buf (Elt Ideal) ((c.tc : Thread Cert.CodebookIdeal.nD Cert.CodebookIdeal.τ).loc Cert.CodebookIdeal.main_v1_1)) (v2 : (c : Dev Cert.CodebookIdeal.nD) → Buf (Elt Ideal) ((c.tc : Thread Cert.CodebookIdeal.nD Cert.CodebookIdeal.τ).loc Cert.CodebookIdeal.main_v1_2)),
      θ_run (Cert.CodebookIdeal.defs (F := Ideal)) (onTc (τ := Cert.CodebookIdeal.τ) (Cert.CodebookIdeal.main (F := Ideal))) ⟨m, fun _ => 0, g⟩ (fun r => ∀ c : Dev Cert.CodebookIdeal.nD,
          r.2.mem ((c.tc : Thread Cert.CodebookIdeal.nD Cert.CodebookIdeal.τ).loc Cert.CodebookIdeal.main_v1_0) = v0 c
          ∧ r.2.mem ((c.tc : Thread Cert.CodebookIdeal.nD Cert.CodebookIdeal.τ).loc Cert.CodebookIdeal.main_v1_1) = v1 c
          ∧ r.2.mem ((c.tc : Thread Cert.CodebookIdeal.nD Cert.CodebookIdeal.τ).loc Cert.CodebookIdeal.main_v1_2) = v2 c
          ∧ r.2.mem ((c.tc : Thread Cert.CodebookIdeal.nD Cert.CodebookIdeal.τ).loc Cert.CodebookIdeal.main_arg0) = m ((c.tc : Thread Cert.CodebookIdeal.nD Cert.CodebookIdeal.τ).loc Cert.CodebookIdeal.main_arg0)
          ∧ r.2.mem ((c.tc : Thread Cert.CodebookIdeal.nD Cert.CodebookIdeal.τ).loc Cert.CodebookIdeal.main_arg1) = m ((c.tc : Thread Cert.CodebookIdeal.nD Cert.CodebookIdeal.τ).loc Cert.CodebookIdeal.main_arg1)
          ∧ r.2.mem ((c.tc : Thread Cert.CodebookIdeal.nD Cert.CodebookIdeal.τ).loc Cert.CodebookIdeal.main_arg2) = m ((c.tc : Thread Cert.CodebookIdeal.nD Cert.CodebookIdeal.τ).loc Cert.CodebookIdeal.main_arg2))
      ∧ θ_run (Cert.CodebookReferenceIdeal.defs (F := Ideal)) (onTc (τ := Cert.CodebookReferenceIdeal.τ) (Cert.CodebookReferenceIdeal.main (F := Ideal))) ⟨m', fun _ => 0, g'⟩ (fun r => ∀ c : Dev Cert.CodebookReferenceIdeal.nD,
          r.2.mem ((c.tc : Thread Cert.CodebookReferenceIdeal.nD Cert.CodebookReferenceIdeal.τ).loc Cert.CodebookReferenceIdeal.main_v4) = v0 c
          ∧ r.2.mem ((c.tc : Thread Cert.CodebookReferenceIdeal.nD Cert.CodebookReferenceIdeal.τ).loc Cert.CodebookReferenceIdeal.main_v7) = v1 c
          ∧ r.2.mem ((c.tc : Thread Cert.CodebookReferenceIdeal.nD Cert.CodebookReferenceIdeal.τ).loc Cert.CodebookReferenceIdeal.main_v10) = v2 c
          ∧ r.2.mem ((c.tc : Thread Cert.CodebookReferenceIdeal.nD Cert.CodebookReferenceIdeal.τ).loc Cert.CodebookReferenceIdeal.main_arg0) = m' ((c.tc : Thread Cert.CodebookReferenceIdeal.nD Cert.CodebookReferenceIdeal.τ).loc Cert.CodebookReferenceIdeal.main_arg0)
          ∧ r.2.mem ((c.tc : Thread Cert.CodebookReferenceIdeal.nD Cert.CodebookReferenceIdeal.τ).loc Cert.CodebookReferenceIdeal.main_arg1) = m' ((c.tc : Thread Cert.CodebookReferenceIdeal.nD Cert.CodebookReferenceIdeal.τ).loc Cert.CodebookReferenceIdeal.main_arg1)
          ∧ r.2.mem ((c.tc : Thread Cert.CodebookReferenceIdeal.nD Cert.CodebookReferenceIdeal.τ).loc Cert.CodebookReferenceIdeal.main_arg2) = m' ((c.tc : Thread Cert.CodebookReferenceIdeal.nD Cert.CodebookReferenceIdeal.τ).loc Cert.CodebookReferenceIdeal.main_arg2))

def preserves_Assign_AssignIdeal : Prop :=
  True

def algebraic_AssignIdeal_AssignReferenceIdeal [hAssignIdeal : Cert.AssignIdeal.Facts] [hAssignReferenceIdeal : Cert.AssignReferenceIdeal.Facts] : Prop :=
  ∀ (m : (ℓ : Loc Cert.AssignIdeal.nD Cert.AssignIdeal.τ Cert.AssignIdeal.sig) → Buf (Elt Ideal) ℓ) (g : Dev Cert.AssignIdeal.nD → PrngReg)
    (m' : (ℓ : Loc Cert.AssignReferenceIdeal.nD Cert.AssignReferenceIdeal.τ Cert.AssignReferenceIdeal.sig) → Buf (Elt Ideal) ℓ) (g' : Dev Cert.AssignReferenceIdeal.nD → PrngReg), Pre_AssignIdeal m →
    (∀ c : Dev Cert.AssignIdeal.nD,
      m' ((c.tc : Thread Cert.AssignReferenceIdeal.nD Cert.AssignReferenceIdeal.τ).loc Cert.AssignReferenceIdeal.main_arg0) = m ((c.tc : Thread Cert.AssignIdeal.nD Cert.AssignIdeal.τ).loc Cert.AssignIdeal.main_arg0)
      ∧ m' ((c.tc : Thread Cert.AssignReferenceIdeal.nD Cert.AssignReferenceIdeal.τ).loc Cert.AssignReferenceIdeal.main_arg1) = m ((c.tc : Thread Cert.AssignIdeal.nD Cert.AssignIdeal.τ).loc Cert.AssignIdeal.main_arg1)
      ∧ m' ((c.tc : Thread Cert.AssignReferenceIdeal.nD Cert.AssignReferenceIdeal.τ).loc Cert.AssignReferenceIdeal.main_arg2) = m ((c.tc : Thread Cert.AssignIdeal.nD Cert.AssignIdeal.τ).loc Cert.AssignIdeal.main_arg2)) →
    ∃ (v0 : (c : Dev Cert.AssignIdeal.nD) → Buf (Elt Ideal) ((c.tc : Thread Cert.AssignIdeal.nD Cert.AssignIdeal.τ).loc Cert.AssignIdeal.main_v8)),
      θ_run (Cert.AssignIdeal.defs (F := Ideal)) (onTc (τ := Cert.AssignIdeal.τ) (Cert.AssignIdeal.main (F := Ideal))) ⟨m, fun _ => 0, g⟩ (fun r => ∀ c : Dev Cert.AssignIdeal.nD,
          r.2.mem ((c.tc : Thread Cert.AssignIdeal.nD Cert.AssignIdeal.τ).loc Cert.AssignIdeal.main_v8) = v0 c
          ∧ r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
          ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1)
          ∧ r.2.mem ((c.tc : Thread Cert.AssignIdeal.nD Cert.AssignIdeal.τ).loc Cert.AssignIdeal.main_arg2) = m ((c.tc : Thread Cert.AssignIdeal.nD Cert.AssignIdeal.τ).loc Cert.AssignIdeal.main_arg2))
      ∧ θ_run (Cert.AssignReferenceIdeal.defs (F := Ideal)) (onTc (τ := Cert.AssignReferenceIdeal.τ) (Cert.AssignReferenceIdeal.main (F := Ideal))) ⟨m', fun _ => 0, g'⟩ (fun r => ∀ c : Dev Cert.AssignReferenceIdeal.nD,
          r.2.mem ((c.tc : Thread Cert.AssignReferenceIdeal.nD Cert.AssignReferenceIdeal.τ).loc Cert.AssignReferenceIdeal.main_v112) = v0 c
          ∧ r.2.mem ((c.tc : Thread Cert.AssignReferenceIdeal.nD Cert.AssignReferenceIdeal.τ).loc Cert.AssignReferenceIdeal.main_arg0) = m' ((c.tc : Thread Cert.AssignReferenceIdeal.nD Cert.AssignReferenceIdeal.τ).loc Cert.AssignReferenceIdeal.main_arg0)
          ∧ r.2.mem ((c.tc : Thread Cert.AssignReferenceIdeal.nD Cert.AssignReferenceIdeal.τ).loc Cert.AssignReferenceIdeal.main_arg1) = m' ((c.tc : Thread Cert.AssignReferenceIdeal.nD Cert.AssignReferenceIdeal.τ).loc Cert.AssignReferenceIdeal.main_arg1)
          ∧ r.2.mem ((c.tc : Thread Cert.AssignReferenceIdeal.nD Cert.AssignReferenceIdeal.τ).loc Cert.AssignReferenceIdeal.main_arg2) = m' ((c.tc : Thread Cert.AssignReferenceIdeal.nD Cert.AssignReferenceIdeal.τ).loc Cert.AssignReferenceIdeal.main_arg2))

def Claim : Prop :=
  ∃ (hKernel : Cert.Kernel.Facts) (hKernelIdeal : Cert.KernelIdeal.Facts) (hReferenceIdeal : Cert.ReferenceIdeal.Facts) (hCodebook : Cert.Codebook.Facts) (hCodebookIdeal : Cert.CodebookIdeal.Facts) (hCodebookReferenceIdeal : Cert.CodebookReferenceIdeal.Facts) (hAssign : Cert.Assign.Facts) (hAssignIdeal : Cert.AssignIdeal.Facts) (hAssignReferenceIdeal : Cert.AssignReferenceIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Codebook (hCodebook := hCodebook)
    ∧ quiescent_CodebookIdeal (hCodebookIdeal := hCodebookIdeal)
    ∧ quiescent_CodebookReferenceIdeal (hCodebookReferenceIdeal := hCodebookReferenceIdeal)
    ∧ quiescent_Assign (hAssign := hAssign)
    ∧ quiescent_AssignIdeal (hAssignIdeal := hAssignIdeal)
    ∧ quiescent_AssignReferenceIdeal (hAssignReferenceIdeal := hAssignReferenceIdeal)
    ∧ preserves_Kernel_KernelIdeal
    ∧ algebraic_KernelIdeal_ReferenceIdeal (hKernelIdeal := hKernelIdeal) (hReferenceIdeal := hReferenceIdeal) (hPre_idx_in_rows := hPre_idx_in_rows)
    ∧ preserves_Codebook_CodebookIdeal
    ∧ algebraic_CodebookIdeal_CodebookReferenceIdeal (hCodebookIdeal := hCodebookIdeal) (hCodebookReferenceIdeal := hCodebookReferenceIdeal)
    ∧ preserves_Assign_AssignIdeal
    ∧ algebraic_AssignIdeal_AssignReferenceIdeal (hAssignIdeal := hAssignIdeal) (hAssignReferenceIdeal := hAssignReferenceIdeal)
-- ==== Pre_idx_in_rows.lean ====
abbrev S10240x512 : Shape := ⟨2, ![10240, 512]⟩
abbrev S8192x512 : Shape := ⟨2, ![8192, 512]⟩
abbrev S1024x10 : Shape := ⟨2, ![1024, 10]⟩
abbrev S_ : Shape := ⟨0, ![]⟩

class Facts : Prop where
  bcast_S_S1024x10 : S_.BroadcastsInDim S1024x10 (![] : Fin 0 → Fin S1024x10.rank)
  reducesTo_S1024x10_S_d0_1 : S1024x10.ReducesTo [0, 1] S_
  h_S_ : 0 < S_.numel

variable [Facts]

def fn {F : FTy → Type} [FloatOps F] (main_arg0 : FVec F S10240x512 .f32) (main_arg1 : FVec F S8192x512 .f32) (main_arg2 : IVec S1024x10 32) : IVec S_ 1 :=
  let main_c : IVec S_ 32 := constantI S_ 32 0#32
  let main_v0 : IVec S1024x10 32 := broadcastInDim S1024x10 ![] bcast_S_S1024x10 main_c
  let main_v1 : IVec S1024x10 1 := cmpi .sge main_arg2 main_v0
  let main_c_0 : IVec S_ 32 := constantI S_ 32 8192#32
  let main_v2 : IVec S1024x10 32 := broadcastInDim S1024x10 ![] bcast_S_S1024x10 main_c_0
  let main_v3 : IVec S1024x10 1 := cmpi .slt main_arg2 main_v2
  let main_v4 : IVec S1024x10 1 := andi main_v1 main_v3
  let main_c_1 : IVec S_ 1 := constantI S_ 1 1#1
  let main_v5 : IVec S_ 1 := (fun x v => Host.reduce IntOp.andi x v reducesTo_S1024x10_S_d0_1 h_S_) main_v4 main_c_1
  main_v5
-- ==== Kernel.lean ====
abbrev S10240x512 : Shape := ⟨2, ![10240, 512]⟩
abbrev S8192x512 : Shape := ⟨2, ![8192, 512]⟩
abbrev S1024x10 : Shape := ⟨2, ![1024, 10]⟩
abbrev S128x80 : Shape := ⟨2, ![128, 80]⟩
abbrev S32x16 : Shape := ⟨2, ![32, 16]⟩
abbrev S80 : Shape := ⟨1, ![80]⟩
abbrev S80x512 : Shape := ⟨2, ![80, 512]⟩
abbrev S16 : Shape := ⟨1, ![16]⟩
abbrev S_ : Shape := ⟨0, ![]⟩
abbrev S1x80 : Shape := ⟨2, ![1, 80]⟩
abbrev S80x128 : Shape := ⟨2, ![80, 128]⟩
abbrev S8192x128 : Shape := ⟨2, ![8192, 128]⟩
abbrev S1x16 : Shape := ⟨2, ![1, 16]⟩

abbrev nBuf : Table → Nat
  | .hbm => 13
  | .local .scVector .vmem => 4
  | _ => 0

abbrev bufTy : (tb : Table) → Fin (nBuf tb) → BufTy
  | .hbm, ⟨0, _⟩ => ⟨S10240x512, .f32⟩
  | .hbm, ⟨1, _⟩ => ⟨S8192x512, .f32⟩
  | .hbm, ⟨2, _⟩ => ⟨S1024x10, .i32⟩
  | .hbm, ⟨3, _⟩ => ⟨S128x80, .i32⟩
  | .hbm, ⟨4, _⟩ => ⟨S10240x512, .f32⟩
  | .hbm, ⟨5, _⟩ => ⟨S32x16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local .scVector .vmem, ⟨0, _⟩ => ⟨S80, .i32⟩
  | .local .scVector .vmem, ⟨1, _⟩ => ⟨S80x512, .f32⟩
  | .local .scVector .vmem, ⟨2, _⟩ => ⟨S80x512, .f32⟩
  | .local .scVector .vmem, ⟨3, _⟩ => ⟨S16, .f32⟩
  | _, _ => ⟨S10240x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_arg1_scv : Ref sig .scVector := ⟨.hbm, 1, rfl⟩
abbrev main_v0_scv : Ref sig .scVector := ⟨.hbm, 3, rfl⟩
abbrev main_arg0_scv : Ref sig .scVector := ⟨.hbm, 0, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32
  let c0_i32_149_r0 : BitVec 32 := 0#32
  ![v4.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32
  let c80_i32 : BitVec 32 := 80#32
  let v5 : BitVec 32 := Scalar.muli v4 c80_i32
  let c0_i32_149_r1 : BitVec 32 := 0#32
  ![v5.toNat, 0]
@[reducible] def k0_t1_loop : Scf.Loop 32 :=
  let c0_i32_29 : BitVec 32 := 0#32
  let c80_i32_30 : BitVec 32 := 80#32
  let v22 : BitVec 32 := Scalar.addi c0_i32_29 c80_i32_30
  let c1_i32 : BitVec 32 := 1#32
  ⟨c0_i32_29, v22, c1_i32⟩
def k0_off3 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v99 : Index := Scalar.indexCast arg12
  let c0_149 : Index := 0#32
  ![v99.toNat, 0]
def k0_off4 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v113 : Index := Scalar.indexCast arg12
  let c16 : Index := 16#32
  ![v113.toNat, 16]
def k0_off5 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v127 : Index := Scalar.indexCast arg12
  let c32 : Index := 32#32
  ![v127.toNat, 32]
def k0_off6 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v141 : Index := Scalar.indexCast arg12
  let c48 : Index := 48#32
  ![v141.toNat, 48]
def k0_off7 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v155 : Index := Scalar.indexCast arg12
  let c64 : Index := 64#32
  ![v155.toNat, 64]
def k0_off8 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v169 : Index := Scalar.indexCast arg12
  let c80 : Index := 80#32
  ![v169.toNat, 80]
def k0_off9 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v183 : Index := Scalar.indexCast arg12
  let c96 : Index := 96#32
  ![v183.toNat, 96]
def k0_off10 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v197 : Index := Scalar.indexCast arg12
  let c112 : Index := 112#32
  ![v197.toNat, 112]
def k0_off11 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v211 : Index := Scalar.indexCast arg12
  let c128 : Index := 128#32
  ![v211.toNat, 128]
def k0_off12 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v225 : Index := Scalar.indexCast arg12
  let c144 : Index := 144#32
  ![v225.toNat, 144]
def k0_off13 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v239 : Index := Scalar.indexCast arg12
  let c160 : Index := 160#32
  ![v239.toNat, 160]
def k0_off14 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v253 : Index := Scalar.indexCast arg12
  let c176 : Index := 176#32
  ![v253.toNat, 176]
def k0_off15 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v267 : Index := Scalar.indexCast arg12
  let c192 : Index := 192#32
  ![v267.toNat, 192]
def k0_off16 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v281 : Index := Scalar.indexCast arg12
  let c208 : Index := 208#32
  ![v281.toNat, 208]
def k0_off17 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v295 : Index := Scalar.indexCast arg12
  let c224 : Index := 224#32
  ![v295.toNat, 224]
def k0_off18 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v309 : Index := Scalar.indexCast arg12
  let c240 : Index := 240#32
  ![v309.toNat, 240]
def k0_off19 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v323 : Index := Scalar.indexCast arg12
  let c256 : Index := 256#32
  ![v323.toNat, 256]
def k0_off20 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v337 : Index := Scalar.indexCast arg12
  let c272 : Index := 272#32
  ![v337.toNat, 272]
def k0_off21 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v351 : Index := Scalar.indexCast arg12
  let c288 : Index := 288#32
  ![v351.toNat, 288]
def k0_off22 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v365 : Index := Scalar.indexCast arg12
  let c304 : Index := 304#32
  ![v365.toNat, 304]
def k0_off23 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v379 : Index := Scalar.indexCast arg12
  let c320 : Index := 320#32
  ![v379.toNat, 320]
def k0_off24 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v393 : Index := Scalar.indexCast arg12
  let c336 : Index := 336#32
  ![v393.toNat, 336]
def k0_off25 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v407 : Index := Scalar.indexCast arg12
  let c352 : Index := 352#32
  ![v407.toNat, 352]
def k0_off26 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v421 : Index := Scalar.indexCast arg12
  let c368 : Index := 368#32
  ![v421.toNat, 368]
def k0_off27 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v435 : Index := Scalar.indexCast arg12
  let c384 : Index := 384#32
  ![v435.toNat, 384]
def k0_off28 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v449 : Index := Scalar.indexCast arg12
  let c400 : Index := 400#32
  ![v449.toNat, 400]
def k0_off29 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v463 : Index := Scalar.indexCast arg12
  let c416 : Index := 416#32
  ![v463.toNat, 416]
def k0_off30 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v477 : Index := Scalar.indexCast arg12
  let c432 : Index := 432#32
  ![v477.toNat, 432]
def k0_off31 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v491 : Index := Scalar.indexCast arg12
  let c448 : Index := 448#32
  ![v491.toNat, 448]
def k0_off32 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v505 : Index := Scalar.indexCast arg12
  let c464 : Index := 464#32
  ![v505.toNat, 464]
def k0_off33 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v519 : Index := Scalar.indexCast arg12
  let c480 : Index := 480#32
  ![v519.toNat, 480]
def k0_off34 (k0_t1 : Fin k0_t1_loop.trips) : Fin 2 → Nat :=
  let c0_i32_29 : BitVec 32 := 0#32
  let c1_i32 : BitVec 32 := 1#32
  let arg12 : BitVec 32 := Scf.iv c0_i32_29 c1_i32 k0_t1
  let v533 : Index := Scalar.indexCast arg12
  let c496 : Index := 496#32
  ![v533.toNat, 496]
@[reducible] def k0_t2_loop : Scf.Loop 32 :=
  let c0_i32_67 : BitVec 32 := 0#32
  let c80_i32_68 : BitVec 32 := 80#32
  let v43 : BitVec 32 := Scalar.addi c0_i32_67 c80_i32_68
  let c1_i32_69 : BitVec 32 := 1#32
  ⟨c0_i32_67, v43, c1_i32_69⟩
def k0_off35 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v99 : Index := Scalar.indexCast arg12
  let c0_149 : Index := 0#32
  ![v99.toNat, 0]
def k0_off36 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v113 : Index := Scalar.indexCast arg12
  let c16 : Index := 16#32
  ![v113.toNat, 16]
def k0_off37 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v127 : Index := Scalar.indexCast arg12
  let c32 : Index := 32#32
  ![v127.toNat, 32]
def k0_off38 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v141 : Index := Scalar.indexCast arg12
  let c48 : Index := 48#32
  ![v141.toNat, 48]
def k0_off39 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v155 : Index := Scalar.indexCast arg12
  let c64 : Index := 64#32
  ![v155.toNat, 64]
def k0_off40 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v169 : Index := Scalar.indexCast arg12
  let c80 : Index := 80#32
  ![v169.toNat, 80]
def k0_off41 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v183 : Index := Scalar.indexCast arg12
  let c96 : Index := 96#32
  ![v183.toNat, 96]
def k0_off42 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v197 : Index := Scalar.indexCast arg12
  let c112 : Index := 112#32
  ![v197.toNat, 112]
def k0_off43 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v211 : Index := Scalar.indexCast arg12
  let c128 : Index := 128#32
  ![v211.toNat, 128]
def k0_off44 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v225 : Index := Scalar.indexCast arg12
  let c144 : Index := 144#32
  ![v225.toNat, 144]
def k0_off45 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v239 : Index := Scalar.indexCast arg12
  let c160 : Index := 160#32
  ![v239.toNat, 160]
def k0_off46 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v253 : Index := Scalar.indexCast arg12
  let c176 : Index := 176#32
  ![v253.toNat, 176]
def k0_off47 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v267 : Index := Scalar.indexCast arg12
  let c192 : Index := 192#32
  ![v267.toNat, 192]
def k0_off48 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v281 : Index := Scalar.indexCast arg12
  let c208 : Index := 208#32
  ![v281.toNat, 208]
def k0_off49 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v295 : Index := Scalar.indexCast arg12
  let c224 : Index := 224#32
  ![v295.toNat, 224]
def k0_off50 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v309 : Index := Scalar.indexCast arg12
  let c240 : Index := 240#32
  ![v309.toNat, 240]
def k0_off51 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v323 : Index := Scalar.indexCast arg12
  let c256 : Index := 256#32
  ![v323.toNat, 256]
def k0_off52 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v337 : Index := Scalar.indexCast arg12
  let c272 : Index := 272#32
  ![v337.toNat, 272]
def k0_off53 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v351 : Index := Scalar.indexCast arg12
  let c288 : Index := 288#32
  ![v351.toNat, 288]
def k0_off54 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v365 : Index := Scalar.indexCast arg12
  let c304 : Index := 304#32
  ![v365.toNat, 304]
def k0_off55 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v379 : Index := Scalar.indexCast arg12
  let c320 : Index := 320#32
  ![v379.toNat, 320]
def k0_off56 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v393 : Index := Scalar.indexCast arg12
  let c336 : Index := 336#32
  ![v393.toNat, 336]
def k0_off57 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v407 : Index := Scalar.indexCast arg12
  let c352 : Index := 352#32
  ![v407.toNat, 352]
def k0_off58 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v421 : Index := Scalar.indexCast arg12
  let c368 : Index := 368#32
  ![v421.toNat, 368]
def k0_off59 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v435 : Index := Scalar.indexCast arg12
  let c384 : Index := 384#32
  ![v435.toNat, 384]
def k0_off60 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v449 : Index := Scalar.indexCast arg12
  let c400 : Index := 400#32
  ![v449.toNat, 400]
def k0_off61 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v463 : Index := Scalar.indexCast arg12
  let c416 : Index := 416#32
  ![v463.toNat, 416]
def k0_off62 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v477 : Index := Scalar.indexCast arg12
  let c432 : Index := 432#32
  ![v477.toNat, 432]
def k0_off63 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v491 : Index := Scalar.indexCast arg12
  let c448 : Index := 448#32
  ![v491.toNat, 448]
def k0_off64 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v505 : Index := Scalar.indexCast arg12
  let c464 : Index := 464#32
  ![v505.toNat, 464]
def k0_off65 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v519 : Index := Scalar.indexCast arg12
  let c480 : Index := 480#32
  ![v519.toNat, 480]
def k0_off66 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let v533 : Index := Scalar.indexCast arg12
  let c496 : Index := 496#32
  ![v533.toNat, 496]
@[reducible] def k0_t3_loop : Scf.Loop 32 :=
  let c0_i32_106 : BitVec 32 := 0#32
  let c80_i32_107 : BitVec 32 := 80#32
  let v64 : BitVec 32 := Scalar.addi c0_i32_106 c80_i32_107
  let c1_i32_108 : BitVec 32 := 1#32
  ⟨c0_i32_106, v64, c1_i32_108⟩
def k0_off67 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v99 : Index := Scalar.indexCast arg12
  let c0_149 : Index := 0#32
  ![v99.toNat, 0]
def k0_off68 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v113 : Index := Scalar.indexCast arg12
  let c16 : Index := 16#32
  ![v113.toNat, 16]
def k0_off69 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v127 : Index := Scalar.indexCast arg12
  let c32 : Index := 32#32
  ![v127.toNat, 32]
def k0_off70 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v141 : Index := Scalar.indexCast arg12
  let c48 : Index := 48#32
  ![v141.toNat, 48]
def k0_off71 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v155 : Index := Scalar.indexCast arg12
  let c64 : Index := 64#32
  ![v155.toNat, 64]
def k0_off72 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v169 : Index := Scalar.indexCast arg12
  let c80 : Index := 80#32
  ![v169.toNat, 80]
def k0_off73 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v183 : Index := Scalar.indexCast arg12
  let c96 : Index := 96#32
  ![v183.toNat, 96]
def k0_off74 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v197 : Index := Scalar.indexCast arg12
  let c112 : Index := 112#32
  ![v197.toNat, 112]
def k0_off75 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v211 : Index := Scalar.indexCast arg12
  let c128 : Index := 128#32
  ![v211.toNat, 128]
def k0_off76 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v225 : Index := Scalar.indexCast arg12
  let c144 : Index := 144#32
  ![v225.toNat, 144]
def k0_off77 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v239 : Index := Scalar.indexCast arg12
  let c160 : Index := 160#32
  ![v239.toNat, 160]
def k0_off78 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v253 : Index := Scalar.indexCast arg12
  let c176 : Index := 176#32
  ![v253.toNat, 176]
def k0_off79 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v267 : Index := Scalar.indexCast arg12
  let c192 : Index := 192#32
  ![v267.toNat, 192]
def k0_off80 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v281 : Index := Scalar.indexCast arg12
  let c208 : Index := 208#32
  ![v281.toNat, 208]
def k0_off81 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v295 : Index := Scalar.indexCast arg12
  let c224 : Index := 224#32
  ![v295.toNat, 224]
def k0_off82 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v309 : Index := Scalar.indexCast arg12
  let c240 : Index := 240#32
  ![v309.toNat, 240]
def k0_off83 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v323 : Index := Scalar.indexCast arg12
  let c256 : Index := 256#32
  ![v323.toNat, 256]
def k0_off84 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v337 : Index := Scalar.indexCast arg12
  let c272 : Index := 272#32
  ![v337.toNat, 272]
def k0_off85 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v351 : Index := Scalar.indexCast arg12
  let c288 : Index := 288#32
  ![v351.toNat, 288]
def k0_off86 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v365 : Index := Scalar.indexCast arg12
  let c304 : Index := 304#32
  ![v365.toNat, 304]
def k0_off87 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v379 : Index := Scalar.indexCast arg12
  let c320 : Index := 320#32
  ![v379.toNat, 320]
def k0_off88 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v393 : Index := Scalar.indexCast arg12
  let c336 : Index := 336#32
  ![v393.toNat, 336]
def k0_off89 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v407 : Index := Scalar.indexCast arg12
  let c352 : Index := 352#32
  ![v407.toNat, 352]
def k0_off90 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v421 : Index := Scalar.indexCast arg12
  let c368 : Index := 368#32
  ![v421.toNat, 368]
def k0_off91 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v435 : Index := Scalar.indexCast arg12
  let c384 : Index := 384#32
  ![v435.toNat, 384]
def k0_off92 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v449 : Index := Scalar.indexCast arg12
  let c400 : Index := 400#32
  ![v449.toNat, 400]
def k0_off93 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v463 : Index := Scalar.indexCast arg12
  let c416 : Index := 416#32
  ![v463.toNat, 416]
def k0_off94 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v477 : Index := Scalar.indexCast arg12
  let c432 : Index := 432#32
  ![v477.toNat, 432]
def k0_off95 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v491 : Index := Scalar.indexCast arg12
  let c448 : Index := 448#32
  ![v491.toNat, 448]
def k0_off96 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v505 : Index := Scalar.indexCast arg12
  let c464 : Index := 464#32
  ![v505.toNat, 464]
def k0_off97 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v519 : Index := Scalar.indexCast arg12
  let c480 : Index := 480#32
  ![v519.toNat, 480]
def k0_off98 (k0_t3 : Fin k0_t3_loop.trips) : Fin 2 → Nat :=
  let c0_i32_106 : BitVec 32 := 0#32
  let c1_i32_108 : BitVec 32 := 1#32
  let arg12 : BitVec 32 := Scf.iv c0_i32_106 c1_i32_108 k0_t3
  let v533 : Index := Scalar.indexCast arg12
  let c496 : Index := 496#32
  ![v533.toNat, 496]
@[reducible] def k0_t4_loop : Scf.Loop 32 :=
  let c0_i32_144 : BitVec 32 := 0#32
  let c80_i32_145 : BitVec 32 := 80#32
  let v85 : BitVec 32 := Scalar.addi c0_i32_144 c80_i32_145
  let c1_i32_146 : BitVec 32 := 1#32
  ⟨c0_i32_144, v85, c1_i32_146⟩
def k0_off99 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v99 : Index := Scalar.indexCast arg12
  let c0_149 : Index := 0#32
  ![v99.toNat, 0]
def k0_off100 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v113 : Index := Scalar.indexCast arg12
  let c16 : Index := 16#32
  ![v113.toNat, 16]
def k0_off101 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v127 : Index := Scalar.indexCast arg12
  let c32 : Index := 32#32
  ![v127.toNat, 32]
def k0_off102 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v141 : Index := Scalar.indexCast arg12
  let c48 : Index := 48#32
  ![v141.toNat, 48]
def k0_off103 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v155 : Index := Scalar.indexCast arg12
  let c64 : Index := 64#32
  ![v155.toNat, 64]
def k0_off104 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v169 : Index := Scalar.indexCast arg12
  let c80 : Index := 80#32
  ![v169.toNat, 80]
def k0_off105 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v183 : Index := Scalar.indexCast arg12
  let c96 : Index := 96#32
  ![v183.toNat, 96]
def k0_off106 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v197 : Index := Scalar.indexCast arg12
  let c112 : Index := 112#32
  ![v197.toNat, 112]
def k0_off107 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v211 : Index := Scalar.indexCast arg12
  let c128 : Index := 128#32
  ![v211.toNat, 128]
def k0_off108 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v225 : Index := Scalar.indexCast arg12
  let c144 : Index := 144#32
  ![v225.toNat, 144]
def k0_off109 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v239 : Index := Scalar.indexCast arg12
  let c160 : Index := 160#32
  ![v239.toNat, 160]
def k0_off110 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v253 : Index := Scalar.indexCast arg12
  let c176 : Index := 176#32
  ![v253.toNat, 176]
def k0_off111 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v267 : Index := Scalar.indexCast arg12
  let c192 : Index := 192#32
  ![v267.toNat, 192]
def k0_off112 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v281 : Index := Scalar.indexCast arg12
  let c208 : Index := 208#32
  ![v281.toNat, 208]
def k0_off113 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v295 : Index := Scalar.indexCast arg12
  let c224 : Index := 224#32
  ![v295.toNat, 224]
def k0_off114 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v309 : Index := Scalar.indexCast arg12
  let c240 : Index := 240#32
  ![v309.toNat, 240]
def k0_off115 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v323 : Index := Scalar.indexCast arg12
  let c256 : Index := 256#32
  ![v323.toNat, 256]
def k0_off116 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v337 : Index := Scalar.indexCast arg12
  let c272 : Index := 272#32
  ![v337.toNat, 272]
def k0_off117 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v351 : Index := Scalar.indexCast arg12
  let c288 : Index := 288#32
  ![v351.toNat, 288]
def k0_off118 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v365 : Index := Scalar.indexCast arg12
  let c304 : Index := 304#32
  ![v365.toNat, 304]
def k0_off119 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v379 : Index := Scalar.indexCast arg12
  let c320 : Index := 320#32
  ![v379.toNat, 320]
def k0_off120 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v393 : Index := Scalar.indexCast arg12
  let c336 : Index := 336#32
  ![v393.toNat, 336]
def k0_off121 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v407 : Index := Scalar.indexCast arg12
  let c352 : Index := 352#32
  ![v407.toNat, 352]
def k0_off122 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v421 : Index := Scalar.indexCast arg12
  let c368 : Index := 368#32
  ![v421.toNat, 368]
def k0_off123 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v435 : Index := Scalar.indexCast arg12
  let c384 : Index := 384#32
  ![v435.toNat, 384]
def k0_off124 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v449 : Index := Scalar.indexCast arg12
  let c400 : Index := 400#32
  ![v449.toNat, 400]
def k0_off125 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v463 : Index := Scalar.indexCast arg12
  let c416 : Index := 416#32
  ![v463.toNat, 416]
def k0_off126 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v477 : Index := Scalar.indexCast arg12
  let c432 : Index := 432#32
  ![v477.toNat, 432]
def k0_off127 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v491 : Index := Scalar.indexCast arg12
  let c448 : Index := 448#32
  ![v491.toNat, 448]
def k0_off128 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v505 : Index := Scalar.indexCast arg12
  let c464 : Index := 464#32
  ![v505.toNat, 464]
def k0_off129 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v519 : Index := Scalar.indexCast arg12
  let c480 : Index := 480#32
  ![v519.toNat, 480]
def k0_off130 (k0_t4 : Fin k0_t4_loop.trips) : Fin 2 → Nat :=
  let c0_i32_144 : BitVec 32 := 0#32
  let c1_i32_146 : BitVec 32 := 1#32
  let arg12 : BitVec 32 := Scf.iv c0_i32_144 c1_i32_146 k0_t4
  let v533 : Index := Scalar.indexCast arg12
  let c496 : Index := 496#32
  ![v533.toNat, 496]
def k0_off131 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_149_r12 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mean" => some ((5242880⁻¹ : ℝ) : EReal)
  | _ => none
-- ==== ReferenceIdeal.lean ====
abbrev S10240x512 : Shape := ⟨2, ![10240, 512]⟩
abbrev S8192x512 : Shape := ⟨2, ![8192, 512]⟩
abbrev S1024x10 : Shape := ⟨2, ![1024, 10]⟩
abbrev S10240 : Shape := ⟨1, ![10240]⟩
abbrev S_ : Shape := ⟨0, ![]⟩
abbrev S10240x1 : Shape := ⟨2, ![10240, 1]⟩

abbrev nBuf : Space → Nat
  | .hbm => 32
  | .vmem => 0
  | .smem => 0
  | _ => 0

abbrev bufTy : (tb : Table) → Fin (tcTables nBuf tb) → BufTy
  | .hbm, ⟨0, _⟩ => ⟨S10240x512, .f32⟩
  | .hbm, ⟨1, _⟩ => ⟨S8192x512, .f32⟩
  | .hbm, ⟨2, _⟩ => ⟨S1024x10, .i32⟩
  | .hbm, ⟨3, _⟩ => ⟨S10240, .i32⟩
  | .hbm, ⟨4, _⟩ => ⟨S_, .i32⟩
  | .hbm, ⟨5, _⟩ => ⟨S10240, .i32⟩
  | .hbm, ⟨6, _⟩ => ⟨S10240, .i1⟩
  | .hbm, ⟨7, _⟩ => ⟨S_, .i32⟩
  | .hbm, ⟨8, _⟩ => ⟨S10240, .i32⟩
  | .hbm, ⟨9, _⟩ => ⟨S10240, .i32⟩
  | .hbm, ⟨10, _⟩ => ⟨S10240, .i32⟩
  | .hbm, ⟨11, _⟩ => ⟨S10240x1, .i32⟩
  | .hbm, ⟨12, _⟩ => ⟨S10240x512, .f32⟩
  | .hbm, ⟨13, _⟩ => ⟨S10240x512, .f32⟩
  | .hbm, ⟨14, _⟩ => ⟨S10240x512, .f32⟩
  | .hbm, ⟨15, _⟩ => ⟨S10240x512, .f32⟩
  | .hbm, ⟨16, _⟩ => ⟨S10240x512, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S10240x512, .f32⟩
  | .hbm, ⟨22, _⟩ => ⟨S10240x512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S10240x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Codebook.lean ====
abbrev S8192x4096 : Shape := ⟨2, ![8192, 4096]⟩
abbrev S512x4096 : Shape := ⟨2, ![512, 4096]⟩
abbrev S512 : Shape := ⟨1, ![512]⟩
abbrev S1x512 : Shape := ⟨2, ![1, 512]⟩
abbrev S8192x512 : Shape := ⟨2, ![8192, 512]⟩
abbrev S8192x1 : Shape := ⟨2, ![8192, 1]⟩
abbrev S512x8192 : Shape := ⟨2, ![512, 8192]⟩
abbrev S512x512 : Shape := ⟨2, ![512, 512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S512, .f32⟩
  | .hbm, ⟨3, _⟩ => ⟨S1x512, .f32⟩
  | .hbm, ⟨4, _⟩ => ⟨S8192x512, .f32⟩
  | .hbm, ⟨5, _⟩ => ⟨S8192x1, .f32⟩
  | .hbm, ⟨6, _⟩ => ⟨S512x8192, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x1, .f32⟩
  | .local _ .vmem, ⟨7, _⟩ => ⟨S512x1, .f32⟩
  | .local _ .vmem, ⟨8, _⟩ => ⟨S512x512, .f32⟩
  | .local _ .vmem, ⟨9, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CodebookReferenceIdeal.lean ====
abbrev S8192x4096 : Shape := ⟨2, ![8192, 4096]⟩
abbrev S512x4096 : Shape := ⟨2, ![512, 4096]⟩
abbrev S512 : Shape := ⟨1, ![512]⟩
abbrev S4096x512 : Shape := ⟨2, ![4096, 512]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512x8192 : Shape := ⟨2, ![512, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S512, .f32⟩
  | .hbm, ⟨3, _⟩ => ⟨S4096x512, .f32⟩
  | .hbm, ⟨4, _⟩ => ⟨S8192x512, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S512x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Assign.lean ====
abbrev S10240x512 : Shape := ⟨2, ![10240, 512]⟩
abbrev S8192x1 : Shape := ⟨2, ![8192, 1]⟩
abbrev S512x8192 : Shape := ⟨2, ![512, 8192]⟩
abbrev S1x8192 : Shape := ⟨2, ![1, 8192]⟩
abbrev S1024x10x512 : Shape := ⟨3, ![1024, 10, 512]⟩
abbrev S10x1024x512 : Shape := ⟨3, ![10, 1024, 512]⟩
abbrev S_ : Shape := ⟨0, ![]⟩
abbrev S10240 : Shape := ⟨1, ![10240]⟩
abbrev S1024x10 : Shape := ⟨2, ![1024, 10]⟩
abbrev S10x1024 : Shape := ⟨2, ![10, 1024]⟩
abbrev S10x1024x1 : Shape := ⟨3, ![10, 1024, 1]⟩
abbrev S10x32x512 : Shape := ⟨3, ![10, 32, 512]⟩
abbrev S10x32x1 : Shape := ⟨3, ![10, 32, 1]⟩
abbrev S10x16x8192 : Shape := ⟨3, ![10, 16, 8192]⟩
abbrev S16x8192 : Shape := ⟨2, ![16, 8192]⟩
abbrev S1x16x8192 : Shape := ⟨3, ![1, 16, 8192]⟩
abbrev S16 : Shape := ⟨1, ![16]⟩
abbrev S16x1 : Shape := ⟨2, ![16, 1]⟩
abbrev S16x10 : Shape := ⟨2, ![16, 10]⟩
abbrev S10x16x512 : Shape := ⟨3, ![10, 16, 512]⟩
abbrev S10x16x1 : Shape := ⟨3, ![10, 16, 1]⟩
abbrev S160x512 : Shape := ⟨2, ![160, 512]⟩
abbrev S160x8192 : Shape := ⟨2, ![160, 8192]⟩
abbrev S1x1x8192 : Shape := ⟨3, ![1, 1, 8192]⟩

abbrev nBuf : Space → Nat
  | .hbm => 13
  | .vmem => 9
  | .smem => 0
  | _ => 0

abbrev bufTy : (tb : Table) → Fin (tcTables nBuf tb) → BufTy
  | .hbm, ⟨0, _⟩ => ⟨S10240x512, .f32⟩
  | .hbm, ⟨1, _⟩ => ⟨S8192x1, .f32⟩
  | .hbm, ⟨2, _⟩ => ⟨S512x8192, .f32⟩
  | .hbm, ⟨3, _⟩ => ⟨S1x8192, .f32⟩
  | .hbm, ⟨4, _⟩ => ⟨S1024x10x512, .f32⟩
  | .hbm, ⟨5, _⟩ => ⟨S10x1024x512, .f32⟩
  | .hbm, ⟨6, _⟩ => ⟨S10240x512, .f32⟩
  | .hbm, ⟨7, _⟩ => ⟨S_, .f32⟩
  | .hbm, ⟨8, _⟩ => ⟨S10240, .f32⟩
  | .hbm, ⟨9, _⟩ => ⟨S1024x10, .f32⟩
  | .hbm, ⟨10, _⟩ => ⟨S10x1024, .f32⟩
  | .hbm, ⟨11, _⟩ => ⟨S10x1024x1, .f32⟩
  | .hbm, ⟨12, _⟩ => ⟨S1024x10, .i32⟩
  | .local _ .vmem, ⟨0, _⟩ => ⟨S10x32x512, .f32⟩
  | .local _ .vmem, ⟨1, _⟩ => ⟨S10x32x512, .f32⟩
  | .local _ .vmem, ⟨2, _⟩ => ⟨S10x32x1, .f32⟩
  | .local _ .vmem, ⟨3, _⟩ => ⟨S10x32x1, .f32⟩
  | .local _ .vmem, ⟨4, _⟩ => ⟨S512x8192, .f32⟩
  | .local _ .vmem, ⟨5, _⟩ => ⟨S1x8192, .f32⟩
  | .local _ .vmem, ⟨6, _⟩ => ⟨S1024x10, .i32⟩
  | .local _ .vmem, ⟨7, _⟩ => ⟨S10x16x8192, .f32⟩
  | .local _ .vmem, ⟨8, _⟩ => ⟨S10x16x8192, .f32⟩
  | _, _ => ⟨S10240x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![33], ![false]⟩

def k0_off1 (i : grid0.Coords) : Fin 2 → Nat :=
  let c2_i32 : BitVec 32 := 2#32
  let arg0 : BitVec 32 := BitVec.ofNat 32 (i 0).val
  let v4 : BitVec 32 := Scalar.muli c2_i32 arg0
  let c1_i32 : BitVec 32 := 1#32
  let v5 : BitVec 32 := Scalar.subi v4 c1_i32
  let c0_i32 : BitVec 32 := 0#32
  let v6 : BitVec 32 := Scalar.maxsi v5 c0_i32
  let c16_i32 : BitVec 32 := 16#32
  let v7 : BitVec 32 := Scalar.muli v6 c16_i32
  let v171 : Index := Scalar.indexCast v7
  let c0_48 : Index := 0#32
  ![v171.toNat, 0]
def k0_off2 (i : grid0.Coords) : Fin 2 → Nat :=
  let c2_i32_5 : BitVec 32 := 2#32
  let arg0 : BitVec 32 := BitVec.ofNat 32 (i 0).val
  let v8 : BitVec 32 := Scalar.muli c2_i32_5 arg0
  let c62_i32 : BitVec 32 := 62#32
  let v9 : BitVec 32 := Scalar.minsi v8 c62_i32
  let c16_i32_6 : BitVec 32 := 16#32
  let v10 : BitVec 32 := Scalar.muli v9 c16_i32_6
  let v349 : Index := Scalar.indexCast v10
  let c0_101 : Index := 0#32
  ![v349.toNat, 0]
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x10 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AssignReferenceIdeal.lean ====
abbrev S10240x512 : Shape := ⟨2, ![10240, 512]⟩
abbrev S8192x1 : Shape := ⟨2, ![8192, 1]⟩
abbrev S512x8192 : Shape := ⟨2, ![512, 8192]⟩
abbrev S_ : Shape := ⟨0, ![]⟩
abbrev S10240 : Shape := ⟨1, ![10240]⟩
abbrev S10240x1 : Shape := ⟨2, ![10240, 1]⟩
abbrev S8192 : Shape := ⟨1, ![8192]⟩
abbrev S1x8192 : Shape := ⟨2, ![1, 8192]⟩
abbrev S10240x8192 : Shape := ⟨2, ![10240, 8192]⟩
abbrev S1024x10x8192 : Shape := ⟨3, ![1024, 10, 8192]⟩
abbrev S1024x1x8192 : Shape := ⟨3, ![1024, 1, 8192]⟩
abbrev S1024x8192 : Shape := ⟨2, ![1024, 8192]⟩
abbrev S1024 : Shape := ⟨1, ![1024]⟩
abbrev S1024x1x1 : Shape := ⟨3, ![1024, 1, 1]⟩
abbrev S1x1x8192 : Shape := ⟨3, ![1, 1, 8192]⟩
abbrev S1024x1 : Shape := ⟨2, ![1024, 1]⟩
abbrev S1024x10 : Shape := ⟨2, ![1024, 10]⟩

abbrev nBuf : Space → Nat
  | .hbm => 197
  | .vmem => 0
  | .smem => 0
  | _ => 0

abbrev hbmTy0_0 (i : Nat) : BufTy := match i % 128 with
  | 0 => ⟨S10240x512, .f32⟩
  | 1 => ⟨S8192x1, .f32⟩
  | 2 => ⟨S512x8192, .f32⟩
  | 3 => ⟨S10240x512, .f32⟩
  | 4 => ⟨S_, .f32⟩
  | 5 => ⟨S10240, .f32⟩
  | 6 => ⟨S10240x1, .f32⟩
  | 7 => ⟨S8192, .f32⟩
  | 8 => ⟨S1x8192, .f32⟩
  | 9 => ⟨S10240x8192, .f32⟩
  | 10 => ⟨S10240x8192, .f32⟩
  | 11 => ⟨S10240x8192, .f32⟩
  | 12 => ⟨S10240x8192, .f32⟩
  | 13 => ⟨S10240x8192, .f32⟩
  | 14 => ⟨S1024x10x8192, .f32⟩
  | 15 => ⟨S8192, .i32⟩
  | 16 => ⟨S1024x1x8192, .f32⟩
  | 17 => ⟨S1024x8192, .f32⟩
  | 18 => ⟨S1024x8192, .i32⟩
  | 19 => ⟨S_, .f32⟩
  | 20 => ⟨S_, .i32⟩
  | 21 => ⟨S1024, .f32⟩
  | 22 => ⟨S1024, .i32⟩
  | 23 => ⟨S1024x1x1, .i32⟩
  | 24 => ⟨S1x1x8192, .i32⟩
  | 25 => ⟨S1024x1x8192, .i32⟩
  | 26 => ⟨S1024x1x8192, .i32⟩
  | 27 => ⟨S1024x1x8192, .i1⟩
  | 28 => ⟨S_, .f32⟩
  | 29 => ⟨S_, .f32⟩
  | 30 => ⟨S1024x10x8192, .i1⟩
  | 31 => ⟨S1024x10x8192, .f32⟩
  | 32 => ⟨S1024x10x8192, .f32⟩
  | 33 => ⟨S1024x1, .i32⟩
  | 34 => ⟨S1024x1x8192, .f32⟩
  | 35 => ⟨S1024x8192, .f32⟩
  | 36 => ⟨S1024x8192, .i32⟩
  | 37 => ⟨S_, .f32⟩
  | 38 => ⟨S_, .i32⟩
  | 39 => ⟨S1024, .f32⟩
  | 40 => ⟨S1024, .i32⟩
  | 41 => ⟨S1024x1x1, .i32⟩
  | 42 => ⟨S1x1x8192, .i32⟩
  | 43 => ⟨S1024x1x8192, .i32⟩
  | 44 => ⟨S1024x1x8192, .i32⟩
  | 45 => ⟨S1024x1x8192, .i1⟩
  | 46 => ⟨S_, .f32⟩
  | 47 => ⟨S_, .f32⟩
  | 48 => ⟨S1024x10x8192, .i1⟩
  | 49 => ⟨S1024x10x8192, .f32⟩
  | 50 => ⟨S1024x10x8192, .f32⟩
  | 51 => ⟨S1024x1, .i32⟩
  | 52 => ⟨S1024x1x8192, .f32⟩
  | 53 => ⟨S1024x8192, .f32⟩
  | 54 => ⟨S1024x8192, .i32⟩
  | 55 => ⟨S_, .f32⟩
  | 56 => ⟨S_, .i32⟩
  | 57 => ⟨S1024, .f32⟩
  | 58 => ⟨S1024, .i32⟩
  | 59 => ⟨S1024x1x1, .i32⟩
  | 60 => ⟨S1x1x8192, .i32⟩
  | 61 => ⟨S1024x1x8192, .i32⟩
  | 62 => ⟨S1024x1x8192, .i32⟩
  | 63 => ⟨S1024x1x8192, .i1⟩
  | 64 => ⟨S_, .f32⟩
  | 65 => ⟨S_, .f32⟩
  | 66 => ⟨S1024x10x8192, .i1⟩
  | 67 => ⟨S1024x10x8192, .f32⟩
  | 68 => ⟨S1024x10x8192, .f32⟩
  | 69 => ⟨S1024x1, .i32⟩
  | 70 => ⟨S1024x1x8192, .f32⟩
  | 71 => ⟨S1024x8192, .f32⟩
  | 72 => ⟨S1024x8192, .i32⟩
  | 73 => ⟨S_, .f32⟩
  | 74 => ⟨S_, .i32⟩
  | 75 => ⟨S1024, .f32⟩
  | 76 => ⟨S1024, .i32⟩
  | 77 => ⟨S1024x1x1, .i32⟩
  | 78 => ⟨S1x1x8192, .i32⟩
  | 79 => ⟨S1024x1x8192, .i32⟩
  | 80 => ⟨S1024x1x8192, .i32⟩
  | 81 => ⟨S1024x1x8192, .i1⟩
  | 82 => ⟨S_, .f32⟩
  | 83 => ⟨S_, .f32⟩
  | 84 => ⟨S1024x10x8192, .i1⟩
  | 85 => ⟨S1024x10x8192, .f32⟩
  | 86 => ⟨S1024x10x8192, .f32⟩
  | 87 => ⟨S1024x1, .i32⟩
  | 88 => ⟨S1024x1x8192, .f32⟩
  | 89 => ⟨S1024x8192, .f32⟩
  | 90 => ⟨S1024x8192, .i32⟩
  | 91 => ⟨S_, .f32⟩
  | 92 => ⟨S_, .i32⟩
  | 93 => ⟨S1024, .f32⟩
  | 94 => ⟨S1024, .i32⟩
  | 95 => ⟨S1024x1x1, .i32⟩
  | 96 => ⟨S1x1x8192, .i32⟩
  | 97 => ⟨S1024x1x8192, .i32⟩
  | 98 => ⟨S1024x1x8192, .i32⟩
  | 99 => ⟨S1024x1x8192, .i1⟩
  | 100 => ⟨S_, .f32⟩
  | 101 => ⟨S_, .f32⟩
  | 102 => ⟨S1024x10x8192, .i1⟩
  | 103 => ⟨S1024x10x8192, .f32⟩
  | 104 => ⟨S1024x10x8192, .f32⟩
  | 105 => ⟨S1024x1, .i32⟩
  | 106 => ⟨S1024x1x8192, .f32⟩
  | 107 => ⟨S1024x8192, .f32⟩
  | 108 => ⟨S1024x8192, .i32⟩
  | 109 => ⟨S_, .f32⟩
  | 110 => ⟨S_, .i32⟩
  | 111 => ⟨S1024, .f32⟩
  | 112 => ⟨S1024, .i32⟩
  | 113 => ⟨S1024x1x1, .i32⟩
  | 114 => ⟨S1x1x8192, .i32⟩
  | 115 => ⟨S1024x1x8192, .i32⟩
  | 116 => ⟨S1024x1x8192, .i32⟩
  | 117 => ⟨S1024x1x8192, .i1⟩
  | 118 => ⟨S_, .f32⟩
  | 119 => ⟨S_, .f32⟩
  | 120 => ⟨S1024x10x8192, .i1⟩
  | 121 => ⟨S1024x10x8192, .f32⟩
  | 122 => ⟨S1024x10x8192, .f32⟩
  | 123 => ⟨S1024x1, .i32⟩
  | 124 => ⟨S1024x1x8192, .f32⟩
  | 125 => ⟨S1024x8192, .f32⟩
  | 126 => ⟨S1024x8192, .i32⟩
  | 127 => ⟨S_, .f32⟩
  | _ => ⟨S10240x512, .f32⟩

abbrev hbmTy0_1 (i : Nat) : BufTy := match i % 128 with
  | 0 => ⟨S_, .i32⟩
  | 1 => ⟨S1024, .f32⟩
  | 2 => ⟨S1024, .i32⟩
  | 3 => ⟨S1024x1x1, .i32⟩
  | 4 => ⟨S1x1x8192, .i32⟩
  | 5 => ⟨S1024x1x8192, .i32⟩
  | 6 => ⟨S1024x1x8192, .i32⟩
  | 7 => ⟨S1024x1x8192, .i1⟩
  | 8 => ⟨S_, .f32⟩
  | 9 => ⟨S_, .f32⟩
  | 10 => ⟨S1024x10x8192, .i1⟩
  | 11 => ⟨S1024x10x8192, .f32⟩
  | 12 => ⟨S1024x10x8192, .f32⟩
  | 13 => ⟨S1024x1, .i32⟩
  | 14 => ⟨S1024x1x8192, .f32⟩
  | 15 => ⟨S1024x8192, .f32⟩
  | 16 => ⟨S1024x8192, .i32⟩
  | 17 => ⟨S_, .f32⟩
  | 18 => ⟨S_, .i32⟩
  | 19 => ⟨S1024, .f32⟩
  | 20 => ⟨S1024, .i32⟩
  | 21 => ⟨S1024x1x1, .i32⟩
  | 22 => ⟨S1x1x8192, .i32⟩
  | 23 => ⟨S1024x1x8192, .i32⟩
  | 24 => ⟨S1024x1x8192, .i32⟩
  | 25 => ⟨S1024x1x8192, .i1⟩
  | 26 => ⟨S_, .f32⟩
  | 27 => ⟨S_, .f32⟩
  | 28 => ⟨S1024x10x8192, .i1⟩
  | 29 => ⟨S1024x10x8192, .f32⟩
  | 30 => ⟨S1024x10x8192, .f32⟩
  | 31 => ⟨S1024x1, .i32⟩
  | 32 => ⟨S1024x1x8192, .f32⟩
  | 33 => ⟨S1024x8192, .f32⟩
  | 34 => ⟨S1024x8192, .i32⟩
  | 35 => ⟨S_, .f32⟩
  | 36 => ⟨S_, .i32⟩
  | 37 => ⟨S1024, .f32⟩
  | 38 => ⟨S1024, .i32⟩
  | 39 => ⟨S1024x1x1, .i32⟩
  | 40 => ⟨S1x1x8192, .i32⟩
  | 41 => ⟨S1024x1x8192, .i32⟩
  | 42 => ⟨S1024x1x8192, .i32⟩
  | 43 => ⟨S1024x1x8192, .i1⟩
  | 44 => ⟨S_, .f32⟩
  | 45 => ⟨S_, .f32⟩
  | 46 => ⟨S1024x10x8192, .i1⟩
  | 47 => ⟨S1024x10x8192, .f32⟩
  | 48 => ⟨S1024x10x8192, .f32⟩
  | 49 => ⟨S1024x1, .i32⟩
  | 50 => ⟨S1024x1x8192, .f32⟩
  | 51 => ⟨S1024x8192, .f32⟩
  | 52 => ⟨S1024x8192, .i32⟩
  | 53 => ⟨S_, .f32⟩
  | 54 => ⟨S_, .i32⟩
  | 55 => ⟨S1024, .f32⟩
  | 56 => ⟨S1024, .i32⟩
  | 57 => ⟨S1024x1x1, .i32⟩
  | 58 => ⟨S1x1x8192, .i32⟩
  | 59 => ⟨S1024x1x8192, .i32⟩
  | 60 => ⟨S1024x1x8192, .i32⟩
  | 61 => ⟨S1024x1x8192, .i1⟩
  | 62 => ⟨S_, .f32⟩
  | 63 => ⟨S_, .f32⟩
  | 64 => ⟨S1024x10x8192, .i1⟩
  | 65 => ⟨S1024x10x8192, .f32⟩
  | 66 => ⟨S1024x10x8192, .f32⟩
  | 67 => ⟨S1024x1, .i32⟩
  | 68 => ⟨S1024x10, .i32⟩
  | _ => ⟨S10240x512, .f32⟩

abbrev hbmTy (i : Nat) : BufTy := match i / 128 with
  | 0 => hbmTy0_0 i
  | 1 => hbmTy0_1 i
  | _ => ⟨S10240x512, .f32⟩

abbrev bufTy : (tb : Table) → Fin (tcTables nBuf tb) → BufTy
  | .hbm, ⟨i, _⟩ => hbmTy i
  | _, _ => ⟨S10240x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call2_v0 : Ref sig .tc := ⟨.hbm, 36, rfl⟩
abbrev main_call2_cst : Ref sig .tc := ⟨.hbm, 37, rfl⟩
abbrev main_call2_c : Ref sig .tc := ⟨.hbm, 38, rfl⟩
abbrev main_call2_v1_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call4_v0 : Ref sig .tc := ⟨.hbm, 54, rfl⟩
abbrev main_call4_cst : Ref sig .tc := ⟨.hbm, 55, rfl⟩
abbrev main_call4_c : Ref sig .tc := ⟨.hbm, 56, rfl⟩
abbrev main_call4_v1_0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_2 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call6_v0 : Ref sig .tc := ⟨.hbm, 72, rfl⟩
abbrev main_call6_cst : Ref sig .tc := ⟨.hbm, 73, rfl⟩
abbrev main_call6_c : Ref sig .tc := ⟨.hbm, 74, rfl⟩
abbrev main_call6_v1_0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_3 : Ref sig .tc := ⟨.hbm, 82, rfl⟩
abbrev main_call7_v0 : Ref sig .tc := ⟨.hbm, 83, rfl⟩
abbrev main_call7_v1 : Ref sig .tc := ⟨.hbm, 84, rfl⟩
abbrev main_call7_v2 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_call8_v0 : Ref sig .tc := ⟨.hbm, 90, rfl⟩
abbrev main_call8_cst : Ref sig .tc := ⟨.hbm, 91, rfl⟩
abbrev main_call8_c : Ref sig .tc := ⟨.hbm, 92, rfl⟩
abbrev main_call8_v1_0 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_4 : Ref sig .tc := ⟨.hbm, 100, rfl⟩
abbrev main_call9_v0 : Ref sig .tc := ⟨.hbm, 101, rfl⟩
abbrev main_call9_v1 : Ref sig .tc := ⟨.hbm, 102, rfl⟩
abbrev main_call9_v2 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_call10_v0 : Ref sig .tc := ⟨.hbm, 108, rfl⟩
abbrev main_call10_cst : Ref sig .tc := ⟨.hbm, 109, rfl⟩
abbrev main_call10_c : Ref sig .tc := ⟨.hbm, 110, rfl⟩
abbrev main_call10_v1_0 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_5 : Ref sig .tc := ⟨.hbm, 118, rfl⟩
abbrev main_call11_v0 : Ref sig .tc := ⟨.hbm, 119, rfl⟩
abbrev main_call11_v1 : Ref sig .tc := ⟨.hbm, 120, rfl⟩
abbrev main_call11_v2 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_call12_v0 : Ref sig .tc := ⟨.hbm, 126, rfl⟩
abbrev main_call12_cst : Ref sig .tc := ⟨.hbm, 127, rfl⟩
abbrev main_call12_c : Ref sig .tc := ⟨.hbm, 128, rfl⟩
abbrev main_call12_v1_0 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_6 : Ref sig .tc := ⟨.hbm, 136, rfl⟩
abbrev main_call13_v0 : Ref sig .tc := ⟨.hbm, 137, rfl⟩
abbrev main_call13_v1 : Ref sig .tc := ⟨.hbm, 138, rfl⟩
abbrev main_call13_v2 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_call14_v0 : Ref sig .tc := ⟨.hbm, 144, rfl⟩
abbrev main_call14_cst : Ref sig .tc := ⟨.hbm, 145, rfl⟩
abbrev main_call14_c : Ref sig .tc := ⟨.hbm, 146, rfl⟩
abbrev main_call14_v1_0 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_7 : Ref sig .tc := ⟨.hbm, 154, rfl⟩
abbrev main_call15_v0 : Ref sig .tc := ⟨.hbm, 155, rfl⟩
abbrev main_call15_v1 : Ref sig .tc := ⟨.hbm, 156, rfl⟩
abbrev main_call15_v2 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_call16_v0 : Ref sig .tc := ⟨.hbm, 162, rfl⟩
abbrev main_call16_cst : Ref sig .tc := ⟨.hbm, 163, rfl⟩
abbrev main_call16_c : Ref sig .tc := ⟨.hbm, 164, rfl⟩
abbrev main_call16_v1_0 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_8 : Ref sig .tc := ⟨.hbm, 172, rfl⟩
abbrev main_call17_v0 : Ref sig .tc := ⟨.hbm, 173, rfl⟩
abbrev main_call17_v1 : Ref sig .tc := ⟨.hbm, 174, rfl⟩
abbrev main_call17_v2 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_call18_v0 : Ref sig .tc := ⟨.hbm, 180, rfl⟩
abbrev main_call18_cst : Ref sig .tc := ⟨.hbm, 181, rfl⟩
abbrev main_call18_c : Ref sig .tc := ⟨.hbm, 182, rfl⟩
abbrev main_call18_v1_0 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_cst_9 : Ref sig .tc := ⟨.hbm, 190, rfl⟩
abbrev main_call19_v0 : Ref sig .tc := ⟨.hbm, 191, rfl⟩
abbrev main_call19_v1 : Ref sig .tc := ⟨.hbm, 192, rfl⟩
abbrev main_call19_v2 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩

abbrev nD : Nat := 1
abbrev τ : Topo := Topo.v7x

variable {F : FTy → Type} [FloatOps F]
-- ==== Proof.Strip.lean ====
/-
  The kernel's text, regrouped. A row of a chunk is 32 strips of sixteen lanes, eight strips a group (one for each of the
  eight accumulators), four groups a row; the trips of all four row loops are this one row.
-/
module

public import proofs.«01_k».proof.Defs
public import proofs.«01_k».proof.Proof.Gen.KernelIdeal
public import proofs.«01_k».proof.Proof.Gen.KernelIdeal.Skeleton

@[expose] public section

set_option synthInstance.maxSize 4096

noncomputable section

namespace Cert.Proof.Sc

open Cert.KernelIdeal Cert.KernelIdeal.Gen
open Idealize.ShloMosaic Idealize.SL.Sem

variable {F : FTy → Type} [FloatOps F] [Named F]

/-- Where strip `c` of row `t` lies. -/
def sOff (t : Fin k0_t1_loop.trips) (c : Fin 32) : Fin 2 → Nat :=
  let r : BitVec 32 := Scf.iv (0#32 : BitVec 32) 1#32 t
  ![(Scalar.indexCast r : Index).toNat, 16 * c.val]

theorem trips_eq : k0_t1_loop.trips = 80 := by decide +kernel

theorem sOff_eq : ∀ (t : Fin k0_t1_loop.trips) (c : Fin 32), sOff t c = ![t.val, 16 * c.val] := by decide +kernel

theorem sOff_inb (t : Fin k0_t1_loop.trips) (c : Fin 32) : ∀ a, sOff t c a + S1x16.size a ≤ S80x512.size a := by
  rw [sOff_eq]; intro a
  have h1 : t.val < 80 := lt_of_lt_of_eq t.isLt trips_eq
  have h2 := c.isLt
  match a with
  | 0 => show t.val + 1 ≤ 80; omega
  | 1 => show 16 * c.val + 16 ≤ 512; omega

/-- The program of one SparseCore task. -/
abbrev PT (F : FTy → Type) [FloatOps F] [Named F] (i : grid0.Coords) (α : Type) : Type 1 :=
  Prog (TpuEff nD τ sig (Elt F) Λ₀ (.scVector ((i 0).castLE hcore0) ((i 1).castLE hsub0))) α

/-- The difference of a strip. -/
def dif (q z : Vec F S1x16 .f32) : FVec F S16 .f32 :=
  subf (shapeCast S16 q shapeCasts_S1x16_S16) (shapeCast S16 z shapeCasts_S1x16_S16)
/-- What a strip becomes. -/
def res (q z : Vec F S1x16 .f32) : FVec F S1x16 .f32 :=
  shapeCast S1x16 (addf (shapeCast S16 z shapeCasts_S1x16_S16) (dif q z)) shapeCasts_S16_S1x16
/-- An accumulator after a strip. -/
def acc (a : FVec F S16 .f32) (q z : Vec F S1x16 .f32) : FVec F S16 .f32 := addf a (mulf (dif q z) (dif q z))

/-- One strip. -/
def strip (i : grid0.Coords) (rV zV : Memref sig .scVector .vmem S80x512 .f32) (t : Fin k0_t1_loop.trips) (c : Fin 32) (a : FVec F S16 .f32) :
    PT F i (FVec F S16 .f32) := do
  let q : Vec F S1x16 .f32 ← Prog.lift (.load rV (Rect.unit (s := S80x512) (sOff t c) S1x16.size (sOff_inb t c)).toLoadRect (View.loadsAt_vmem h_S1x16))
  let z : Vec F S1x16 .f32 ← Prog.lift (.load zV (Rect.unit (s := S80x512) (sOff t c) S1x16.size (sOff_inb t c)).toLoadRect (View.loadsAt_vmem h_S1x16))
  let _ : Vec F S1x16 .f32 ← Prog.lift (.load rV (Rect.unit (s := S80x512) (sOff t c) S1x16.size (sOff_inb t c)).toLoadRect (View.loadsAt_vmem h_S1x16))
  Prog.lift (.store rV (Rect.unit (s := S80x512) (sOff t c) S1x16.size (sOff_inb t c)) (res q z) Finset.univ (View.stores_vmem_bits_univ h_S1x16 rfl) (.inl rfl))
  pure (acc a q z)

/-- The eight accumulators. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- Strip `8 g + j`. -/
def col (g : Fin 4) (j : Fin 8) : Fin 32 := ⟨8 * g.val + j.val, by omega⟩

/-- A group: eight strips, one for each accumulator. -/
def group (i : grid0.Coords) (rV zV : Memref sig .scVector .vmem S80x512 .f32) (t : Fin k0_t1_loop.trips) (g : Fin 4) (a : Acc F) : PT F i (Acc F) := do
  let b0 ← strip i rV zV t (col g 0) a.1
  let b1 ← strip i rV zV t (col g 1) a.2.1
  let b2 ← strip i rV zV t (col g 2) a.2.2.1
  let b3 ← strip i rV zV t (col g 3) a.2.2.2.1
  let b4 ← strip i rV zV t (col g 4) a.2.2.2.2.1
  let b5 ← strip i rV zV t (col g 5) a.2.2.2.2.2.1
  let b6 ← strip i rV zV t (col g 6) a.2.2.2.2.2.2.1
  let b7 ← strip i rV zV t (col g 7) a.2.2.2.2.2.2.2
  pure (b0, b1, b2, b3, b4, b5, b6, b7)

/-- A row: four groups. -/
def row (i : grid0.Coords) (rV zV : Memref sig .scVector .vmem S80x512 .f32) (t : Fin k0_t1_loop.trips) (a : Acc F) : PT F i (Acc F) := do
  let a ← group i rV zV t 0 a
  let a ← group i rV zV t 1 a
  let a ← group i rV zV t 2 a
  group i rV zV t 3 a

/-! ## A chunk -/

section Chunk

variable (i : grid0.Coords)
  (arg2 : Memref sig .scVector .hbm S8192x512 .f32) (harg2 : arg2.IsWhole) (arg3 : Memref sig .scVector .hbm S128x80 .i32) (harg3 : arg3.IsWhole)
  (arg4 : Memref sig .scVector .hbm S10240x512 .f32) (harg4 : arg4.IsWhole) (arg5 : Memref sig .scVector .hbm S10240x512 .f32) (harg5 : arg5.IsWhole)
  (arg6 : Memref sig .scVector .hbm S32x16 .f32) (harg6 : arg6.IsWhole)
  (arg7 : Memref sig .scVector .vmem S80 .i32) (harg7 : arg7.IsWhole) (arg8 : Memref sig .scVector .vmem S80x512 .f32) (harg8 : arg8.IsWhole)
  (arg9 : Memref sig .scVector .vmem S80x512 .f32) (harg9 : arg9.IsWhole) (arg10 : Memref sig .scVector .vmem S16 .f32) (harg10 : arg10.IsWhole)
  (arg11 : DmaSems sig S_)

/-- The list of chunk `k`: row `4 wid + k` of the indices. -/
abbrev listOf (k : Fin 4) : Memref sig .scVector .hbm S80 .i32 :=
  (arg3.slice (Rect.unit (s := S128x80) (k0_off1 i (BitVec.ofNat 32 k.val)) S1x80.size (k0_off1_inb i k)) (fun _ => rfl)).squeeze S80 squeezes_S1x80_S80
/-- The rows of chunk `k` of a 10240-row array. -/
abbrev rowsOf (M : Memref sig .scVector .hbm S10240x512 .f32) (k : Fin 4) : Memref sig .scVector .hbm S80x512 .f32 :=
  M.slice (Rect.unit (s := S10240x512) (k0_off2 i (BitVec.ofNat 32 k.val)) S80x512.size (k0_off2_inb i k)) (fun _ => rfl)

/-- The fetch of chunk `k`'s list. -/
def fetchList (k : Fin 4) (sA : DmaSems sig S_) : PT F i PUnit := do
  Prog.lift (.enqueueDma (listOf i arg3 k) (.here arg7) (.dma sA.sem) ((View.wordExact_bits rfl).reshape _ _) harg7.wordExact ⟨Or.inl rfl, trivial⟩)
  Prog.lift (.waitDma2 sA.sem (listOf i arg3 k) arg7 ((View.wordExact_bits rfl).reshape _ _) harg7.wordExact)

/-- The gather of one column strip, `off` its offset. -/
def gatherStrip (off : Fin 2 → Nat) (h1 : ∀ a, off a + S8192x128.size a ≤ S8192x512.size a) (h2 : ∀ a, off a + S80x128.size a ≤ S80x512.size a) : PT F i PUnit := do
  SparseCore.enqueueIndirectGather rfl (arg2.slice (Rect.unit (s := S8192x512) off S8192x128.size h1) (fun _ => rfl))
    (arg8.slice (Rect.unit (s := S80x512) off S80x128.size h2) (fun _ => rfl)) gathers_S8192x128_S80x128 arg7 rfl arg11.sem (View.wordExact_bits rfl) rfl (Or.inl rfl)
    (hr := show S8192x128.StreamRows 0 by decide)
  SparseCore.waitIndirectGather arg11.sem (arg2.slice (Rect.unit (s := S8192x512) off S8192x128.size h1) (fun _ => rfl))
    (arg8.slice (Rect.unit (s := S80x512) off S80x128.size h2) (fun _ => rfl)) (View.wordExact_bits rfl) (View.wordExact_bits rfl)

/-- Chunk `k`: the list, the four column strips of the gather, the rows of `z`, the row loop, the write-out. -/
def chunk (k : Fin 4) (sA sB sC : DmaSems sig S_) (a : Acc F) : PT F i (Acc F) := do
  fetchList i arg3 arg7 harg7 k sA
  gatherStrip i arg2 arg7 arg8 arg11 ![0, 0] inb_S8192x512_S8192x128_0_0 inb_S80x512_S80x128_0_0
  gatherStrip i arg2 arg7 arg8 arg11 ![0, 128] inb_S8192x512_S8192x128_0_128 inb_S80x512_S80x128_0_128
  gatherStrip i arg2 arg7 arg8 arg11 ![0, 256] inb_S8192x512_S8192x128_0_256 inb_S80x512_S80x128_0_256
  gatherStrip i arg2 arg7 arg8 arg11 ![0, 384] inb_S8192x512_S8192x128_0_384 inb_S80x512_S80x128_0_384
  Prog.lift (.enqueueDma (rowsOf i arg4 k) (.here arg9) (.dma sB.sem) (View.wordExact_bits rfl) harg9.wordExact ⟨Or.inl rfl, trivial⟩)
  Prog.lift (.waitDma2 sB.sem (rowsOf i arg4 k) arg9 (View.wordExact_bits rfl) harg9.wordExact)
  let b ← Scf.Loop.for k0_t1_loop k0_t1_ok a fun t a => row i arg8 arg9 t a
  Prog.lift (.enqueueDma arg8 (.here (rowsOf i arg5 k)) (.dma sC.sem) harg8.wordExact (View.wordExact_bits rfl) ⟨Or.inl rfl, trivial⟩)
  Prog.lift (.waitDma2 sC.sem arg8 (rowsOf i arg5 k) harg8.wordExact (View.wordExact_bits rfl))
  pure b

/-- The accumulators at the start. -/
def acc0 : Acc F := let v : FVec F S16 .f32 := broadcast S16 (Scalar.ofBits .f32 0x00000000#32)
  (v, v, v, v, v, v, v, v)

/-- The tile's partial sums: the accumulators added as a tree, scaled. -/
def total (a : Acc F) : FVec F S16 .f32 :=
  mulf (addf (addf (addf a.1 a.2.1) (addf a.2.2.1 a.2.2.2.1)) (addf (addf a.2.2.2.2.1 a.2.2.2.2.2.1) (addf a.2.2.2.2.2.2.1 a.2.2.2.2.2.2.2)))
    (broadcast S16 (Named.named κ "mean" 0x344CCCCD#32 : F .f32))

/-- Row `wid` of the partial sums. -/
abbrev lpOf : Memref sig .scVector .hbm S16 .f32 :=
  (arg6.slice (Rect.unit (s := S32x16) (k0_off131 i) S1x16.size (k0_off131_inb i)) (fun _ => rfl)).squeeze S16 squeezes_S1x16_S16

/-- The end of a task: the partial sums stored and copied out. -/
def finish (sD : DmaSems sig S_) (a : Acc F) : PT F i PUnit := do
  let _ : Vec F S16 .f32 ← Prog.lift (.load arg10 (Rect.unit (s := S16) ![0] S16.size inb_S16_S16_0).toLoadRect (View.loadsAt_vmem h_S16))
  Prog.lift (.store arg10 (Rect.unit (s := S16) ![0] S16.size inb_S16_S16_0) (shapeCast S16 (total a) shapeCasts_S16_S16) Finset.univ (View.stores_vmem_bits_univ h_S16 rfl) (.inl rfl))
  Prog.lift (.enqueueDma arg10 (.here (lpOf i arg6)) (.dma sD.sem) harg10.wordExact ((View.wordExact_bits rfl).reshape _ _) ⟨Or.inl rfl, trivial⟩)
  Prog.lift (.waitDma2 sD.sem arg10 (lpOf i arg6) harg10.wordExact ((View.wordExact_bits rfl).reshape _ _))

/-- A task: its four chunks, then the end. -/
def task (s0 s1 s2 s3 s4 s5 s6 s7 s8 s9 s10 s11 s12 : DmaSems sig S_) : PT F i PUnit := do
  let a ← chunk i arg2 arg3 arg4 arg5 arg7 harg7 arg8 harg8 arg9 harg9 arg11 0 s0 s1 s2 acc0
  let a ← chunk i arg2 arg3 arg4 arg5 arg7 harg7 arg8 harg8 arg9 harg9 arg11 1 s3 s4 s5 a
  let a ← chunk i arg2 arg3 arg4 arg5 arg7 harg7 arg8 harg8 arg9 harg9 arg11 2 s6 s7 s8 a
  let a ← chunk i arg2 arg3 arg4 arg5 arg7 harg7 arg8 harg8 arg9 harg9 arg11 3 s9 s10 s11 a
  finish i arg6 arg10 harg10 s12 a

/-! ## The printed text is the regrouped one -/

variable (s0 s1 s2 s3 s4 s5 s6 s7 s8 s9 s10 s11 s12 : DmaSems sig S_)

set_option maxRecDepth 100000 in
set_option maxHeartbeats 4000000 in
/-- The kernel's body is the task. -/
theorem body_eq : cc0_body (F := F) i arg2 harg2 arg3 harg3 arg4 harg4 arg5 harg5 arg6 harg6 arg7 harg7 arg8 harg8 arg9 harg9 arg10 harg10 arg11 s0 s1 s2 s3 s4 s5 s6 s7 s8 s9 s10 s11 s12
    = task i arg2 arg3 arg4 arg5 arg6 arg7 harg7 arg8 harg8 arg9 harg9 arg10 harg10 arg11 s0 s1 s2 s3 s4 s5 s6 s7 s8 s9 s10 s11 s12 := by
  have e1 (v1 : BitVec 32) (v2 : FVec F S16 .f32) : k0_t1_body (F := F) i arg2 harg2 arg3 harg3 arg4 harg4 arg5 harg5 arg6 harg6 arg7 harg7 arg8 harg8 arg9 harg9 arg10 harg10 arg11 s0 s1 s2 s3 s4 s5 s6 s7 s8 s9 s10 s11 s12 v1 v2 = fun t a => row i arg8 arg9 t a := rfl
  have e2 (v1 : BitVec 32) (b0 b1 b2 b3 b4 b5 b6 b7 : FVec F S16 .f32) : k0_t2_body (F := F) i arg2 harg2 arg3 harg3 arg4 harg4 arg5 harg5 arg6 harg6 arg7 harg7 arg8 harg8 arg9 harg9 arg10 harg10 arg11 s0 s1 s2 s3 s4 s5 s6 s7 s8 s9 s10 s11 s12 v1 b0 b1 b2 b3 b4 b5 b6 b7 = fun t a => row i arg8 arg9 t a := rfl
  have e3 (v1 : BitVec 32) (b0 b1 b2 b3 b4 b5 b6 b7 : FVec F S16 .f32) : k0_t3_body (F := F) i arg2 harg2 arg3 harg3 arg4 harg4 arg5 harg5 arg6 harg6 arg7 harg7 arg8 harg8 arg9 harg9 arg10 harg10 arg11 s0 s1 s2 s3 s4 s5 s6 s7 s8 s9 s10 s11 s12 v1 b0 b1 b2 b3 b4 b5 b6 b7 0#32 = fun t a => row i arg8 arg9 t a := rfl
  have e4 (b0 b1 b2 b3 b4 b5 b6 b7 : FVec F S16 .f32) : k0_t4_body (F := F) i arg2 harg2 arg3 harg3 arg4 harg4 arg5 harg5 arg6 harg6 arg7 harg7 arg8 harg8 arg9 harg9 arg10 harg10 arg11 s0 s1 s2 s3 s4 s5 s6 s7 s8 s9 s10 s11 s12 b0 b1 b2 b3 b4 b5 b6 b7 = fun t a => row i arg8 arg9 t a := rfl
  rw [cc0_body_eq_skeleton]
  unfold cc0_body_skel
  rw [k0_part37_eq_skeleton, k0_part38_eq_skeleton, k0_part39_eq_skeleton, k0_part40_eq_skeleton, k0_part41_eq_skeleton, k0_part42_eq_skeleton, k0_part43_eq_skeleton]
  unfold k0_part37_skel k0_part38_skel k0_part39_skel k0_part40_skel k0_part41_skel k0_part42_skel k0_part43_skel task chunk finish
  simp only [e1, e2, e3, e4, bind_assoc, pure_bind]
  rfl

end Chunk

end Cert.Proof.Sc

end
-- ==== Proof.Row.lean ====
/-
  One strip, one group, one row: what they leave. A tile's row buffer holds the gathered rows of the codebook, each row
  replaced from left to right by the straight-through value; its `z` buffer holds the rows of `z`.
-/
module

public import proofs.«01_k».proof.Defs
public import proofs.«01_k».proof.Proof.Strip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.Writes
public import Idealize.ShloMosaic.Lib.Pipeline.Value

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

local notation "mV" => (Memref.whole Cert.KernelIdeal.main_arg1_scv : Memref Cert.KernelIdeal.sig Kind.scVector Space.hbm Cert.KernelIdeal.S8192x512 EltTy.f32)
local notation "iV" => (Memref.whole Cert.KernelIdeal.main_v0_scv : Memref Cert.KernelIdeal.sig Kind.scVector Space.hbm Cert.KernelIdeal.S128x80 EltTy.i32)
local notation "zV" => (Memref.whole Cert.KernelIdeal.main_arg0_scv : Memref Cert.KernelIdeal.sig Kind.scVector Space.hbm Cert.KernelIdeal.S10240x512 EltTy.f32)
local notation "oV" => (Memref.whole Cert.KernelIdeal.main_v1_0_scv : Memref Cert.KernelIdeal.sig Kind.scVector Space.hbm Cert.KernelIdeal.S10240x512 EltTy.f32)
local notation "lV" => (Memref.whole Cert.KernelIdeal.main_v1_1_scv : Memref Cert.KernelIdeal.sig Kind.scVector Space.hbm Cert.KernelIdeal.S32x16 EltTy.f32)
local notation "bI" => (Memref.whole Cert.KernelIdeal.cc0_scratch0 : Memref Cert.KernelIdeal.sig Kind.scVector Space.vmem Cert.KernelIdeal.S80 EltTy.i32)
local notation "bR" => (Memref.whole Cert.KernelIdeal.cc0_scratch1 : Memref Cert.KernelIdeal.sig Kind.scVector Space.vmem Cert.KernelIdeal.S80x512 EltTy.f32)
local notation "bZ" => (Memref.whole Cert.KernelIdeal.cc0_scratch2 : Memref Cert.KernelIdeal.sig Kind.scVector Space.vmem Cert.KernelIdeal.S80x512 EltTy.f32)
local notation "bA" => (Memref.whole Cert.KernelIdeal.cc0_scratch3 : Memref Cert.KernelIdeal.sig Kind.scVector Space.vmem Cert.KernelIdeal.S16 EltTy.f32)

/-! ## Values -/

/-- The straight-through value. -/
def st (z q : F .f32) : F .f32 := FloatOps.addf z (FloatOps.subf q z)

/-- The row buffer after `n` strips: the first `n` replaced. -/
def mix (q z : S80x512.Idx → F .f32) (n : ℕ) : S80x512.Idx → F .f32 := fun x =>
  if 32 * (x 0).val + (x 1).val / 16 < n then st (z x) (q x) else q x

/-- Strip `c` of row `t`. -/
def sliceOf (f : S80x512.Idx → F .f32) (t : Fin k0_t1_loop.trips) (c : Fin 32) : Vec F S1x16 .f32 := fun x =>
  f ((Rect.unit (s := S80x512) (sOff t c) S1x16.size (sOff_inb t c)).emb x)

omit [Named F] in
theorem res_apply (q z : Vec F S1x16 .f32) (x : S1x16.Idx) : res q z x = st (z x) (q x) := by
  show st (shapeCast S1x16 (shapeCast S16 z shapeCasts_S1x16_S16) shapeCasts_S16_S1x16 x) (shapeCast S1x16 (shapeCast S16 q shapeCasts_S1x16_S16) shapeCasts_S16_S1x16 x) = _
  rw [shapeCast_shapeCast, shapeCast_shapeCast]

omit [FloatOps F] [Named F] in
theorem readAt_bR (f : S80x512.Idx → F .f32) (t : Fin k0_t1_loop.trips) (c : Fin 32) :
    View.readAt (Elt F) (bR).view (Rect.unit (s := S80x512) (sOff t c) S1x16.size (sOff_inb t c)).toLoadRect f = sliceOf f t c := rfl
omit [FloatOps F] [Named F] in
theorem readAt_bZ (f : S80x512.Idx → F .f32) (t : Fin k0_t1_loop.trips) (c : Fin 32) :
    View.readAt (Elt F) (bZ).view (Rect.unit (s := S80x512) (sOff t c) S1x16.size (sOff_inb t c)).toLoadRect f = sliceOf f t c := rfl

omit [FloatOps F] [Named F] in
theorem emb_strip (t : Fin k0_t1_loop.trips) (c : Fin 32) (x : S1x16.Idx) :
    ((Rect.unit (s := S80x512) (sOff t c) S1x16.size (sOff_inb t c)).emb x 0).val = t.val
      ∧ ((Rect.unit (s := S80x512) (sOff t c) S1x16.size (sOff_inb t c)).emb x 1).val = 16 * c.val + (x 1).val := by
  have h0 : (x 0).val = 0 := by have := (x 0).isLt; simp at this; omega
  constructor
  · show sOff t c 0 + 1 * (x 0).val = _
    rw [sOff_eq, h0]; rfl
  · show sOff t c 1 + 1 * (x 1).val = _
    rw [sOff_eq, one_mul]; rfl

omit [Named F] in
theorem slice_mix (q z : S80x512.Idx → F .f32) (t : Fin k0_t1_loop.trips) (c : Fin 32) : sliceOf (mix q z (32 * t.val + c.val)) t c = sliceOf q t c := by
  funext x
  obtain ⟨h0, h1⟩ := emb_strip t c x
  have h2 := (x 1).isLt
  unfold sliceOf mix
  refine if_neg ?_
  rw [h0, h1]
  have : (x 1).val < 16 := h2
  omega

omit [Named F] in
theorem mix_succ (q z : S80x512.Idx → F .f32) (t : Fin k0_t1_loop.trips) (c : Fin 32) :
    (bR).view.writes (Elt F) (mix q z (32 * t.val + c.val))
      [⟨Rect.unit (s := S80x512) (sOff t c) S1x16.size (sOff_inb t c), res (sliceOf q t c) (sliceOf z t c)⟩] = mix q z (32 * t.val + c.val + 1) := by
  funext y
  have hR (f : S80x512.Idx → F .f32) : (bR).view.read (Elt F) f y = f y := rfl
  refine (hR _).symm.trans ?_
  have hy : (y 1).val < 512 := (y 1).isLt
  have hc := c.isLt
  by_cases h : (y 0).val = t.val ∧ (y 1).val / 16 = c.val
  · rw [View.read_writes_cons_hit_of_coords (bR).view _ _ _ [] (fun a => match a with
      | 0 => ⟨0, Nat.one_pos⟩ | 1 => ⟨(y 1).val % 16, Nat.mod_lt _ (by decide)⟩ : S1x16.Idx) y ?_]
    · rw [res_apply]
      have e : (Rect.unit (s := S80x512) (sOff t c) S1x16.size (sOff_inb t c)).emb (fun a => match a with
          | 0 => ⟨0, Nat.one_pos⟩ | 1 => ⟨(y 1).val % 16, Nat.mod_lt _ (by decide)⟩ : S1x16.Idx) = y := by
        funext a; apply Fin.ext
        match a with
        | 0 => exact (emb_strip t c _).1.trans h.1.symm
        | 1 => refine (emb_strip t c _).2.trans ?_; show 16 * c.val + (y 1).val % 16 = _; omega
      unfold sliceOf mix
      rw [e, if_pos (by omega)]
    · intro a
      match a with
      | 0 => show _ = sOff t c 0 + 1 * 0; rw [sOff_eq]; exact h.1
      | 1 => show _ = sOff t c 1 + 1 * ((y 1).val % 16); rw [sOff_eq]; show (y 1).val = 16 * c.val + _; omega
  · have hm : mix q z (32 * t.val + c.val) y = mix q z (32 * t.val + c.val + 1) y := by
      unfold mix; congr 1; apply propext; omega
    by_cases h0 : (y 0).val = t.val
    · rw [View.read_writes_cons_miss_of_axis (bR).view _ _ [] y 1 (16 * c.val) 16 (by show sOff t c 1 = _; rw [sOff_eq]; rfl) rfl rfl (by omega)]
      exact hm
    · rw [View.read_writes_cons_miss_of_axis (bR).view _ _ [] y 0 t.val 1 (by show sOff t c 0 = _; rw [sOff_eq]; rfl) rfl rfl (by omega)]
      exact hm

/-- The eight accumulators after a group. -/
def accGroup (q z : S80x512.Idx → F .f32) (t : Fin k0_t1_loop.trips) (g : Fin 4) (a : Acc F) : Acc F :=
  (acc a.1 (sliceOf q t (col g 0)) (sliceOf z t (col g 0)), acc a.2.1 (sliceOf q t (col g 1)) (sliceOf z t (col g 1)),
    acc a.2.2.1 (sliceOf q t (col g 2)) (sliceOf z t (col g 2)), acc a.2.2.2.1 (sliceOf q t (col g 3)) (sliceOf z t (col g 3)),
    acc a.2.2.2.2.1 (sliceOf q t (col g 4)) (sliceOf z t (col g 4)), acc a.2.2.2.2.2.1 (sliceOf q t (col g 5)) (sliceOf z t (col g 5)),
    acc a.2.2.2.2.2.2.1 (sliceOf q t (col g 6)) (sliceOf z t (col g 6)), acc a.2.2.2.2.2.2.2 (sliceOf q t (col g 7)) (sliceOf z t (col g 7)))
/-- After a row. -/
def accRow (q z : S80x512.Idx → F .f32) (t : Fin k0_t1_loop.trips) (a : Acc F) : Acc F :=
  accGroup q z t 3 (accGroup q z t 2 (accGroup q z t 1 (accGroup q z t 0 a)))
/-- After the first `n` rows of a chunk. -/
def accRows (q z : S80x512.Idx → F .f32) (a : Acc F) : ℕ → Acc F
  | 0 => a
  | n + 1 => if h : n < k0_t1_loop.trips then accRow q z ⟨n, h⟩ (accRows q z a n) else accRows q z a n

section Tile

variable (d : Dev nD) (i : grid0.Coords)

/-- What a row's pieces hold: the row buffer at `n` strips, the `z` buffer. -/
abbrev rz (q z : S80x512.Idx → F .f32) (n : ℕ) : sProp 𝕄 :=
  iprop(((bR).view.loc (V d (cV i) (jV i)) ↦{fullShare} (mix q z n : S80x512.Idx → F .f32)) ∗ ((bZ).view.loc (V d (cV i) (jV i)) ↦{fullShare} (z : S80x512.Idx → F .f32)))

theorem strip_wp (t : Fin k0_t1_loop.trips) (c : Fin 32) (a : FVec F S16 .f32) (q z : S80x512.Idx → F .f32) (n : ℕ) (hn : n = 32 * t.val + c.val) :
    rz d i q z n
      ⊢ (wp frame (wpE (defs₀ (F := F)) 𝒱₀ (V d (cV i) (jV i)) none) Set.univ (strip i bR bZ t c a)
          fun b => iprop(⌜b = acc a (sliceOf q t c) (sliceOf z t c)⌝ ∗ rz d i q z (n + 1)) : sProp 𝕄) := by
  subst hn
  unfold strip
  iintro ⟨Hr, Hz⟩
  sl_exec
  sl_step
  have hq := (readAt_bR (mix q z (32 * t.val + c.val)) t c).trans (slice_mix q z t c)
  have hz := readAt_bZ z t c
  isplitr
  · ipureintro; exact congrArg₂ (acc a) hq hz
  isplitl [Hr]
  · iapply (Entails.of_eq (congrArg (fun f : S80x512.Idx → F .f32 => ((bR).view.loc (V d (cV i) (jV i)) ↦{fullShare} f : sProp 𝕄)) ((congrArg (fun w : FVec F S1x16 .f32 =>
      (bR).view.writes (Elt F) (mix q z (32 * t.val + c.val)) [⟨Rect.unit (s := S80x512) (sOff t c) S1x16.size (sOff_inb t c), w⟩])
        (congrArg₂ res hq hz)).trans (mix_succ q z t c))))
    iexact Hr
  · iexact Hz

theorem group_wp (t : Fin k0_t1_loop.trips) (g : Fin 4) (a : Acc F) (q z : S80x512.Idx → F .f32) (n : ℕ) (hn : n = 32 * t.val + 8 * g.val) :
    rz d i q z n
      ⊢ (wp frame (wpE (defs₀ (F := F)) 𝒱₀ (V d (cV i) (jV i)) none) Set.univ (group i bR bZ t g a)
          fun b => iprop(⌜b = accGroup q z t g a⌝ ∗ rz d i q z (n + 8)) : sProp 𝕄) := by
  have step {α : Type} (j : Fin 8) (b : FVec F S16 .f32) (k : FVec F S16 .f32 → PT F i α) (Q : α → sProp 𝕄)
      (h : rz d i q z (n + j.val + 1) ⊢ wp frame (wpE (defs₀ (F := F)) 𝒱₀ (V d (cV i) (jV i)) none) Set.univ (k (acc b (sliceOf q t (col g j)) (sliceOf z t (col g j)))) Q) :
      rz d i q z (n + j.val) ⊢ wp frame (wpE (defs₀ (F := F)) 𝒱₀ (V d (cV i) (jV i)) none) Set.univ (strip i bR bZ t (col g j) b >>= k) Q := by
    rw [wp_bind]
    refine (strip_wp d i t (col g j) b q z _ (by subst hn; show _ = _ + (8 * g.val + j.val); omega)).trans (wp_mono frame _ _ fun b' => ?_)
    iintro ⟨%hb, H⟩
    subst hb
    iapply h; iexact H
  unfold group
  refine step 0 _ _ _ (step 1 _ _ _ (step 2 _ _ _ (step 3 _ _ _ (step 4 _ _ _ (step 5 _ _ _ (step 6 _ _ _ (step 7 _ _ _ ?_)))))))
  iintro H
  sl_step
  isplitr
  · ipureintro; rfl
  · iexact H

theorem row_wp (t : Fin k0_t1_loop.trips) (a : Acc F) (q z : S80x512.Idx → F .f32) :
    rz d i q z (32 * t.val)
      ⊢ (wp frame (wpE (defs₀ (F := F)) 𝒱₀ (V d (cV i) (jV i)) none) Set.univ (row i bR bZ t a)
          fun b => iprop(⌜b = accRow q z t a⌝ ∗ rz d i q z (32 * (t.val + 1))) : sProp 𝕄) := by
  have step (g : Fin 4) (b : Acc F) (k : Acc F → PT F i (Acc F)) (Q : Acc F → sProp 𝕄)
      (h : rz d i q z (32 * t.val + 8 * (g.val + 1)) ⊢ wp frame (wpE (defs₀ (F := F)) 𝒱₀ (V d (cV i) (jV i)) none) Set.univ (k (accGroup q z t g b)) Q) :
      rz d i q z (32 * t.val + 8 * g.val) ⊢ wp frame (wpE (defs₀ (F := F)) 𝒱₀ (V d (cV i) (jV i)) none) Set.univ (group i bR bZ t g b >>= k) Q := by
    rw [wp_bind]
    refine (group_wp d i t g b q z _ rfl).trans (wp_mono frame _ _ fun b' => ?_)
    iintro ⟨%hb, H⟩
    subst hb
    iapply h; iexact H
  unfold row
  exact step 0 _ _ _ (step 1 _ _ _ (step 2 _ _ _ (group_wp d i t 3 _ q z _ rfl)))

/-- The row loop of a chunk. -/
theorem rows_wp (a : Acc F) (q z : S80x512.Idx → F .f32) {α : Type} (k : Acc F → PT F i α) (Q : α → sProp 𝕄) :
    iprop(rz d i q z 0 ∗ (rz d i q z (32 * k0_t1_loop.trips) -∗ wp frame (wpE (defs₀ (F := F)) 𝒱₀ (V d (cV i) (jV i)) none) Set.univ (k (accRows q z a k0_t1_loop.trips)) Q))
      ⊢ wp frame (wpE (defs₀ (F := F)) 𝒱₀ (V d (cV i) (jV i)) none) Set.univ (Scf.Loop.for k0_t1_loop k0_t1_ok a (fun t a => row i bR bZ t a) >>= k) Q := by
  have hbody (t : Fin k0_t1_loop.trips) (b : Acc F) : iprop(⌜b = accRows q z a t.val⌝ ∗ rz d i q z (32 * t.val))
      ⊢ wp frame (wpE (defs₀ (F := F)) 𝒱₀ (V d (cV i) (jV i)) none) Set.univ (row i bR bZ t b)
          (fun b => iprop(⌜b = accRows q z a (t.val + 1)⌝ ∗ rz d i q z (32 * (t.val + 1)))) := by
    iintro ⟨%hb, H⟩
    subst hb
    rw [show accRows q z a (t.val + 1) = accRow q z t (accRows q z a t.val) from dif_pos t.isLt]
    iapply (row_wp d i t (accRows q z a t.val) q z)
    iexact H
  iintro ⟨H, HK⟩
  ihave H' := (Scf.wp_for_bind frame (wpE (defs₀ (F := F)) 𝒱₀ (V d (cV i) (jV i)) none) Set.univ _ _ _ k0_t1_ok a (fun t a => row i bR bZ t a)
    (fun n b => iprop(⌜b = accRows q z a n⌝ ∗ rz d i q z (32 * n))) hbody (kk := k) (Q := Q)) $$ [H]
  · isplitr
    · ipureintro; rfl
    · iexact H
  · iapply H'
    iintro %b ⟨%hb, H⟩
    subst hb
    iapply HK
    iexact H

end Tile

end Cert.Proof.Sc

end
-- ==== Proof.Chunk.lean ====
/-
  One chunk: what a tile's eighty rows become.
-/
module

public import proofs.«01_k».proof.Defs
public import proofs.«01_k».proof.Proof.Strip
public import proofs.«01_k».proof.Proof.Row
public import Idealize.ShloMosaic.Lib.ValueIdxCore

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "mV" => (Memref.whole Cert.KernelIdeal.main_arg1_scv : Memref Cert.KernelIdeal.sig Kind.scVector Space.hbm Cert.KernelIdeal.S8192x512 EltTy.f32)
local notation "iV" => (Memref.whole Cert.KernelIdeal.main_v0_scv : Memref Cert.KernelIdeal.sig Kind.scVector Space.hbm Cert.KernelIdeal.S128x80 EltTy.i32)
local notation "zV" => (Memref.whole Cert.KernelIdeal.main_arg0_scv : Memref Cert.KernelIdeal.sig Kind.scVector Space.hbm Cert.KernelIdeal.S10240x512 EltTy.f32)
local notation "oV" => (Memref.whole Cert.KernelIdeal.main_v1_0_scv : Memref Cert.KernelIdeal.sig Kind.scVector Space.hbm Cert.KernelIdeal.S10240x512 EltTy.f32)
local notation "lV" => (Memref.whole Cert.KernelIdeal.main_v1_1_scv : Memref Cert.KernelIdeal.sig Kind.scVector Space.hbm Cert.KernelIdeal.S32x16 EltTy.f32)
local notation "bI" => (Memref.whole Cert.KernelIdeal.cc0_scratch0 : Memref Cert.KernelIdeal.sig Kind.scVector Space.vmem Cert.KernelIdeal.S80 EltTy.i32)
local notation "bR" => (Memref.whole Cert.KernelIdeal.cc0_scratch1 : Memref Cert.KernelIdeal.sig Kind.scVector Space.vmem Cert.KernelIdeal.S80x512 EltTy.f32)
local notation "bZ" => (Memref.whole Cert.KernelIdeal.cc0_scratch2 : Memref Cert.KernelIdeal.sig Kind.scVector Space.vmem Cert.KernelIdeal.S80x512 EltTy.f32)
local notation "bA" => (Memref.whole Cert.KernelIdeal.cc0_scratch3 : Memref Cert.KernelIdeal.sig Kind.scVector Space.vmem Cert.KernelIdeal.S16 EltTy.f32)

/-! ## Values -/

/-- Chunk `k` of the tile at `i`, of the 128. -/
def chunkIx (i : grid0.Coords) (k : Fin 4) : Fin 128 :=
  ⟨8 * (i 1).val + 4 * (i 0).val + k.val, by
    have h0 : (i 0).val < 2 := (i 0).isLt
    have h1 : (i 1).val < 16 := (i 1).isLt
    omega⟩

/-- The rows of chunk `n` of `z`. -/
def zOf (zv : S10240x512.Idx → F .f32) (n : Fin 128) : S80x512.Idx → F .f32 := fun x =>
  zv (ValueIdx.ix2 (⟨80 * n.val + (x 0).val, by have h : (x 0).val < 80 := (x 0).isLt; omega⟩ : Fin 10240) (x 1 : Fin 512))
/-- The row of the codebook that entry `(n, j)` of the indices names. -/
def rowAt (iv : S128x80.Idx → BitVec 32) (n : Fin 128) (j : Fin 80) : Fin 8192 :=
  ⟨(iv (ValueIdx.ix2 n j)).toNat % 8192, Nat.mod_lt _ (by decide)⟩
/-- The gathered rows of chunk `n`. -/
def qOf (mv : S8192x512.Idx → F .f32) (iv : S128x80.Idx → BitVec 32) (n : Fin 128) : S80x512.Idx → F .f32 := fun x =>
  mv (ValueIdx.ix2 (rowAt iv n (x 0 : Fin 80)) (x 1 : Fin 512))

/-- The indices name rows. -/
def InRows (iv : S128x80.Idx → BitVec 32) : Prop := ∀ j, (iv j).toNat < 8192

/-- The list of chunk `n`. -/
def iOf (iv : S128x80.Idx → BitVec 32) (n : Fin 128) : S80.Idx → BitVec 32 := fun x => iv (ValueIdx.ix2 n (x 0 : Fin 80))

omit [FloatOps F] [Named F] in
theorem read_listOf (i : grid0.Coords) (iv : S128x80.Idx → BitVec 32) (k : Fin 4) :
    (listOf i iV k).view.read (Elt F) iv = iOf iv (chunkIx i k) := by
  funext x
  show iv ((Rect.unit (s := S128x80) (k0_off1 i (BitVec.ofNat 32 k.val)) S1x80.size (k0_off1_inb i k)).emb (Shape.reshapeEquiv squeezes_S1x80_S80.numel_eq x)) = _
  rw [Shape.reshapeEquiv_cons_one]
  unfold iOf
  refine congrArg iv (funext fun a => Fin.ext ?_)
  match a with
  | 0 =>
    show k0_off1 i (BitVec.ofNat 32 k.val) 0 + 1 * 0 = _
    rw [k0_off1_eq]; rfl
  | 1 =>
    show k0_off1 i (BitVec.ofNat 32 k.val) 1 + 1 * (x 0).val = (x 0).val
    rw [k0_off1_eq]; show 0 + _ = _; omega

omit [FloatOps F] [Named F] in
theorem read_rowsOf (i : grid0.Coords) (zv : S10240x512.Idx → F .f32) (k : Fin 4) :
    (rowsOf i zV k).view.read (Elt F) zv = zOf zv (chunkIx i k) := by
  funext x
  show zv ((Rect.unit (s := S10240x512) (k0_off2 i (BitVec.ofNat 32 k.val)) S80x512.size (k0_off2_inb i k)).emb x) = _
  unfold zOf
  refine congrArg zv (funext fun a => Fin.ext ?_)
  match a with
  | 0 =>
    show k0_off2 i (BitVec.ofNat 32 k.val) 0 + 1 * (x 0).val = 80 * (8 * (i 1).val + 4 * (i 0).val + k.val) + (x 0).val
    rw [k0_off2_eq]; show 640 * (i 1).val + 320 * (i 0).val + 80 * k.val + _ = _; omega
  | 1 =>
    show k0_off2 i (BitVec.ofNat 32 k.val) 1 + 1 * (x 1).val = (x 1).val
    rw [k0_off2_eq]; show 0 + _ = _; omega

section Tile

variable (d : Dev nD) (i : grid0.Coords)

local notation "thr" => V d (cV i) (jV i)

set_option maxHeartbeats 4000000 in
theorem fetch_wp (iv : S128x80.Idx → BitVec 32) (k : Fin 4) (qi : PosShare TreeShare) (sA : DmaSems sig S_) (fi : S80.Idx → BitVec 32)
    (O : CellTallies nD τ sig (HIx 1)) (W : Waits sig (HIx 1)) :
    iprop(Transfers.MayWaits thr (default : HIx 1) O ∗ ((iV).view.loc thr ↦{qi} iv) ∗ ((bI).view.loc thr ↦{fullShare} fi)
        ∗ semVal ((thr, .dma sA.sem) : GSem nD τ sig) 0 ∗ owes thr O W)
      ⊢ (wp frame (wpE (defs₀ (F := F)) 𝒱₀ thr none) Set.univ (fetchList i iV bI (Memref.isWhole_whole _) k sA)
          fun _ => iprop(((iV).view.loc thr ↦{qi} iv) ∗ ((bI).view.loc thr ↦{fullShare} iOf iv (chunkIx i k))
            ∗ semVal ((thr, .dma sA.sem) : GSem nD τ sig) 0 ∗ owes thr O (insert (SemLoc.dma sA.sem, default) W)) : sProp 𝕄) := by
  unfold fetchList
  iintro ⟨#Hmw, Hi, HbI, HsA, HO⟩
  sl_exec
  sl_step
  have e : View.write (Elt F) (bI).view fi (fetch_wp.sl.dma0 i iv k) Finset.univ = iOf iv (chunkIx i k) :=
    (View.write_whole_univ _ _ _).trans (read_listOf (F := F) i iv k)
  isplitl [Hi]; · iexact Hi
  isplitl [HbI]
  · iapply (Entails.of_eq (congrArg (fun f : S80.Idx → BitVec 32 => ((bI).view.loc thr ↦{fullShare} f : sProp 𝕄)) e))
    iexact HbI
  isplitl [HsA]; · iexact HsA
  iexact HO

/-- The row buffer after `n` column strips of the gather. -/
def gat (q fr : S80x512.Idx → F .f32) (n : ℕ) : S80x512.Idx → F .f32 := fun x => if (x 1).val < 128 * n then q x else fr x

omit [FloatOps F] [Named F] in
theorem gat_succ (mv : S8192x512.Idx → F .f32) (li : S80.Idx → BitVec 32) (s : Fin 4) (q fr : S80x512.Idx → F .f32)
    (off : Fin 2 → Nat) (h1 : ∀ a, off a + S8192x128.size a ≤ S8192x512.size a) (h2 : ∀ a, off a + S80x128.size a ≤ S80x512.size a)
    (hoff : off = ![0, 128 * s.val])
    (hin : ∀ x, ((bI).view.read (Elt F) li x).toNat < S8192x128.size gathers_S8192x128_S80x128.axis)
    (hq : ∀ x, q x = mv (ValueIdx.ix2 (⟨(li (ValueIdx.ix1 (x 0 : Fin 80))).toNat, hin _⟩ : Fin 8192) (x 1 : Fin 512))) :
    View.write (Elt F) ((bR).slice (Rect.unit (s := S80x512) off S80x128.size h2) (fun _ => rfl)).view (gat q fr s.val)
      (SparseCore.gatherPayload gathers_S8192x128_S80x128 (((mV).slice (Rect.unit (s := S8192x512) off S8192x128.size h1) (fun _ => rfl)).view.read (Elt F) mv)
        (SparseCore.rows ((bI).view.read (Elt F) li) rfl hin)) Finset.univ = gat q fr (s.val + 1) := by
  funext y
  have hR (f : S80x512.Idx → F .f32) : (bR).view.read (Elt F) f y = f y := rfl
  refine (hR _).symm.trans ?_
  show (bR).view.read (Elt F) ((bR).view.writes (Elt F) (gat q fr s.val) [⟨Rect.unit (s := S80x512) off S80x128.size h2, _⟩]) y = _
  have hy1 : (y 1).val < 512 := (y 1).isLt
  have hy0 : (y 0).val < 80 := (y 0).isLt
  subst hoff
  by_cases h : 128 * s.val ≤ (y 1).val ∧ (y 1).val < 128 * s.val + 128
  · rw [View.read_writes_cons_hit_of_coords (bR).view _ _ _ [] (ValueIdx.ix2 (⟨(y 0).val, hy0⟩ : Fin 80) (⟨(y 1).val - 128 * s.val, by omega⟩ : Fin 128)) y ?_]
    · unfold gat
      rw [if_pos (by omega), hq]
      show mv _ = mv _
      refine congrArg mv (funext fun a => Fin.ext ?_)
      match a with
      | 0 =>
        show 0 + 1 * (gathers_S8192x128_S80x128.idx _ _ gathers_S8192x128_S80x128.axis).val = (li _).toNat
        rw [Shape.Gathers.idx_axis]
        show 0 + 1 * (li (S80.rowMajor.symm _)).toNat = _
        rw [zero_add, one_mul]
        refine congrArg (fun x => (li x).toNat) ?_
        rw [Equiv.symm_apply_eq]
        apply Fin.ext
        rw [Shape.rowMajor_val_one]
        rfl
      | 1 =>
        show 128 * s.val + 1 * (gathers_S8192x128_S80x128.idx _ _ 1).val = (y 1).val
        rw [Shape.Gathers.idx_of_ne _ _ _ 1 (by decide)]
        show 128 * s.val + 1 * ((y 1).val - 128 * s.val) = (y 1).val
        omega
    · intro a
      match a with
      | 0 => show (y 0).val = 0 + 1 * (y 0).val; omega
      | 1 => show (y 1).val = 128 * s.val + 1 * ((y 1).val - 128 * s.val); omega
  · rw [View.read_writes_cons_miss_of_axis (bR).view _ _ [] y 1 (128 * s.val) 128 rfl rfl rfl (by omega)]
    show gat q fr s.val y = _
    unfold gat; congr 1; apply propext; omega

set_option maxHeartbeats 4000000 in
theorem gather_wp (mv : S8192x512.Idx → F .f32) (li : S80.Idx → BitVec 32) (hli : ∀ x, (li x).toNat < 8192) (s : Fin 4)
    (qm : PosShare TreeShare) (q fr : S80x512.Idx → F .f32) (off : Fin 2 → Nat) (h1 : ∀ a, off a + S8192x128.size a ≤ S8192x512.size a) (h2 : ∀ a, off a + S80x128.size a ≤ S80x512.size a)
    (hoff : off = ![0, 128 * s.val]) (hq : ∀ x, q x = mv (ValueIdx.ix2 (⟨(li (ValueIdx.ix1 (x 0 : Fin 80))).toNat, hli _⟩ : Fin 8192) (x 1 : Fin 512)))
    (O : CellTallies nD τ sig (HIx 1)) (W : Waits sig (HIx 1)) :
    iprop(Transfers.MayWaits thr (default : HIx 1) O ∗ ((mV).view.loc thr ↦{qm} mv) ∗ ((bI).view.loc thr ↦{fullShare} li)
        ∗ ((bR).view.loc thr ↦{fullShare} gat q fr s.val)
        ∗ semVal ((thr, .dma cc0_scratch4.sem) : GSem nD τ sig) 0 ∗ owes thr O W)
      ⊢ (wp frame (wpE (defs₀ (F := F)) 𝒱₀ thr none) Set.univ (gatherStrip i mV bI bR cc0_scratch4 off h1 h2)
          fun _ => iprop(((mV).view.loc thr ↦{qm} mv) ∗ ((bI).view.loc thr ↦{fullShare} li) ∗ ((bR).view.loc thr ↦{fullShare} gat q fr (s.val + 1))
            ∗ semVal ((thr, .dma cc0_scratch4.sem) : GSem nD τ sig) 0 ∗ owes thr O (insert (SemLoc.dma cc0_scratch4.sem, default) W)) : sProp 𝕄) := by
  unfold gatherStrip
  have hin : ∀ x, ((bI).view.read (Elt F) li x).toNat < S8192x128.size gathers_S8192x128_S80x128.axis := hli
  iintro ⟨#Hmw, Hm, HbI, HbR, HsG, HO⟩
  sl_exec
  sl_step
  isplitl [Hm]; · iexact Hm
  isplitl [HbI]; · iexact HbI
  isplitl [HbR]
  · iapply (Entails.of_eq (congrArg (fun f : S80x512.Idx → F .f32 => ((bR).view.loc thr ↦{fullShare} f : sProp 𝕄)) (gat_succ mv li s q fr off h1 h2 hoff hin hq)))
    iexact HbR
  isplitl [HsG]; · iexact HsG
  iexact HO

/-- Chunk `n` of the straight-through output. -/
def outv (zv : S10240x512.Idx → F .f32) (mv : S8192x512.Idx → F .f32) (iv : S128x80.Idx → BitVec 32) : S10240x512.Idx → F .f32 := fun y =>
  st (zv y) (mv (ValueIdx.ix2 (rowAt iv (⟨(y 0).val / 80, by have h : (y 0).val < 10240 := (y 0).isLt; omega⟩ : Fin 128) (⟨(y 0).val % 80, Nat.mod_lt _ (by decide)⟩ : Fin 80)) (y 1 : Fin 512)))

omit [FloatOps F] [Named F] in
theorem emb_rowsOf (M : Memref sig .scVector .hbm S10240x512 .f32) (k : Fin 4) (x : S80x512.Idx) :
    ((Rect.unit (s := S10240x512) (k0_off2 i (BitVec.ofNat 32 k.val)) S80x512.size (k0_off2_inb i k)).emb x)
      = ValueIdx.ix2 (⟨80 * (chunkIx i k).val + (x 0).val, by have h : (x 0).val < 80 := (x 0).isLt; have := (chunkIx i k).isLt; omega⟩ : Fin 10240) (x 1 : Fin 512) := by
  refine funext fun a => Fin.ext ?_
  match a with
  | 0 =>
    show k0_off2 i (BitVec.ofNat 32 k.val) 0 + 1 * (x 0).val = 80 * (8 * (i 1).val + 4 * (i 0).val + k.val) + (x 0).val
    rw [k0_off2_eq]; show 640 * (i 1).val + 320 * (i 0).val + 80 * k.val + _ = _; omega
  | 1 =>
    show k0_off2 i (BitVec.ofNat 32 k.val) 1 + 1 * (x 1).val = (x 1).val
    rw [k0_off2_eq]; show 0 + _ = _; omega

omit [Named F] in
theorem mix_full (q z : S80x512.Idx → F .f32) (x : S80x512.Idx) : mix q z (32 * k0_t1_loop.trips) x = st (z x) (q x) := by
  have h0 : (x 0).val < 80 := (x 0).isLt
  have h1 : (x 1).val < 512 := (x 1).isLt
  rw [trips_eq]
  exact if_pos (by omega)

omit [Named F] in
theorem outv_chunk (zv : S10240x512.Idx → F .f32) (mv : S8192x512.Idx → F .f32) (iv : S128x80.Idx → BitVec 32) (n : Fin 128) (x : S80x512.Idx)
    (h : 80 * n.val + (x 0).val < 10240) :
    outv zv mv iv (ValueIdx.ix2 (⟨80 * n.val + (x 0).val, h⟩ : Fin 10240) (x 1 : Fin 512)) = st (zOf zv n x) (qOf mv iv n x) := by
  have h0 : (x 0).val < 80 := (x 0).isLt
  have e0 (h') : (⟨(80 * n.val + (x 0).val) / 80, h'⟩ : Fin 128) = n := Fin.ext (by show (80 * n.val + (x 0).val) / 80 = n.val; omega)
  have e1 (h') : (⟨(80 * n.val + (x 0).val) % 80, h'⟩ : Fin 80) = x 0 := Fin.ext (by show (80 * n.val + (x 0).val) % 80 = (x 0).val; omega)
  exact congrArg (fun r : Fin 8192 => st (zOf zv n x) (mv (ValueIdx.ix2 r (x 1 : Fin 512)))) (congrArg₂ (rowAt iv) (e0 _) (e1 _))

/-- The rows written out are the output's. -/
theorem out_eq (zv : S10240x512.Idx → F .f32) (mv : S8192x512.Idx → F .f32) (iv : S128x80.Idx → BitVec 32) (k : Fin 4) (w : S80x512.Idx → F .f32) (fo : S10240x512.Idx → F .f32)
    (hw : w = mix (qOf mv iv (chunkIx i k)) (zOf zv (chunkIx i k)) (32 * k0_t1_loop.trips))
    (y : S10240x512.Idx) (hy : y ∈ (rowsOf i oV k).view.set) :
    (rowsOf i oV k).view.writes (Elt F) fo [⟨Rect.whole S80x512, w⟩] y = outv zv mv iv y := by
  have key (x : S80x512.Idx) : (rowsOf i oV k).view.writes (Elt F) fo [⟨Rect.whole S80x512, w⟩] ((rowsOf i oV k).view.emb x) = outv zv mv iv ((rowsOf i oV k).view.emb x) := by
    have e := View.read_writes_cons_hit (Val := Elt F) (rowsOf i oV k).view fo (Rect.whole S80x512) w [] x x (by funext a; apply Fin.ext; show 0 + 1 * (x a).val = (x a).val; omega)
    rw [View.read_apply] at e
    refine ((cast_eq _ _).symm.trans e).trans ?_
    have hx : (rowsOf i oV k).view.emb x = ValueIdx.ix2 (⟨80 * (chunkIx i k).val + (x 0).val, by have h : (x 0).val < 80 := (x 0).isLt; have := (chunkIx i k).isLt; omega⟩ : Fin 10240) (x 1 : Fin 512) :=
      emb_rowsOf i oV k x
    rw [hw, mix_full, hx]
    exact (outv_chunk zv mv iv (chunkIx i k) x _).symm
  obtain ⟨x, hx⟩ : ∃ x, (rowsOf i oV k).view.emb x = y := by
    obtain ⟨x, -, hx⟩ := Finset.mem_map.mp hy
    exact ⟨x, hx⟩
  rw [← hx]
  exact key x

/-- The accumulators after chunk `n`. -/
def accChunk (zv : S10240x512.Idx → F .f32) (mv : S8192x512.Idx → F .f32) (iv : S128x80.Idx → BitVec 32) (n : Fin 128) (a : Acc F) : Acc F :=
  accRows (qOf mv iv n) (zOf zv n) a k0_t1_loop.trips

omit [FloatOps F] [Named F] in
theorem gat_zero (q fr : S80x512.Idx → F .f32) : gat q fr (0 : Fin 4).val = fr := funext fun x => if_neg (Nat.not_lt_zero _)
omit [Named F] in
theorem gat_four (q z fr : S80x512.Idx → F .f32) : gat q fr ((3 : Fin 4).val + 1) = mix q z 0 := funext fun x => by
  have h : (x 1).val < 512 := (x 1).isLt
  unfold gat mix
  rw [if_pos (by show _ < 128 * 4; omega), if_neg (Nat.not_lt_zero _)]

omit [FloatOps F] [Named F] in
theorem qOf_eq (mv : S8192x512.Idx → F .f32) (iv : S128x80.Idx → BitVec 32) (hiv : InRows iv) (n : Fin 128) (x : S80x512.Idx) :
    qOf mv iv n x = mv (ValueIdx.ix2 (⟨(iOf iv n (ValueIdx.ix1 (x 0 : Fin 80))).toNat, hiv _⟩ : Fin 8192) (x 1 : Fin 512)) := by
  unfold qOf rowAt
  have e : (⟨(iv (ValueIdx.ix2 n (x 0 : Fin 80))).toNat % 8192, Nat.mod_lt _ (by decide)⟩ : Fin 8192) = ⟨(iOf iv n (ValueIdx.ix1 (x 0 : Fin 80))).toNat, hiv _⟩ :=
    Fin.ext (Nat.mod_eq_of_lt (hiv _))
  exact congrArg (fun r : Fin 8192 => mv (ValueIdx.ix2 r (x 1 : Fin 512))) e

/-- What a task may still owe: its waits all its own. -/
abbrev OW (O : CellTallies nD τ sig (HIx 1)) (W₀ : Waits sig (HIx 1)) : sProp 𝕄 := iprop(∃ W', ⌜∀ p ∈ W', p ∈ W₀ ∨ p.2 = none⌝ ∗ owes thr O W')

/-- A step, then the rest. -/
theorem wp_seq {α β : Type} {P : sProp 𝕄} {e : PT F i α} {R : α → sProp 𝕄} {k : α → PT F i β} {Q : β → sProp 𝕄}
    (h : P ⊢ wp frame (wpE (defs₀ (F := F)) 𝒱₀ thr none) Set.univ e R) :
    P ⊢ iprop((∀ v, R v -∗ wp frame (wpE (defs₀ (F := F)) 𝒱₀ thr none) Set.univ (k v) Q) -∗ wp frame (wpE (defs₀ (F := F)) 𝒱₀ thr none) Set.univ (e >>= k) Q) := by
  rw [wp_bind]
  iintro HP HK
  iapply (wp_wand_r frame (wpE (defs₀ (F := F)) 𝒱₀ thr none) Set.univ)
  isplitl [HP]
  · iapply h; iexact HP
  · iexact HK

set_option maxHeartbeats 4000000 in
/-- A chunk: its rows of the output at the straight-through values, the accumulators on by its rows. -/
theorem chunk_wp (zv : S10240x512.Idx → F .f32) (mv : S8192x512.Idx → F .f32) (iv : S128x80.Idx → BitVec 32) (hiv : InRows iv) (k : Fin 4)
    (qz qm qi : PosShare TreeShare) (sA sB sC : DmaSems sig S_) (fo : S10240x512.Idx → F .f32)
    (O : CellTallies nD τ sig (HIx 1)) (W₀ : Waits sig (HIx 1)) (a : Acc F) :
    iprop(Transfers.MayWaits thr (default : HIx 1) O
        ∗ ((iV).view.loc thr ↦{qi} iv) ∗ ((mV).view.loc thr ↦{qm} mv) ∗ ((zV).view.loc thr ↦{qz} zv)
        ∗ ((rowsOf i oV k).view.loc thr ↦[(rowsOf i oV k).view.set]{fullShare} fo)
        ∗ (∃ fi : S80.Idx → BitVec 32, (bI).view.loc thr ↦{fullShare} fi) ∗ (∃ fr : S80x512.Idx → F .f32, (bR).view.loc thr ↦{fullShare} fr)
        ∗ (∃ fz : S80x512.Idx → F .f32, (bZ).view.loc thr ↦{fullShare} fz)
        ∗ semVal ((thr, .dma sA.sem) : GSem nD τ sig) 0 ∗ semVal ((thr, .dma sB.sem) : GSem nD τ sig) 0 ∗ semVal ((thr, .dma sC.sem) : GSem nD τ sig) 0
        ∗ semVal ((thr, .dma cc0_scratch4.sem) : GSem nD τ sig) 0
        ∗ OW d i O W₀)
      ⊢ (wp frame (wpE (defs₀ (F := F)) 𝒱₀ thr none) Set.univ
          (chunk i mV iV zV oV bI (Memref.isWhole_whole _) bR (Memref.isWhole_whole _) bZ (Memref.isWhole_whole _) cc0_scratch4 k sA sB sC a)
          fun b => iprop(⌜b = accChunk zv mv iv (chunkIx i k) a⌝
            ∗ ((iV).view.loc thr ↦{qi} iv) ∗ ((mV).view.loc thr ↦{qm} mv) ∗ ((zV).view.loc thr ↦{qz} zv)
            ∗ ((rowsOf i oV k).view.loc thr ↦[(rowsOf i oV k).view.set]{fullShare} outv zv mv iv)
            ∗ (∃ fi : S80.Idx → BitVec 32, (bI).view.loc thr ↦{fullShare} fi) ∗ (∃ fr : S80x512.Idx → F .f32, (bR).view.loc thr ↦{fullShare} fr)
            ∗ (∃ fz : S80x512.Idx → F .f32, (bZ).view.loc thr ↦{fullShare} fz)
            ∗ semVal ((thr, .dma sA.sem) : GSem nD τ sig) 0 ∗ semVal ((thr, .dma sB.sem) : GSem nD τ sig) 0 ∗ semVal ((thr, .dma sC.sem) : GSem nD τ sig) 0
            ∗ semVal ((thr, .dma cc0_scratch4.sem) : GSem nD τ sig) 0
            ∗ OW d i O W₀) : sProp 𝕄) := by
  unfold chunk
  iintro ⟨#Hmw, Hi, Hm, Hz, Ho, ⟨%fi, HbI⟩, ⟨%fr, HbR⟩, ⟨%fz, HbZ⟩, HsA, HsB, HsC, HsG, %W, %hW, HO⟩
  iapply (wp_seq d i (fetch_wp d i iv k qi sA fi O W)) $$ [Hi HbI HsA HO]
  · isplitr; · iexact Hmw
    isplitl [Hi]; · iexact Hi
    isplitl [HbI]; · iexact HbI
    isplitl [HsA]; · iexact HsA
    iexact HO
  iintro %_ ⟨Hi, HbI, HsA, HO⟩
  ihave HbR := (Entails.of_eq (congrArg (fun f : S80x512.Idx → F .f32 => ((bR).view.loc thr ↦{fullShare} f : sProp 𝕄)) (gat_zero (qOf mv iv (chunkIx i k)) fr).symm)) $$ HbR
  iapply (wp_seq d i (gather_wp d i mv (iOf iv (chunkIx i k)) (fun _ => hiv _) 0 qm (qOf mv iv (chunkIx i k)) fr _ _ _ rfl (qOf_eq mv iv hiv _) O _)) $$ [Hm HbI HbR HsG HO]
  · isplitr; · iexact Hmw
    isplitl [Hm]; · iexact Hm
    isplitl [HbI]; · iexact HbI
    isplitl [HbR]; · iexact HbR
    isplitl [HsG]; · iexact HsG
    iexact HO
  iintro %_ ⟨Hm, HbI, HbR, HsG, HO⟩
  iapply (wp_seq d i (gather_wp d i mv (iOf iv (chunkIx i k)) (fun _ => hiv _) 1 qm (qOf mv iv (chunkIx i k)) fr _ _ _ rfl (qOf_eq mv iv hiv _) O _)) $$ [Hm HbI HbR HsG HO]
  · isplitr; · iexact Hmw
    isplitl [Hm]; · iexact Hm
    isplitl [HbI]; · iexact HbI
    isplitl [HbR]; · iexact HbR
    isplitl [HsG]; · iexact HsG
    iexact HO
  iintro %_ ⟨Hm, HbI, HbR, HsG, HO⟩
  iapply (wp_seq d i (gather_wp d i mv (iOf iv (chunkIx i k)) (fun _ => hiv _) 2 qm (qOf mv iv (chunkIx i k)) fr _ _ _ rfl (qOf_eq mv iv hiv _) O _)) $$ [Hm HbI HbR HsG HO]
  · isplitr; · iexact Hmw
    isplitl [Hm]; · iexact Hm
    isplitl [HbI]; · iexact HbI
    isplitl [HbR]; · iexact HbR
    isplitl [HsG]; · iexact HsG
    iexact HO
  iintro %_ ⟨Hm, HbI, HbR, HsG, HO⟩
  iapply (wp_seq d i (gather_wp d i mv (iOf iv (chunkIx i k)) (fun _ => hiv _) 3 qm (qOf mv iv (chunkIx i k)) fr _ _ _ rfl (qOf_eq mv iv hiv _) O _)) $$ [Hm HbI HbR HsG HO]
  · isplitr; · iexact Hmw
    isplitl [Hm]; · iexact Hm
    isplitl [HbI]; · iexact HbI
    isplitl [HbR]; · iexact HbR
    isplitl [HsG]; · iexact HsG
    iexact HO
  iintro %_ ⟨Hm, HbI, HbR, HsG, HO⟩
  ihave HbR := (Entails.of_eq (congrArg (fun f : S80x512.Idx → F .f32 => ((bR).view.loc thr ↦{fullShare} f : sProp 𝕄)) (gat_four (qOf mv iv (chunkIx i k)) (zOf zv (chunkIx i k)) fr))) $$ HbR
  sl_exec
  have eZ : View.write (Elt F) (bZ).view fz (chunk_wp.sl.dma0 i zv k) Finset.univ = zOf zv (chunkIx i k) :=
    (View.write_whole_univ _ _ _).trans (read_rowsOf i zv k)
  ihave HbZ := (Entails.of_eq (congrArg (fun f : S80x512.Idx → F .f32 => ((bZ).view.loc thr ↦{fullShare} f : sProp 𝕄)) eZ)) $$ HbZ
  iapply (rows_wp d i a (qOf mv iv (chunkIx i k)) (zOf zv (chunkIx i k)))
  isplitl [HbR HbZ]
  · isplitl [HbR] <;> iassumption
  iintro ⟨HbR, HbZ⟩
  sl_exec
  sl_step
  isplitr; · ipureintro; rfl
  isplitl [Hi]; · iexact Hi
  isplitl [Hm]; · iexact Hm
  isplitl [Hz]; · iexact Hz
  isplitl [Ho]
  · iapply (Entails.of_eq (pointsTo_congr (out_eq i zv mv iv k _ fo rfl))); iexact Ho
  isplitl [HbI]; · iexists _; iexact HbI
  isplitl [HbR]; · iexists _; iexact HbR
  isplitl [HbZ]; · iexists _; iexact HbZ
  isplitl [HsA]; · iexact HsA
  isplitl [HsB]; · iexact HsB
  isplitl [HsC]; · iexact HsC
  isplitl [HsG]; · iexact HsG
  iexists _; isplitr
  swap; · iexact HO
  ipureintro; intro p hp
  simp only [Finset.mem_insert] at hp
  rcases hp with hp | hp | hp | hp | hp | hp | hp | hp
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact hW p hp

end Tile

end Cert.Proof.Sc

end
-- ==== Proof.Tile.lean ====
/-
  A tile's task: its four chunks and its row of partial sums.
-/
module

public import proofs.«01_k».proof.Defs
public import proofs.«01_k».proof.Proof.Strip
public import proofs.«01_k».proof.Proof.Row
public import proofs.«01_k».proof.Proof.Chunk
public import Idealize.ShloMosaic.Lib.ValueIdxCore

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "mV" => (Memref.whole Cert.KernelIdeal.main_arg1_scv : Memref Cert.KernelIdeal.sig Kind.scVector Space.hbm Cert.KernelIdeal.S8192x512 EltTy.f32)
local notation "iV" => (Memref.whole Cert.KernelIdeal.main_v0_scv : Memref Cert.KernelIdeal.sig Kind.scVector Space.hbm Cert.KernelIdeal.S128x80 EltTy.i32)
local notation "zV" => (Memref.whole Cert.KernelIdeal.main_arg0_scv : Memref Cert.KernelIdeal.sig Kind.scVector Space.hbm Cert.KernelIdeal.S10240x512 EltTy.f32)
local notation "oV" => (Memref.whole Cert.KernelIdeal.main_v1_0_scv : Memref Cert.KernelIdeal.sig Kind.scVector Space.hbm Cert.KernelIdeal.S10240x512 EltTy.f32)
local notation "lV" => (Memref.whole Cert.KernelIdeal.main_v1_1_scv : Memref Cert.KernelIdeal.sig Kind.scVector Space.hbm Cert.KernelIdeal.S32x16 EltTy.f32)
local notation "bI" => (Memref.whole Cert.KernelIdeal.cc0_scratch0 : Memref Cert.KernelIdeal.sig Kind.scVector Space.vmem Cert.KernelIdeal.S80 EltTy.i32)
local notation "bR" => (Memref.whole Cert.KernelIdeal.cc0_scratch1 : Memref Cert.KernelIdeal.sig Kind.scVector Space.vmem Cert.KernelIdeal.S80x512 EltTy.f32)
local notation "bZ" => (Memref.whole Cert.KernelIdeal.cc0_scratch2 : Memref Cert.KernelIdeal.sig Kind.scVector Space.vmem Cert.KernelIdeal.S80x512 EltTy.f32)
local notation "bA" => (Memref.whole Cert.KernelIdeal.cc0_scratch3 : Memref Cert.KernelIdeal.sig Kind.scVector Space.vmem Cert.KernelIdeal.S16 EltTy.f32)

/-! ## Values -/

/-- The accumulators of tile `w` at the end: its four chunks, one after another. -/
def accTile (zv : S10240x512.Idx → F .f32) (mv : S8192x512.Idx → F .f32) (iv : S128x80.Idx → BitVec 32) (w : Fin 32) : Acc F :=
  accChunk zv mv iv (⟨4 * w.val + 3, by omega⟩ : Fin 128) (accChunk zv mv iv (⟨4 * w.val + 2, by omega⟩ : Fin 128)
    (accChunk zv mv iv (⟨4 * w.val + 1, by omega⟩ : Fin 128) (accChunk zv mv iv (⟨4 * w.val, by omega⟩ : Fin 128) acc0)))

/-- The partial sums. -/
def lpv (zv : S10240x512.Idx → F .f32) (mv : S8192x512.Idx → F .f32) (iv : S128x80.Idx → BitVec 32) : S32x16.Idx → F .f32 := fun y =>
  total (accTile zv mv iv (y 0 : Fin 32)) (ValueIdx.ix1 (y 1 : Fin 16))

/-- The tile at `L`, of the 32. -/
def wid (L : grid0.Coords) : Fin 32 :=
  ⟨2 * (L 1).val + (L 0).val, by
    have h0 : (L 0).val < 2 := (L 0).isLt
    have h1 : (L 1).val < 16 := (L 1).isLt
    omega⟩

theorem chunkIx_eq (L : grid0.Coords) (k : Fin 4) : chunkIx L k = (⟨4 * (wid L).val + k.val, by have := (wid L).isLt; omega⟩ : Fin 128) :=
  Fin.ext (by show 8 * (L 1).val + 4 * (L 0).val + k.val = 4 * (2 * (L 1).val + (L 0).val) + k.val; omega)

/-! ## The buffers and their parts -/

abbrev zLoc (d : Dev nD) : Loc nD τ sig := (SparseCore.T d).loc main_arg0
abbrev mLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1_0
abbrev lLoc (d : Dev nD) : Loc nD τ sig := (SparseCore.T d).loc main_v1_1

theorem odiv : 128 ∣ S10240x512.size 0 := ⟨80, rfl⟩
theorem ldiv : 32 ∣ S32x16.size 0 := ⟨1, rfl⟩
abbrev oPart (n : Fin 128) : Rect S10240x512 := Rect.part (s := S10240x512) (a₀ := 0) odiv n
abbrev lPart (n : Fin 32) : Rect S32x16 := Rect.part (s := S32x16) (a₀ := 0) ldiv n

/-- Tile `w`'s share of what every tile reads. -/
abbrev sh (w : Fin 32) : PosShare TreeShare := ShareLeaves.leaf 5 fullShare w

section Tile

variable (d : Dev nD) (L : grid0.Coords)

local notation "thr" => V d (cV L) (jV L)

theorem oRect_eq (k : Fin 4) : Rect.unit (s := S10240x512) (k0_off2 L (BitVec.ofNat 32 k.val)) S80x512.size (k0_off2_inb L k) = oPart (chunkIx L k) := by
  unfold oPart Rect.part Rect.block
  congr 1 <;> funext a
  · rw [k0_off2_eq]
    match a with
    | 0 => show 640 * (L 1).val + 320 * (L 0).val + 80 * k.val = (8 * (L 1).val + 4 * (L 0).val + k.val) * 80; omega
    | 1 => rfl
  · match a with
    | 0 => rfl
    | 1 => rfl
theorem lRect_eq : Rect.unit (s := S32x16) (k0_off131 L) S1x16.size (k0_off131_inb L) = lPart (wid L) := by
  unfold lPart Rect.part Rect.block
  congr 1 <;> funext a
  · rw [k0_off131_eq]
    match a with
    | 0 => show 2 * (L 1).val + (L 0).val = (2 * (L 1).val + (L 0).val) * 1; omega
    | 1 => rfl
  · match a with
    | 0 => rfl
    | 1 => rfl

theorem set_rowsOf (k : Fin 4) : (rowsOf L oV k).view.set = (oPart (chunkIx L k)).set := by
  show ((oV).view.slice (Rect.unit (s := S10240x512) (k0_off2 L (BitVec.ofNat 32 k.val)) S80x512.size (k0_off2_inb L k))).set = _
  rw [oRect_eq, View.set_slice]; exact Finset.map_refl
theorem set_lpOf : (lpOf L lV).view.set = (lPart (wid L)).set := by
  show (((lV).view.slice (Rect.unit (s := S32x16) (k0_off131 L) S1x16.size (k0_off131_inb L))).reshape S16 squeezes_S1x16_S16.numel_eq).set = _
  rw [View.set_reshape]
  exact (View.set_slice _ _).trans (Finset.map_refl.trans (congrArg (fun r : Rect S32x16 => r.set) (lRect_eq L)))

omit [FloatOps F] [Named F] in
theorem pts_rowsOf (k : Fin 4) (f : Buf (Elt F) (oLoc d)) :
    ((rowsOf L oV k).view.loc thr ↦[(rowsOf L oV k).view.set]{fullShare} f : sProp 𝕄) = oLoc d ↦[(oPart (chunkIx L k)).set]{fullShare} f := by
  rw [set_rowsOf]
omit [FloatOps F] [Named F] in
theorem pts_lpOf (f : Buf (Elt F) (lLoc d)) :
    ((lpOf L lV).view.loc thr ↦[(lpOf L lV).view.set]{fullShare} f : sProp 𝕄) = lLoc d ↦[(lPart (wid L)).set]{fullShare} f := by
  rw [set_lpOf]

omit [FloatOps F] [Named F] in
theorem lp_eq (lv : S32x16.Idx → F .f32) (w : S16.Idx → F .f32) (fl : S32x16.Idx → F .f32)
    (hw : ∀ x : S16.Idx, lv (ValueIdx.ix2 (wid L) (x 0 : Fin 16)) = w x) (y : S32x16.Idx) (hy : y ∈ (lpOf L lV).view.set) :
    (lpOf L lV).view.writes (Elt F) fl [⟨Rect.whole S16, w⟩] y = lv y := by
  have key (x : S16.Idx) : (lpOf L lV).view.writes (Elt F) fl [⟨Rect.whole S16, w⟩] ((lpOf L lV).view.emb x) = lv ((lpOf L lV).view.emb x) := by
    have e := View.read_writes_cons_hit (Val := Elt F) (lpOf L lV).view fl (Rect.whole S16) w [] x x (by funext a; apply Fin.ext; show 0 + 1 * (x a).val = (x a).val; omega)
    rw [View.read_apply] at e
    refine ((cast_eq _ _).symm.trans e).trans ?_
    have hx : (lpOf L lV).view.emb x = ValueIdx.ix2 (wid L) (x 0 : Fin 16) := by
      show (Rect.unit (s := S32x16) (k0_off131 L) S1x16.size (k0_off131_inb L)).emb (Shape.reshapeEquiv squeezes_S1x16_S16.numel_eq x) = _
      rw [Shape.reshapeEquiv_cons_one]
      refine funext fun a => Fin.ext ?_
      match a with
      | 0 =>
        show k0_off131 L 0 + 1 * 0 = _
        rw [k0_off131_eq]; rfl
      | 1 =>
        show k0_off131 L 1 + 1 * (x 0).val = (x 0).val
        rw [k0_off131_eq]; show 0 + _ = _; omega
    rw [hx]
    exact (hw x).symm
  obtain ⟨x, hx⟩ : ∃ x, (lpOf L lV).view.emb x = y := by
    obtain ⟨x, -, hx⟩ := Finset.mem_map.mp hy
    exact ⟨x, hx⟩
  rw [← hx]
  exact key x

set_option maxHeartbeats 4000000 in
/-- The end of a task. -/
theorem finish_wp (a : Acc F) (lv fl : S32x16.Idx → F .f32) (hw : ∀ x : S16.Idx, lv (ValueIdx.ix2 (wid L) (x 0 : Fin 16)) = total a x)
    (O : CellTallies nD τ sig (HIx 1)) (W₀ : Waits sig (HIx 1)) :
    iprop(Transfers.MayWaits thr (default : HIx 1) O ∗ ((lpOf L lV).view.loc thr ↦[(lpOf L lV).view.set]{fullShare} fl)
        ∗ (∃ fa : S16.Idx → F .f32, (bA).view.loc thr ↦{fullShare} fa)
        ∗ semVal ((thr, .dma cc0_scoped12.sem) : GSem nD τ sig) 0 ∗ OW d L O W₀)
      ⊢ (wp frame (wpE (defs₀ (F := F)) 𝒱₀ thr none) Set.univ (finish L lV bA (Memref.isWhole_whole _) cc0_scoped12 a)
          fun _ => iprop(((lpOf L lV).view.loc thr ↦[(lpOf L lV).view.set]{fullShare} lv)
            ∗ (∃ fa : S16.Idx → F .f32, (bA).view.loc thr ↦{fullShare} fa)
            ∗ semVal ((thr, .dma cc0_scoped12.sem) : GSem nD τ sig) 0 ∗ OW d L O W₀) : sProp 𝕄) := by
  unfold finish
  iintro ⟨#Hmw, Hl, ⟨%fa, HbA⟩, HsD, %W, %hW, HO⟩
  sl_exec
  sl_step
  have ew : finish_wp.sl.dma2 a fa = total a := by
    funext x
    refine (View.read_writes_cons_hit (Val := Elt F) (bA).view fa (Rect.unit (s := S16) ![0] S16.size inb_S16_S16_0) (shapeCast S16 (total a) shapeCasts_S16_S16) [] x x (by
      funext b; apply Fin.ext
      match b with
      | 0 => show 0 + 1 * (x 0).val = (x 0).val; omega)).trans ?_
    rw [shapeCast_self]
  isplitl [Hl]
  · iapply (Entails.of_eq (pointsTo_congr (lp_eq L lv (finish_wp.sl.dma2 a fa) fl fun x => (hw x).trans (congrFun ew x).symm))); iexact Hl
  isplitl [HbA]; · iexists _; iexact HbA
  isplitl [HsD]; · iexact HsD
  iexists _; isplitr
  swap; · iexact HO
  ipureintro; intro p hp
  rcases Finset.mem_insert.mp hp with hp | hp
  · exact .inr (hp ▸ rfl)
  · exact hW p hp

/-! ## The task's own semaphores and scratch buffers -/

/-- The task's semaphores. -/
abbrev cell (d : Dev nD) (c : Fin τ.nSC) (j : Fin τ.nSub) (n : Fin 14) : GSem nD τ sig := (V d c j, .dma n)

theorem cell_injective (c : Fin τ.nSC) (j : Fin τ.nSub) : Function.Injective (cell d c j) := fun a b h => by
  injection h with _ h; injection h

/-- The semaphores a task does not use. -/
abbrev restCells (d : Dev nD) (c : Fin τ.nSC) (j : Fin τ.nSub) : Finset (GSem nD τ sig) := ownCells (V d c j) \ Finset.univ.image (cell d c j)

omit [FloatOps F] [Named F] in
theorem ownSems0_V (c : Fin τ.nSC) (j : Fin τ.nSub) :
    (ownSems0 (V d c j) : sProp 𝕄) = iprop((bigSep Finset.univ fun n : Fin 14 => semVal (cell d c j n) 0) ∗ bigSep (restCells d c j) fun g => semVal g 0) := by
  unfold SparseCore.Cfg.ownSems0
  rw [SparseCore.bigSep_sdiff_split' (t := Finset.univ.image (cell d c j)) (by
      intro g hg
      obtain ⟨n, -, rfl⟩ := Finset.mem_image.mp hg
      exact mem_ownCells.mpr ⟨rfl, by clear hg; revert n; show ∀ n : Fin 14, (SemLoc.dma n : SemLoc sig).isScoped .scVector = true; decide⟩),
    SparseCore.bigSep_image_of_injOn (cell_injective d c j).injOn]

/-- The task's scratch buffers. -/
abbrev scr (n : Fin 4) : Ref sig .scVector := match n with | 0 => cc0_scratch0 | 1 => cc0_scratch1 | 2 => cc0_scratch2 | 3 => cc0_scratch3
theorem scr_injective : Function.Injective scr := by decide

abbrev restRefs (c : Fin τ.nSC) (j : Fin τ.nSub) : Finset (DevRef τ sig) :=
  ownRefs (τ := τ) (.scVector c j) \ Finset.univ.image fun n => (Proc.scVector c j).devRef (scr n)

omit [FloatOps F] [Named F] in
theorem ownBufs_V (c : Fin τ.nSC) (j : Fin τ.nSub) :
    (ownBufs (V d c j) : sProp 𝕄)
      = iprop((bigSep Finset.univ fun n : Fin 4 => iprop(∃ f, (V d c j).loc (scr n) ↦{fullShare} f))
          ∗ bigSep (restRefs c j) fun b => iprop(∃ f, ((d, b) : Loc nD τ sig) ↦{fullShare} f)) := by
  unfold SparseCore.Cfg.ownBufs
  refine (SparseCore.bigSep_sdiff_split' (t := Finset.univ.image fun n => (Proc.scVector c j).devRef (scr n)) (by
      intro g hg
      obtain ⟨n, -, rfl⟩ := Finset.mem_image.mp hg
      exact SparseCore.Cfg.mem_ownRefs_of_owner (by fin_cases n <;> rfl))).trans ?_
  rw [SparseCore.bigSep_image_of_injOn (f := fun n => (Proc.scVector c j).devRef (scr n)) ((Proc.devRef_injective _).comp scr_injective).injOn]

theorem sep_four (Φ : Fin 4 → sProp 𝕄) : bigSep Finset.univ Φ = iprop(Φ 0 ∗ Φ 1 ∗ Φ 2 ∗ Φ 3) := by
  rw [bigSep_univ_succ, bigSep_univ_succ, bigSep_univ_succ, bigSep_univ_of_subsingleton (0 : Fin 1)]; rfl
theorem sep_fourteen (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [bigSep_univ_succ, bigSep_univ_succ, bigSep_univ_succ, bigSep_univ_succ, bigSep_univ_succ, bigSep_univ_succ, bigSep_univ_succ,
    bigSep_univ_succ, bigSep_univ_succ, bigSep_univ_succ, sep_four]; rfl

/-! ## The task -/

/-- What a task is handed: its shares of what every tile reads, its rows of the two outputs. -/
abbrev goP (zv : S10240x512.Idx → F .f32) (mv : S8192x512.Idx → F .f32) (iv : S128x80.Idx → BitVec 32) (fo : S10240x512.Idx → F .f32) (fl : S32x16.Idx → F .f32) (d : Dev nD) (w : Fin 32) : sProp 𝕄 :=
  iprop((iLoc d ↦{sh w} iv) ∗ (mLoc d ↦{sh w} mv) ∗ (zLoc d ↦{sh w} zv)
    ∗ (bigSep Finset.univ fun k : Fin 4 => oLoc d ↦[(oPart (⟨4 * w.val + k.val, by omega⟩ : Fin 128)).set]{fullShare} fo)
    ∗ lLoc d ↦[(lPart w).set]{fullShare} fl)

set_option maxHeartbeats 4000000 in
theorem oPts_eq (k : Fin 4) (f : Buf (Elt F) (oLoc d)) :
    (oLoc d ↦[(oPart (⟨4 * (wid L).val + k.val, by have := (wid L).isLt; omega⟩ : Fin 128)).set]{fullShare} f : sProp 𝕄)
      = ((rowsOf L oV k).view.loc thr ↦[(rowsOf L oV k).view.set]{fullShare} f) := by rw [pts_rowsOf, chunkIx_eq]

theorem hw_eq (zv : S10240x512.Idx → F .f32) (mv : S8192x512.Idx → F .f32) (iv : S128x80.Idx → BitVec 32) (x : S16.Idx) :
    lpv zv mv iv (ValueIdx.ix2 (wid L) (x 0 : Fin 16))
      = total (accChunk zv mv iv (chunkIx L 3) (accChunk zv mv iv (chunkIx L 2) (accChunk zv mv iv (chunkIx L 1) (accChunk zv mv iv (chunkIx L 0) acc0)))) x := by
  simp only [chunkIx_eq]
  show total (accTile zv mv iv (wid L)) (ValueIdx.ix1 (x 0 : Fin 16)) = _
  exact congrArg₂ total rfl (funext fun a => match a with | 0 => rfl)

theorem tile_body (hF : (K (F := F)).Facts) (zv : S10240x512.Idx → F .f32) (mv : S8192x512.Idx → F .f32) (iv : S128x80.Idx → BitVec 32) (hiv : InRows iv)
    (fo : S10240x512.Idx → F .f32) (fl : S32x16.Idx → F .f32)
    (O : CellTallies nD τ sig (HIx 1)) (W : Waits sig (HIx 1)) (hO : ∀ g, O g none = 0) :
    iprop(levAts (K (F := F)).L (K (F := F)).lev ∗ emp ∗ goP zv mv iv fo fl d (wid L)
        ∗ scopedBufs thr ∗ scopedSems0 thr ∗ owes thr O W)
      ⊢ (wp frame (wpE (defs₀ (F := F)) 𝒱₀ thr none) Set.univ
          (cc0_body L mV (Memref.isWhole_whole _) iV (Memref.isWhole_whole _) zV (Memref.isWhole_whole _) oV (Memref.isWhole_whole _) lV (Memref.isWhole_whole _)
            bI (Memref.isWhole_whole _) bR (Memref.isWhole_whole _) bZ (Memref.isWhole_whole _) bA (Memref.isWhole_whole _) cc0_scratch4
            cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop(goP zv mv iv (outv zv mv iv) (lpv zv mv iv) d (wid L) ∗ scopedBufs thr ∗ scopedSems0 thr ∗ OW d L O W) : sProp 𝕄) := by
  rw [body_eq, (K (F := F)).scopedBufs_V hF d (cV L) (jV L), SparseCore.Cfg.scopedSems0_V (Val := Elt F) d (cV L) (jV L), ownSems0_V, ownBufs_V]
  unfold task goP
  simp only [oPts_eq]
  rw [← pts_lpOf d L fl, ← pts_lpOf d L (lpv zv mv iv)]
  simp only [sep_four, sep_fourteen]
  refine (Laws.sep_mono_left (show _ ⊢ (Transfers.MayWaits thr (default : HIx 1) O : sProp 𝕄) from (K (F := F)).mayWaits_none hO)).trans ?_
  iintro ⟨#Hmw, -, ⟨Hi, Hm, Hz, ⟨Ho0, Ho1, Ho2, Ho3⟩, Hl⟩, ⟨⟨HbI, HbR, HbZ, HbA⟩, Hbufs⟩, ⟨⟨HsG, Hs0, Hs1, Hs2, Hs3, Hs4, Hs5, Hs6, Hs7, Hs8, Hs9, Hs10, Hs11, Hs12⟩, Hsems⟩, HO⟩
  ihave HO := (show owes thr O W ⊢ (OW d L O W : sProp 𝕄) from by
    iintro H; iexists W; isplitr
    · ipureintro; exact fun p hp => Or.inl hp
    · iexact H) $$ HO
  iapply (wp_seq d L (chunk_wp d L zv mv iv hiv 0 (sh (wid L)) (sh (wid L)) (sh (wid L)) cc0_scoped0 cc0_scoped1 cc0_scoped2 fo O W _)) $$ [Hi Hm Hz Ho0 HbI HbR HbZ Hs0 Hs1 Hs2 HsG HO]
  · isplitr; · iexact Hmw
    isplitl [Hi]; · iexact Hi
    isplitl [Hm]; · iexact Hm
    isplitl [Hz]; · iexact Hz
    isplitl [Ho0]; · iexact Ho0
    isplitl [HbI]; · iexact HbI
    isplitl [HbR]; · iexact HbR
    isplitl [HbZ]; · iexact HbZ
    isplitl [Hs0]; · iexact Hs0
    isplitl [Hs1]; · iexact Hs1
    isplitl [Hs2]; · iexact Hs2
    isplitl [HsG]; · iexact HsG
    iexact HO
  iintro %_ ⟨%e0, Hi, Hm, Hz, Ho0, HbI, HbR, HbZ, Hs0, Hs1, Hs2, HsG, HO⟩
  subst e0
  iapply (wp_seq d L (chunk_wp d L zv mv iv hiv 1 (sh (wid L)) (sh (wid L)) (sh (wid L)) cc0_scoped3 cc0_scoped4 cc0_scoped5 fo O W _)) $$ [Hi Hm Hz Ho1 HbI HbR HbZ Hs3 Hs4 Hs5 HsG HO]
  · isplitr; · iexact Hmw
    isplitl [Hi]; · iexact Hi
    isplitl [Hm]; · iexact Hm
    isplitl [Hz]; · iexact Hz
    isplitl [Ho1]; · iexact Ho1
    isplitl [HbI]; · iexact HbI
    isplitl [HbR]; · iexact HbR
    isplitl [HbZ]; · iexact HbZ
    isplitl [Hs3]; · iexact Hs3
    isplitl [Hs4]; · iexact Hs4
    isplitl [Hs5]; · iexact Hs5
    isplitl [HsG]; · iexact HsG
    iexact HO
  iintro %_ ⟨%e1, Hi, Hm, Hz, Ho1, HbI, HbR, HbZ, Hs3, Hs4, Hs5, HsG, HO⟩
  subst e1
  iapply (wp_seq d L (chunk_wp d L zv mv iv hiv 2 (sh (wid L)) (sh (wid L)) (sh (wid L)) cc0_scoped6 cc0_scoped7 cc0_scoped8 fo O W _)) $$ [Hi Hm Hz Ho2 HbI HbR HbZ Hs6 Hs7 Hs8 HsG HO]
  · isplitr; · iexact Hmw
    isplitl [Hi]; · iexact Hi
    isplitl [Hm]; · iexact Hm
    isplitl [Hz]; · iexact Hz
    isplitl [Ho2]; · iexact Ho2
    isplitl [HbI]; · iexact HbI
    isplitl [HbR]; · iexact HbR
    isplitl [HbZ]; · iexact HbZ
    isplitl [Hs6]; · iexact Hs6
    isplitl [Hs7]; · iexact Hs7
    isplitl [Hs8]; · iexact Hs8
    isplitl [HsG]; · iexact HsG
    iexact HO
  iintro %_ ⟨%e2, Hi, Hm, Hz, Ho2, HbI, HbR, HbZ, Hs6, Hs7, Hs8, HsG, HO⟩
  subst e2
  iapply (wp_seq d L (chunk_wp d L zv mv iv hiv 3 (sh (wid L)) (sh (wid L)) (sh (wid L)) cc0_scoped9 cc0_scoped10 cc0_scoped11 fo O W _)) $$ [Hi Hm Hz Ho3 HbI HbR HbZ Hs9 Hs10 Hs11 HsG HO]
  · isplitr; · iexact Hmw
    isplitl [Hi]; · iexact Hi
    isplitl [Hm]; · iexact Hm
    isplitl [Hz]; · iexact Hz
    isplitl [Ho3]; · iexact Ho3
    isplitl [HbI]; · iexact HbI
    isplitl [HbR]; · iexact HbR
    isplitl [HbZ]; · iexact HbZ
    isplitl [Hs9]; · iexact Hs9
    isplitl [Hs10]; · iexact Hs10
    isplitl [Hs11]; · iexact Hs11
    isplitl [HsG]; · iexact HsG
    iexact HO
  iintro %_ ⟨%e3, Hi, Hm, Hz, Ho3, HbI, HbR, HbZ, Hs9, Hs10, Hs11, HsG, HO⟩
  subst e3
  iapply (wp_wand_r frame (wpE (defs₀ (F := F)) 𝒱₀ thr none) Set.univ)
  isplitl [Hl HbA Hs12 HO]
  · iapply (finish_wp d L _ (lpv zv mv iv) fl (hw_eq L zv mv iv) O W)
    isplitr; · iexact Hmw
    isplitl [Hl]; · iexact Hl
    isplitl [HbA]; · iexact HbA
    isplitl [Hs12]; · iexact Hs12
    iexact HO
  iintro %_ ⟨Hl, HbA, Hs12, HO⟩
  isplitl [Hi Hm Hz Ho0 Ho1 Ho2 Ho3 Hl]
  · isplitl [Hi]; · iexact Hi
    isplitl [Hm]; · iexact Hm
    isplitl [Hz]; · iexact Hz
    isplitl [Ho0 Ho1 Ho2 Ho3]
    · isplitl [Ho0]; · iexact Ho0
      isplitl [Ho1]; · iexact Ho1
      isplitl [Ho2]; · iexact Ho2
      iexact Ho3
    iexact Hl
  isplitl [HbI HbR HbZ HbA Hbufs]
  · isplitr [Hbufs]
    · isplitl [HbI]; · iexact HbI
      isplitl [HbR]; · iexact HbR
      isplitl [HbZ]; · iexact HbZ
      iexact HbA
    iexact Hbufs
  isplitr [HO]
  · isplitr [Hsems]
    · isplitl [HsG]; · iexact HsG
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      iexact Hs12
    iexact Hsems
  iexact HO

end Tile

end Cert.Proof.Sc

end
-- ==== Proof.Launch.lean ====
/-
  The launch: what the tasks are handed and hand back, the host operations before and after the call, the run.
-/
module

public import proofs.«01_k».proof.Defs
public import proofs.«01_k».proof.Proof.Tile
public import Idealize.ShloMosaic.Lib.SparseCore.Quiescent
public import Idealize.ShloMosaic.Lib.StableHlo.Run
public import Idealize.ShloMosaic.Lib.Pipeline.Frame
public import Idealize.ShloMosaic.Lib.ShareLeaves

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr after)

variable {F : FTy → Type} [FloatOps F] [Named F]

local notation "𝕄" => MT nD τ sig (HIx 1) (Elt F) ℕ UU ℕ
local notation "mV" => (Memref.whole Cert.KernelIdeal.main_arg1_scv : Memref Cert.KernelIdeal.sig Kind.scVector Space.hbm Cert.KernelIdeal.S8192x512 EltTy.f32)
local notation "iV" => (Memref.whole Cert.KernelIdeal.main_v0_scv : Memref Cert.KernelIdeal.sig Kind.scVector Space.hbm Cert.KernelIdeal.S128x80 EltTy.i32)
local notation "zV" => (Memref.whole Cert.KernelIdeal.main_arg0_scv : Memref Cert.KernelIdeal.sig Kind.scVector Space.hbm Cert.KernelIdeal.S10240x512 EltTy.f32)
local notation "oV" => (Memref.whole Cert.KernelIdeal.main_v1_0_scv : Memref Cert.KernelIdeal.sig Kind.scVector Space.hbm Cert.KernelIdeal.S10240x512 EltTy.f32)
local notation "lV" => (Memref.whole Cert.KernelIdeal.main_v1_1_scv : Memref Cert.KernelIdeal.sig Kind.scVector Space.hbm Cert.KernelIdeal.S32x16 EltTy.f32)
local notation "bI" => (Memref.whole Cert.KernelIdeal.cc0_scratch0 : Memref Cert.KernelIdeal.sig Kind.scVector Space.vmem Cert.KernelIdeal.S80 EltTy.i32)
local notation "bR" => (Memref.whole Cert.KernelIdeal.cc0_scratch1 : Memref Cert.KernelIdeal.sig Kind.scVector Space.vmem Cert.KernelIdeal.S80x512 EltTy.f32)
local notation "bZ" => (Memref.whole Cert.KernelIdeal.cc0_scratch2 : Memref Cert.KernelIdeal.sig Kind.scVector Space.vmem Cert.KernelIdeal.S80x512 EltTy.f32)
local notation "bA" => (Memref.whole Cert.KernelIdeal.cc0_scratch3 : Memref Cert.KernelIdeal.sig Kind.scVector Space.vmem Cert.KernelIdeal.S16 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays split among the tasks -/

/-- The grid point at core `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem wid_coords (c : Fin 2) (s : Fin 16) : wid (coordsV c s) = finProdFinEquiv (s, c) := Fin.ext (Nat.add_comm _ _)

omit [FloatOps F] [Named F] in
theorem oPts_parts (d : Dev nD) (f : Buf (Elt F) (oLoc d)) :
    (oLoc d ↦{fullShare} f : sProp 𝕄) = bigSep Finset.univ fun i : Fin 128 => oLoc d ↦[(oPart i).set]{fullShare} f := by
  rw [← pointsTo_biUnion Finset.univ (ℓ := oLoc d) (fun i : Fin 128 => (oPart i).set) (fun i _ j _ h => Rect.part_disjoint odiv h), Rect.biUnion_part odiv]
omit [FloatOps F] [Named F] in
theorem lPts_parts (d : Dev nD) (f : Buf (Elt F) (lLoc d)) :
    (lLoc d ↦{fullShare} f : sProp 𝕄) = bigSep Finset.univ fun i : Fin 32 => lLoc d ↦[(lPart i).set]{fullShare} f := by
  rw [← pointsTo_biUnion Finset.univ (ℓ := lLoc d) (fun i : Fin 32 => (lPart i).set) (fun i _ j _ h => Rect.part_disjoint ldiv h), Rect.biUnion_part ldiv]
omit [FloatOps F] [Named F] in
theorem oPts_tiles (d : Dev nD) (f : Buf (Elt F) (oLoc d)) :
    (oLoc d ↦{fullShare} f : sProp 𝕄)
      = bigSep Finset.univ fun w : Fin 32 => bigSep Finset.univ fun k : Fin 4 => oLoc d ↦[(oPart (⟨4 * w.val + k.val, by omega⟩ : Fin 128)).set]{fullShare} f := by
  rw [oPts_parts, bigSep_univ_equiv (finProdFinEquiv : Fin 32 × Fin 4 ≃ Fin 128), bigSep_univ_prod]
  refine bigSep_congr fun w _ => bigSep_congr fun k _ => ?_
  rw [show (finProdFinEquiv (w, k) : Fin 128) = ⟨4 * w.val + k.val, by omega⟩ from Fin.ext (Nat.add_comm _ _)]

omit [FloatOps F] [Named F] in
theorem leaves32 (ℓ : Loc nD τ sig) (f : Buf (Elt F) ℓ) : (ℓ ↦{fullShare} f : sProp 𝕄) = bigSep Finset.univ fun w : Fin 32 => ℓ ↦{sh w} f :=
  ShareLeaves.pointsTo_leaves Finset.univ f 5 fullShare

/-- All the tasks' parts together are the five arrays whole. -/
theorem parts_eq (zv : S10240x512.Idx → F .f32) (mv : S8192x512.Idx → F .f32) (iv : S128x80.Idx → BitVec 32) (fo : S10240x512.Idx → F .f32) (fl : S32x16.Idx → F .f32) (d : Dev nD) :
    (bigSep Finset.univ fun c : Fin 2 => bigSep Finset.univ fun s : Fin 16 => goP zv mv iv fo fl d (wid (coordsV c s)))
      = (iprop((iLoc d ↦{fullShare} iv) ∗ (mLoc d ↦{fullShare} mv) ∗ (zLoc d ↦{fullShare} zv) ∗ (oLoc d ↦{fullShare} fo) ∗ lLoc d ↦{fullShare} fl) : sProp 𝕄) := by
  rw [leaves32 (iLoc d), leaves32 (mLoc d), leaves32 (zLoc d), oPts_tiles, lPts_parts, ← bigSep_sep', ← bigSep_sep', ← bigSep_sep', ← bigSep_sep',
    bigSep_univ_comm, ← bigSep_univ_prod (fun p : Fin 16 × Fin 2 => goP zv mv iv fo fl d (wid (coordsV p.2 p.1))),
    bigSep_univ_equiv (finProdFinEquiv : Fin 16 × Fin 2 ≃ Fin 32)]
  exact bigSep_congr fun p _ => by rw [wid_coords]

/-! ## What the handshakes carry -/

variable (m : (ℓ : Loc nD τ sig) → Buf (Elt F) ℓ) (ρ : Dev nD → PrngReg)

/-- The index argument in rows of eighty. -/
def idx2 (x : S1024x10.Idx → BitVec 32) : S128x80.Idx → BitVec 32 := shapeCast S128x80 x shapeCasts_S1024x10_S128x80

abbrev aLoc (d : Dev nD) : Loc nD τ sig := (SparseCore.T d).loc main_arg2
abbrev rLoc (d : Dev nD) : Loc nD τ sig := (SparseCore.T d).loc main_v5

abbrev goL (d : Dev nD) (w : Fin 32) : sProp 𝕄 := goP (m (zLoc d)) (m (mLoc d)) (idx2 (m (aLoc d))) (m (oLoc d)) (m (lLoc d)) d w
abbrev tdL (d : Dev nD) (w : Fin 32) : sProp 𝕄 :=
  goP (m (zLoc d)) (m (mLoc d)) (idx2 (m (aLoc d))) (outv (m (zLoc d)) (m (mLoc d)) (idx2 (m (aLoc d)))) (lpv (m (zLoc d)) (m (mLoc d)) (idx2 (m (aLoc d)))) d w

def P : (K (F := F)).Pay (nD := nD) (Val := Elt F) (Name := ℕ) (U := UU) where
  st := fun q d c => match q with | 0 => bigSep Finset.univ fun s : Fin 16 => goL m d (wid (coordsV ⟨c.val, c.isLt⟩ s))
  dn := fun q d c => match q with | 0 => bigSep Finset.univ fun s : Fin 16 => tdL m d (wid (coordsV ⟨c.val, c.isLt⟩ s))
  go := fun q d c s => match q with | 0 => goL m d (wid (coordsV ⟨c.val, c.isLt⟩ ⟨s.val, s.isLt⟩))
  td := fun q d c s => match q with | 0 => tdL m d (wid (coordsV ⟨c.val, c.isLt⟩ ⟨s.val, s.isLt⟩))
  x := fun _ _ => iprop(emp)

instance P_storable : (P (F := F) m).IsStorable where
  st q d c := match q with
    | 0 => (inferInstance : BI.Storable (upEmb : UEmb _ 𝕄) (bigSep Finset.univ fun s : Fin 16 => goL m d (wid (coordsV ⟨c.val, c.isLt⟩ s))))
  dn q d c := match q with
    | 0 => (inferInstance : BI.Storable (upEmb : UEmb _ 𝕄) (bigSep Finset.univ fun s : Fin 16 => tdL m d (wid (coordsV ⟨c.val, c.isLt⟩ s))))
  go q d c s := match q with
    | 0 => (inferInstance : BI.Storable (upEmb : UEmb _ 𝕄) (goL m d (wid (coordsV ⟨c.val, c.isLt⟩ ⟨s.val, s.isLt⟩))))
  td q d c s := match q with
    | 0 => (inferInstance : BI.Storable (upEmb : UEmb _ 𝕄) (tdL m d (wid (coordsV ⟨c.val, c.isLt⟩ ⟨s.val, s.isLt⟩))))

/-- What the proof asks of the launch memory: every index is below 8192. -/
def PreOK : Prop := ∀ (d : Dev nD) (j : S1024x10.Idx), (m (aLoc d) j).toNat < 8192

theorem vecSplit : (K (F := F)).VecSplit' (P m) 0 := by
  intro d c
  show (bigSep Finset.univ fun s : Fin 16 => goL m d (wid (coordsV ⟨c.val, c.isLt⟩ s))) ⊢ |={Set.univ}=> iprop(
      (bigSep Finset.univ fun s : Fin 16 => goL m d (wid (coordsV ⟨c.val, c.isLt⟩ s)))
      ∗ ((bigSep Finset.univ fun s : Fin 16 => tdL m d (wid (coordsV ⟨c.val, c.isLt⟩ s))) -∗ bigSep Finset.univ fun s : Fin 16 => tdL m d (wid (coordsV ⟨c.val, c.isLt⟩ s))))
  iintro H; imodintro
  isplitl [H]; · iexact H
  iintro H; iexact H

/-! ## A task, as the launch asks for it -/

theorem defs₀_vector (c : Fin τ.nSC) (s : Fin τ.nSub) :
    defs₀ (F := F) (.scVector c s) 0 ()
      = SparseCore.onTile hcore0 hsub0 (fun c s => cc0_body (coordsV c s)
          mV (Memref.isWhole_whole _) iV (Memref.isWhole_whole _) zV (Memref.isWhole_whole _) oV (Memref.isWhole_whole _) lV (Memref.isWhole_whole _)
            bI (Memref.isWhole_whole _) bR (Memref.isWhole_whole _) bZ (Memref.isWhole_whole _) bA (Memref.isWhole_whole _) cc0_scratch4
            cc0_scoped0 cc0_scoped1 cc0_scoped2 cc0_scoped3 cc0_scoped4 cc0_scoped5 cc0_scoped6 cc0_scoped7 cc0_scoped8 cc0_scoped9 cc0_scoped10 cc0_scoped11 cc0_scoped12) ⟨⟩ c s := rfl

omit [FloatOps F] [Named F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (m (zLoc d)) (m (mLoc d)) (idx2 (m (aLoc d))) (fun _ => hpre d _) (m (oLoc d)) (m (lLoc d)) O W hO).trans
    (wp_mono frame _ _ fun _ => obl_post)

/-! ## The launch element of the ghost state -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emp']
  iempintro

/-! ## @main on the TensorCore -/

/-- The host operation before the call, and those after it. -/
def ops1 : List (HloOp τ sig (Elt F)) := [StableHlo.reshape main_arg2 main_v0 (rfl : (.i32 : EltTy) = .i32) shapeCasts_S1024x10_S128x80]
def ops2 : List (HloOp τ sig (Elt F)) := [
  StableHlo.nullary main_cst (constant S_ .f32 0x00000000#32),
  StableHlo.binary main_v1_1 main_cst main_v2 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
  StableHlo.nullary main_cst_0 (constant S_ .f32 0x3F400000#32),
  StableHlo.binary main_cst_0 main_v2 main_v3 (mulf : (⟨S_, .f32⟩ : BufTy).Contents (Elt F) → (⟨S_, .f32⟩ : BufTy).Contents (Elt F) → (⟨S_, .f32⟩ : BufTy).Contents (Elt F)),
  StableHlo.nullary main_cst_1 (constant S_ .f32 0x3E800000#32),
  StableHlo.binary main_cst_1 main_v2 main_v4 (mulf : (⟨S_, .f32⟩ : BufTy).Contents (Elt F) → (⟨S_, .f32⟩ : BufTy).Contents (Elt F) → (⟨S_, .f32⟩ : BufTy).Contents (Elt F)),
  StableHlo.binary main_v3 main_v4 main_v5 (addf : (⟨S_, .f32⟩ : BufTy).Contents (Elt F) → (⟨S_, .f32⟩ : BufTy).Contents (Elt F) → (⟨S_, .f32⟩ : BufTy).Contents (Elt F))]

/-- The loss, of the partial sums. -/
def lossOf (lp : S32x16.Idx → F .f32) : S_.Idx → F .f32 :=
  addf (mulf (constant S_ .f32 0x3F400000#32) (Host.reduceAdd (F := F) lp (constant S_ .f32 0x00000000#32) reducesTo_S32x16_S_d0_1 h_S_))
    (mulf (constant S_ .f32 0x3E800000#32) (Host.reduceAdd (F := F) lp (constant S_ .f32 0x00000000#32) reducesTo_S32x16_S_d0_1 h_S_))

theorem main_eq (d : Dev nD) : main (F := F) d = StableHlo.seq ops1 >>= fun _ => (sc (F := F)).run d 0 >>= fun _ => StableHlo.seq ops2 >>= pure := rfl

abbrev ref (b : Ref sig .tc) : DevRef τ sig := Proc.devRef .tc b
/-- What the call reads and writes; what the claims read. -/
abbrev S5 : Finset (DevRef τ sig) := {ref main_v0, ref main_arg1, ref main_arg0, ref main_v1_0, ref main_v1_1}
abbrev R5 : Finset (DevRef τ sig) := {ref main_arg0, ref main_arg1, ref main_arg2, ref main_v1_0, ref main_v5}
abbrev US : Finset (DevRef τ sig) := Pipeline.ucRefs τ sig
theorem S5_sub : S5 ⊆ US := by decide
theorem R5_sub : R5 ⊆ US := by decide

/-- The launch valuation, that before the call, that after it and the last. -/
abbrev V0 (d : Dev nD) : Valuation τ sig (Elt F) := fun b => m (d, b)
abbrev V1 (d : Dev nD) : Valuation τ sig (Elt F) := after ops1 (V0 m d)
def V2 (d : Dev nD) : Valuation τ sig (Elt F) :=
  Function.update (Function.update (V1 m d) (ref main_v1_0) (outv (m (zLoc d)) (m (mLoc d)) (idx2 (m (aLoc d))))) (ref main_v1_1) (lpv (m (zLoc d)) (m (mLoc d)) (idx2 (m (aLoc d))))
abbrev V3 (d : Dev nD) : Valuation τ sig (Elt F) := after ops2 (V2 m d)

omit [FloatOps F] [Named F] in
theorem held_S5 (d : Dev nD) (W : Valuation τ sig (Elt F)) :
    (held (T d) S5 W : sProp 𝕄)
      = iprop((iLoc d ↦{fullShare} W (ref main_v0)) ∗ (mLoc d ↦{fullShare} W (ref main_arg1)) ∗ (zLoc d ↦{fullShare} W (ref main_arg0))
          ∗ (oLoc d ↦{fullShare} W (ref main_v1_0)) ∗ lLoc d ↦{fullShare} W (ref main_v1_1)) := by
  unfold held S5
  rw [SparseCore.bigSep_insert' (by decide), SparseCore.bigSep_insert' (by decide), SparseCore.bigSep_insert' (by decide),
    SparseCore.bigSep_insert' (by decide), bigSep_singleton]
omit [FloatOps F] [Named F] in
theorem held_R5 (d : Dev nD) (W : Valuation τ sig (Elt F)) :
    (held (T d) R5 W : sProp 𝕄)
      = iprop((zLoc d ↦{fullShare} W (ref main_arg0)) ∗ (mLoc d ↦{fullShare} W (ref main_arg1)) ∗ (aLoc d ↦{fullShare} W (ref main_arg2))
          ∗ (oLoc d ↦{fullShare} W (ref main_v1_0)) ∗ rLoc d ↦{fullShare} W (ref main_v5)) := by
  unfold held R5
  rw [SparseCore.bigSep_insert' (by decide), SparseCore.bigSep_insert' (by decide), SparseCore.bigSep_insert' (by decide),
    SparseCore.bigSep_insert' (by decide), bigSep_singleton]

theorem V1_idx (d : Dev nD) : V1 m d (ref main_v0) = idx2 (m (aLoc d)) := by
  show after ops1 (V0 m d) (Proc.devRef .tc main_v0) = _
  unfold ops1; after_results
  rfl
theorem V1_ne (d : Dev nD) (b : Ref sig .tc) (h : b ≠ main_v0) : V1 m d (ref b) = m (d, ref b) := by
  show after ops1 (V0 m d) (Proc.devRef .tc b) = _
  unfold ops1; rw [StableHlo.after_cons, StableHlo.after_nil, StableHlo.reshape_result_ne (h := h)]

theorem V2_out (d : Dev nD) : V2 m d (ref main_v1_0) = outv (m (zLoc d)) (m (mLoc d)) (idx2 (m (aLoc d))) :=
  (Function.update_of_ne (by decide) _ _).trans (Function.update_self _ _ _)
theorem V2_lp (d : Dev nD) : V2 m d (ref main_v1_1) = lpv (m (zLoc d)) (m (mLoc d)) (idx2 (m (aLoc d))) := Function.update_self _ _ _
theorem V2_ne (d : Dev nD) (b : DevRef τ sig) (h : b ≠ ref main_v1_0) (h' : b ≠ ref main_v1_1) : V2 m d b = V1 m d b :=
  (Function.update_of_ne h' _ _).trans (Function.update_of_ne h _ _)

theorem V3_loss (d : Dev nD) : V3 m d (ref main_v5) = lossOf (lpv (m (zLoc d)) (m (mLoc d)) (idx2 (m (aLoc d)))) := by
  show after ops2 (V2 m d) (Proc.devRef .tc main_v5) = _
  unfold ops2; after_results
  rw [← V2_lp]; rfl
theorem V3_ne (d : Dev nD) (b : Ref sig .tc) (h : b ∉ ([main_cst, main_v2, main_cst_0, main_v3, main_cst_1, main_v4, main_v5] : List (Ref sig .tc))) :
    V3 m d (ref b) = V2 m d (ref b) :=
  StableHlo.after_of_writes_sub ops2 (V2 m d) (W := [main_cst, main_v2, main_cst_0, main_v3, main_cst_1, main_v4, main_v5]) (StableHlo.forall_writes_sub_of_map rfl) h

/-- What @main leaves the claims. -/
abbrev FIN (d : Dev nD) : sProp 𝕄 :=
  iprop((zLoc d ↦{fullShare} m (zLoc d)) ∗ (mLoc d ↦{fullShare} m (mLoc d)) ∗ (aLoc d ↦{fullShare} m (aLoc d))
    ∗ (oLoc d ↦{fullShare} outv (m (zLoc d)) (m (mLoc d)) (idx2 (m (aLoc d)))) ∗ rLoc d ↦{fullShare} lossOf (lpv (m (zLoc d)) (m (mLoc d)) (idx2 (m (aLoc d)))))

theorem held_fin (d : Dev nD) : (held (T d) R5 (V3 m d) : sProp 𝕄) = FIN m d := by
  rw [held_R5, V3_loss, V3_ne m d main_arg0 (by decide), V3_ne m d main_arg1 (by decide), V3_ne m d main_arg2 (by decide), V3_ne m d main_v1_0 (by decide), V2_out,
    V2_ne m d _ (by decide) (by decide), V2_ne m d (ref main_arg1) (by decide) (by decide), V2_ne m d (ref main_arg2) (by decide) (by decide),
    V1_ne m d main_arg0 (by decide), V1_ne m d main_arg1 (by decide), V1_ne m d main_arg2 (by decide)]

theorem st_eq (d : Dev nD) : (bigSep Finset.univ fun c : Fin ((K (F := F)).nCore 0) => (P m).st 0 d c) = (held (T d) S5 (V1 m d) : sProp 𝕄) := by
  rw [held_S5, V1_idx, V1_ne m d main_arg1 (by decide), V1_ne m d main_arg0 (by decide), V1_ne m d main_v1_0 (by decide), V1_ne m d main_v1_1 (by decide)]
  exact parts_eq _ _ _ _ _ d
theorem dn_eq (d : Dev nD) : (bigSep Finset.univ fun c : Fin ((K (F := F)).nCore 0) => (P m).dn 0 d c) = (held (T d) S5 (V2 m d) : sProp 𝕄) := by
  rw [held_S5, V2_out, V2_lp, V2_ne m d (ref main_v0) (by decide) (by decide), V2_ne m d (ref main_arg1) (by decide) (by decide), V2_ne m d (ref main_arg0) (by decide) (by decide),
    V1_idx, V1_ne m d main_arg1 (by decide), V1_ne m d main_arg0 (by decide)]
  exact parts_eq _ _ _ _ _ d

theorem rest_eq (d : Dev nD) : (held (T d) (US \ S5) (V1 m d) : sProp 𝕄) = held (T d) (US \ S5) (V2 m d) :=
  held_congr _ fun b hb => (V2_ne m d b (fun e => by subst e; revert hb; decide) (fun e => by subst e; revert hb; decide)).symm

theorem ops1_sub : ∀ op ∈ ops1 (F := F), op.bufs ⊆ US := by
  intro op h; rcases List.mem_singleton.mp h with rfl
  show ({ref main_arg2, ref main_v0} : Finset (DevRef τ sig)) ⊆ US; decide
theorem ops2_sub : ∀ op ∈ ops2 (F := F), op.bufs ⊆ US := by
  intro op h
  simp only [ops2, List.mem_cons, List.not_mem_nil, or_false] at h
  rcases h with rfl | rfl | rfl | rfl | rfl | rfl | rfl
  · show ({ref main_cst} : Finset (DevRef τ sig)) ⊆ US; decide
  · show ({ref main_v1_1, ref main_cst, ref main_v2} : Finset (DevRef τ sig)) ⊆ US; decide
  · show ({ref main_cst_0} : Finset (DevRef τ sig)) ⊆ US; decide
  · show ({ref main_cst_0, ref main_v2, ref main_v3} : Finset (DevRef τ sig)) ⊆ US; decide
  · show ({ref main_cst_1} : Finset (DevRef τ sig)) ⊆ US; decide
  · show ({ref main_cst_1, ref main_v2, ref main_v4} : Finset (DevRef τ sig)) ⊆ US; decide
  · show ({ref main_v3, ref main_v4, ref main_v5} : Finset (DevRef τ sig)) ⊆ US; decide

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (T d) US (V0 m d) from Pipeline.unscopedBufs_held d (V0 m d)]
  iintro ⟨#Hctx, Hst, ⟨Hb, Hheld, Hts, -⟩, -⟩
  iapply (StableHlo.wp_seq 𝒱 none Set.univ d US _ ops1 ops1_sub (List.forall_iff_forall_mem.mp (StableHlo.forall_fresh_of_map rfl)) (V0 m d)) $$ [Hb Hheld]
  · isplitl [Hb] <;> iassumption
  iintro ⟨Hb, Hheld⟩
  rw [wp_bind]
  ihave Hh := (Entails.of_eq (held_sub_split (T d) S5_sub (V1 m d))) $$ Hheld
  icases Hh with ⟨H5, Hrest⟩
  iapply ((K (F := F)).wp_run (D (F := F)) 𝒱 (EH := EH) (P := P m) κ d 0) $$ [Hst H5 Hrest Hb Hts]
  isplitr; · iexact Hctx
  isplitl [Hst]; · iexact Hst
  isplitl [H5]; · rw [st_eq]; iexact H5
  iintro ⟨Hst, Hdn⟩
  ihave H5 := (Entails.of_eq (dn_eq m d)) $$ Hdn
  ihave Hrest := (Entails.of_eq (rest_eq m d)) $$ Hrest
  iapply (StableHlo.wp_seq 𝒱 none Set.univ d US _ ops2 ops2_sub (List.forall_iff_forall_mem.mp (StableHlo.forall_fresh_of_map rfl)) (V2 m d)) $$ [Hb H5 Hrest]
  · isplitl [Hb]; · iexact Hb
    rw [held_sub_split _ S5_sub]
    isplitl [H5] <;> iassumption
  iintro ⟨Hb, Hheld⟩
  ihave Hh := (Entails.of_eq (held_sub_split (T d) R5_sub (V3 m d))) $$ Hheld
  icases Hh with ⟨HR, -⟩
  ihave HR := (Entails.of_eq (held_fin m d)) $$ HR
  rw [wp_pure]; imodintro
  isplitl [Hst]; · iexact Hst
  isplitr [Hb Hts]
  · iexact HR
  isplitl [Hb] <;> iassumption

/-! ## The run -/

/-- What the final memory holds on device `d`. -/
def Fin' (d : Dev nD) (mem : (ℓ : Loc nD τ sig) → Buf (Elt F) ℓ) : Prop :=
  mem (zLoc d) = m (zLoc d) ∧ mem (mLoc d) = m (mLoc d) ∧ mem (aLoc d) = m (aLoc d)
    ∧ mem (oLoc d) = outv (m (zLoc d)) (m (mLoc d)) (idx2 (m (aLoc d))) ∧ mem (rLoc d) = lossOf (lpv (m (zLoc d)) (m (mLoc d)) (idx2 (m (aLoc d))))

omit [FloatOps F] [Named F] in
theorem agree_one (s' : Phys nD τ sig (Elt F)) (ℓ : Loc nD τ sig) (f : Buf (Elt F) ℓ) : iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜Fin' m d s'.mem.mem⌝ : sProp 𝕄) := by
  iintro ⟨⟨Hz, Hm, Ha, Ho, Hr⟩, HSI⟩
  ihave H := (agree_one s' _ _) $$ [HSI Hz]
  · isplitl [Hz] <;> iassumption
  icases H with ⟨%hz, HSI⟩
  ihave H := (agree_one s' _ _) $$ [HSI Hm]
  · isplitl [Hm] <;> iassumption
  icases H with ⟨%hm, HSI⟩
  ihave H := (agree_one s' _ _) $$ [HSI Ha]
  · isplitl [Ha] <;> iassumption
  icases H with ⟨%ha, HSI⟩
  ihave H := (agree_one s' _ _) $$ [HSI Ho]
  · isplitl [Ho] <;> iassumption
  icases H with ⟨%ho, HSI⟩
  ihave H := (agree_one s' _ _) $$ [HSI Hr]
  · isplitl [Hr] <;> iassumption
  icases H with ⟨%hr, -⟩
  ipureintro; exact ⟨hz, hm, ha, ho, hr⟩

/-- Every run ends, every semaphore at zero, the arguments unchanged and the results at the tasks' values. -/
theorem run_main [∀ e, Nonempty (Elt F e)] (hpre : PreOK m) :
    θ_run (Cert.KernelIdeal.defs (F := F)) (Cert.KernelIdeal.threads (F := F)) ⟨m, fun _ => 0, ρ⟩ fun r => (∀ d : Dev nD, Fin' m d r.2.mem) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fun d s' => Fin' m d s'.mem.mem) (hfin m) _ (fun _ h hz => ⟨h, hz⟩)

end Cert.Proof.Sc

end
-- ==== Proof.Sums.lean ====
/-
  The partial sums over the extended reals: what the accumulators add up to, and the sum of all of them.
-/
module

public import proofs.«01_k».proof.Defs
public import proofs.«01_k».proof.Proof.Launch
public import Idealize.ShloMosaic.Lib.Pipeline.ValueKit.Acc
public import Idealize.ShloMosaic.PureOps.Ideal
public import Idealize.ShloMosaic.Lib.Pointwise

@[expose] public section

noncomputable section

namespace Cert.Proof.Sc

open Cert.KernelIdeal Cert.KernelIdeal.Gen
open Idealize.ShloMosaic

/-- The square of a difference does not see its sign. -/
theorem sq_swap (a b : EReal) : (a - b) * (a - b) = (b - a) * (b - a) := by
  induction a with
  | bot => induction b with
    | bot => rfl
    | coe y => simp
    | top => simp
  | top => induction b with
    | bot => simp
    | coe y => simp
    | top => rfl
  | coe x => induction b with
    | bot => simp
    | coe y => rw [← EReal.coe_sub, ← EReal.coe_sub, ← EReal.coe_mul, ← EReal.coe_mul]; congr 1; ring
    | top => simp

/-- A factor that is a real number, not negative, comes out of a sum. -/
theorem sum_mul_real {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (EReal.coe_nonneg.2 hc) (EReal.coe_ne_top c)]

/-- The squared difference of two arrays at row `t`, column `j`. -/
def sqd {n : ℕ} (q z : (⟨2, ![n, 512]⟩ : Shape).Idx → EReal) (t : Fin n) (j : Fin 512) : EReal :=
  (q (ValueIdx.ix2 t j) - z (ValueIdx.ix2 t j)) * (q (ValueIdx.ix2 t j) - z (ValueIdx.ix2 t j))

/-- Column `16 c + l`. -/
def lane (c : Fin 32) (l : Fin 16) : Fin 512 := ⟨c.val * 16 + l.val, by omega⟩
/-- A row of a chunk. -/
def row80 (t : Fin k0_t1_loop.trips) : Fin 80 := ⟨t.val, trips_eq ▸ t.isLt⟩

theorem slice_lane (f : S80x512.Idx → EReal) (t : Fin k0_t1_loop.trips) (c : Fin 32) (l : Fin 16) :
    shapeCast S16 (sliceOf (F := Ideal) f t c) shapeCasts_S1x16_S16 (ValueIdx.ix1 l) = f (ValueIdx.ix2 (row80 t) (lane c l)) := by
  show f ((Rect.unit (s := S80x512) (sOff t c) S1x16.size (sOff_inb t c)).emb (Shape.reshapeEquiv shapeCasts_S1x16_S16 (ValueIdx.ix1 l))) = _
  rw [Shape.reshapeEquiv_cons_one (n := 1) (d := ![16])]
  obtain ⟨h0, h1⟩ := emb_strip t c (Fin.cons ⟨0, Nat.one_pos⟩ (ValueIdx.ix1 l))
  refine congrArg f (funext fun a => Fin.ext ?_)
  match a with
  | 0 => exact h0
  | 1 => exact h1.trans (by show 16 * c.val + l.val = c.val * 16 + l.val; omega)

theorem acc_lane (a : FVec Ideal S16 .f32) (q z : S80x512.Idx → EReal) (t : Fin k0_t1_loop.trips) (c : Fin 32) (l : Fin 16) :
    acc (F := Ideal) a (sliceOf (F := Ideal) q t c) (sliceOf (F := Ideal) z t c) (ValueIdx.ix1 l)
      = (a (ValueIdx.ix1 l) : EReal) + sqd (n := 80) q z (row80 t) (lane c l) := by
  show (a (ValueIdx.ix1 l) : EReal) + (_ - _) * (_ - _) = _
  rw [slice_lane, slice_lane]
  rfl

/-- The eight accumulators of lane `l` together. -/
def tot (a : Acc Ideal) (l : Fin 16) : EReal :=
  ((((a.1 (ValueIdx.ix1 l) : EReal) + (a.2.1 (ValueIdx.ix1 l) : EReal)) + ((a.2.2.1 (ValueIdx.ix1 l) : EReal) + (a.2.2.2.1 (ValueIdx.ix1 l) : EReal)))
    + (((a.2.2.2.2.1 (ValueIdx.ix1 l) : EReal) + (a.2.2.2.2.2.1 (ValueIdx.ix1 l) : EReal)) + ((a.2.2.2.2.2.2.1 (ValueIdx.ix1 l) : EReal) + (a.2.2.2.2.2.2.2 (ValueIdx.ix1 l) : EReal))))

theorem tot_group (q z : S80x512.Idx → EReal) (t : Fin k0_t1_loop.trips) (g : Fin 4) (a : Acc Ideal) (l : Fin 16) :
    tot (accGroup (F := Ideal) q z t g a) l = tot a l + ∑ j : Fin 8, sqd (n := 80) q z (row80 t) (lane (col g j) l) := by
  obtain ⟨a0, a1, a2, a3, a4, a5, a6, a7⟩ := a
  unfold accGroup tot
  simp only [acc_lane, Fin.sum_univ_eight]
  ac_rfl

theorem tot_row (q z : S80x512.Idx → EReal) (t : Fin k0_t1_loop.trips) (a : Acc Ideal) (l : Fin 16) :
    tot (accRow (F := Ideal) q z t a) l = tot a l + ∑ c : Fin 32, sqd (n := 80) q z (row80 t) (lane c l) := by
  unfold accRow
  rw [tot_group, tot_group, tot_group, tot_group]
  have e : ∑ g : Fin 4, ∑ j : Fin 8, sqd (n := 80) q z (row80 t) (lane (col g j) l) = ∑ c : Fin 32, sqd (n := 80) q z (row80 t) (lane c l) :=
    Fin.sum_mul_add_congr fun g j h => by
      have e : col g j = ⟨g.val * 8 + j.val, h⟩ := Fin.ext (by show 8 * g.val + j.val = g.val * 8 + j.val; omega)
      rw [e]
  rw [← e, Fin.sum_univ_four]
  ac_rfl

theorem tot_rows (q z : S80x512.Idx → EReal) (a : Acc Ideal) (l : Fin 16) (n : ℕ) (hn : n ≤ 80) :
    tot (accRows (F := Ideal) q z a n) l = tot a l + ∑ t : Fin n, ∑ c : Fin 32, sqd (n := 80) q z ⟨t.val, lt_of_lt_of_le t.isLt hn⟩ (lane c l) := by
  induction n with
  | zero => simp [accRows]
  | succ n ih =>
    have h : n < k0_t1_loop.trips := by rw [trips_eq]; omega
    rw [accRows, dif_pos h, tot_row, ih (by omega), add_assoc]
    refine congrArg (tot a l + ·) ?_
    exact (Fin.sum_univ_castSucc (fun t : Fin (n + 1) => ∑ c : Fin 32, sqd (n := 80) q z ⟨t.val, lt_of_lt_of_le t.isLt hn⟩ (lane c l))).symm

theorem tot_chunk (zv : S10240x512.Idx → EReal) (mv : S8192x512.Idx → EReal) (iv : S128x80.Idx → BitVec 32) (n : Fin 128) (a : Acc Ideal) (l : Fin 16) :
    tot (accChunk (F := Ideal) zv mv iv n a) l
      = tot a l + ∑ t : Fin 80, ∑ c : Fin 32, sqd (n := 80) (qOf (F := Ideal) mv iv n) (zOf (F := Ideal) zv n) t (lane c l) := by
  unfold accChunk
  rw [trips_eq]
  exact tot_rows _ _ _ _ 80 le_rfl

/-- Chunk `k` of tile `w`. -/
def chunkOf (w : Fin 32) (k : Fin 4) : Fin 128 := ⟨w.val * 4 + k.val, by omega⟩

theorem tot_tile (zv : S10240x512.Idx → EReal) (mv : S8192x512.Idx → EReal) (iv : S128x80.Idx → BitVec 32) (w : Fin 32) (l : Fin 16) :
    tot (accTile (F := Ideal) zv mv iv w) l
      = ∑ k : Fin 4, ∑ t : Fin 80, ∑ c : Fin 32, sqd (n := 80) (qOf (F := Ideal) mv iv (chunkOf w k)) (zOf (F := Ideal) zv (chunkOf w k)) t (lane c l) := by
  have h0 : tot (acc0 (F := Ideal)) l = 0 := by
    have e : ∀ p : S16.Idx, ((broadcast S16 (Scalar.ofBits (F := Ideal) .f32 0x00000000#32) : FVec Ideal S16 .f32) p : EReal) = 0 := fun _ => Ideal.ofBits_zero_f32
    simp only [tot, acc0, e, add_zero]
  have hk : ∀ (k : Fin 4) (h : 4 * w.val + k.val < 128), (⟨4 * w.val + k.val, h⟩ : Fin 128) = chunkOf w k :=
    fun k h => Fin.ext (by show 4 * w.val + k.val = w.val * 4 + k.val; omega)
  unfold accTile
  rw [tot_chunk, tot_chunk, tot_chunk, tot_chunk, h0, zero_add, Fin.sum_univ_four, ← hk 0 (by show 4 * w.val + 0 < 128; omega), ← hk 1 (by show 4 * w.val + 1 < 128; omega), ← hk 2 (by show 4 * w.val + 2 < 128; omega), ← hk 3 (by show 4 * w.val + 3 < 128; omega)]
  rfl

theorem lpv_eq (zv : S10240x512.Idx → EReal) (mv : S8192x512.Idx → EReal) (iv : S128x80.Idx → BitVec 32) (w : Fin 32) (l : Fin 16) :
    (lpv (F := Ideal) zv mv iv (ValueIdx.ix2 w l) : EReal) = tot (accTile (F := Ideal) zv mv iv w) l * ((5242880⁻¹ : ℝ) : EReal) := rfl

/-- The gathered rows, all of them. -/
def gath (mv : S8192x512.Idx → EReal) (iv : S128x80.Idx → BitVec 32) : S10240x512.Idx → EReal := fun y =>
  mv (ValueIdx.ix2 (rowAt iv (⟨(y 0).val / 80, by have h : (y 0).val < 10240 := (y 0).isLt; omega⟩ : Fin 128)
    (⟨(y 0).val % 80, Nat.mod_lt _ (by decide)⟩ : Fin 80)) (y 1 : Fin 512))

theorem sqd_chunk (zv : S10240x512.Idx → EReal) (mv : S8192x512.Idx → EReal) (iv : S128x80.Idx → BitVec 32) (n : Fin 128) (t : Fin 80) (j : Fin 512)
    (h : n.val * 80 + t.val < 10240) :
    sqd (n := 80) (qOf (F := Ideal) mv iv n) (zOf (F := Ideal) zv n) t j = sqd (n := 10240) (gath mv iv) zv ⟨n.val * 80 + t.val, h⟩ j := by
  have hq : qOf (F := Ideal) mv iv n (ValueIdx.ix2 t j) = gath mv iv (ValueIdx.ix2 (⟨n.val * 80 + t.val, h⟩ : Fin 10240) j) := by
    have ht := t.isLt
    have e1 : (⟨(n.val * 80 + t.val) / 80, by omega⟩ : Fin 128) = n := Fin.ext (by show (n.val * 80 + t.val) / 80 = n.val; omega)
    have e2 : (⟨(n.val * 80 + t.val) % 80, Nat.mod_lt _ (by decide)⟩ : Fin 80) = t := Fin.ext (by show (n.val * 80 + t.val) % 80 = t.val; omega)
    show mv (ValueIdx.ix2 (rowAt iv n t) j) = mv (ValueIdx.ix2 (rowAt iv (⟨(n.val * 80 + t.val) / 80, by omega⟩ : Fin 128) (⟨(n.val * 80 + t.val) % 80, Nat.mod_lt _ (by decide)⟩ : Fin 80)) j)
    rw [e1, e2]
  have hz : zOf (F := Ideal) zv n (ValueIdx.ix2 t j) = zv (ValueIdx.ix2 (⟨n.val * 80 + t.val, h⟩ : Fin 10240) j) := by
    show zv (ValueIdx.ix2 (⟨80 * n.val + t.val, by omega⟩ : Fin 10240) j) = _
    congr 2; exact Fin.ext (by show 80 * n.val + t.val = n.val * 80 + t.val; omega)
  unfold sqd
  rw [hq, hz]

/-- All partial sums together: the scaled sum of all squared differences. -/
theorem sum_lpv (zv : S10240x512.Idx → EReal) (mv : S8192x512.Idx → EReal) (iv : S128x80.Idx → BitVec 32) :
    ∑ w : Fin 32, ∑ l : Fin 16, (lpv (F := Ideal) zv mv iv (ValueIdx.ix2 w l) : EReal)
      = (∑ i : Fin 10240, ∑ j : Fin 512, sqd (n := 10240) (gath mv iv) zv i j) * ((5242880⁻¹ : ℝ) : EReal) := by
  have hc : (0 : ℝ) ≤ 5242880⁻¹ := by positivity
  simp only [lpv_eq]
  rw [Finset.sum_congr rfl fun w _ => sum_mul_real Finset.univ (fun l => tot (accTile (F := Ideal) zv mv iv w) l) _ hc, sum_mul_real _ _ _ hc]
  refine congrArg (· * ((5242880⁻¹ : ℝ) : EReal)) ?_
  have e1 : ∑ n : Fin 128, ∑ t : Fin 80, ∑ j : Fin 512, sqd (n := 80) (qOf (F := Ideal) mv iv n) (zOf (F := Ideal) zv n) t j
      = ∑ i : Fin 10240, ∑ j : Fin 512, sqd (n := 10240) (gath mv iv) zv i j :=
    Fin.sum_mul_add_congr fun n t h => Finset.sum_congr rfl fun j _ => sqd_chunk zv mv iv n t j h
  have e2 : ∑ w : Fin 32, ∑ k : Fin 4, ∑ t : Fin 80, ∑ j : Fin 512, sqd (n := 80) (qOf (F := Ideal) mv iv (chunkOf w k)) (zOf (F := Ideal) zv (chunkOf w k)) t j
      = ∑ n : Fin 128, ∑ t : Fin 80, ∑ j : Fin 512, sqd (n := 80) (qOf (F := Ideal) mv iv n) (zOf (F := Ideal) zv n) t j :=
    Fin.sum_mul_add_congr (f := fun n : Fin 128 => ∑ t : Fin 80, ∑ j : Fin 512, sqd (n := 80) (qOf (F := Ideal) mv iv n) (zOf (F := Ideal) zv n) t j) fun w k h => rfl
  rw [← e1, ← e2]
  refine Finset.sum_congr rfl fun w _ => ?_
  simp only [tot_tile]
  rw [Finset.sum_comm]
  refine Finset.sum_congr rfl fun k _ => ?_
  rw [Finset.sum_comm]
  refine Finset.sum_congr rfl fun t _ => ?_
  rw [Finset.sum_comm]
  exact Fin.sum_mul_add_congr (S := 32) (n := 16) (fun c l h => rfl)

end Cert.Proof.Sc

end
-- ==== Proof.Frames.lean ====
/-
  What the precondition gives, and the frames of the kernel's two readings.
-/
module

public import proofs.«01_k».proof.Defs
public import proofs.«01_k».proof.Proof.Launch
public import proofs.«01_k».proof.Proof.Gen.Kernel
public import proofs.«01_k».proof.Proof.Gen.Pre_idx_in_rows
public import Idealize.ShloMosaic.Lib.ReduceAll

@[expose] public section

noncomputable section

namespace Cert.Proof.Sc

open Idealize.ShloMosaic Idealize.SL.Sem

/-- A word of the index array that passes both comparisons names a row of the codebook. -/
theorem lt_of_cmp (v : BitVec 32) (e : IntOp.andi (IntOp.cmpi .sge v 0#32) (IntOp.cmpi .slt v 8192#32) = 1#1) : v.toNat < 8192 := by
  have h1 (p q : Bool) : IntOp.andi (BitVec.ofBool p) (BitVec.ofBool q) = BitVec.ofBool (p && q) := by
    cases p <;> cases q <;> decide
  have h2 (p : Bool) : (BitVec.ofBool p = 1#1) ↔ p = true := by cases p <;> decide
  simp only [IntOp.cmpi, h1, h2, Bool.and_eq_true, BitVec.sle_eq_decide, BitVec.slt_eq_decide,
    decide_eq_true_eq, BitVec.toInt_eq_toNat_cond, BitVec.toNat_ofNat, Nat.reducePow, Nat.reduceMod] at e
  omega

/-- The precondition, entry by entry. -/
theorem rows_of_fn {F : FTy → Type} [FloatOps F] (x : FVec F Cert.Pre_idx_in_rows.S10240x512 .f32) (y : FVec F Cert.Pre_idx_in_rows.S8192x512 .f32)
    (v : IVec Cert.Pre_idx_in_rows.S1024x10 32) (h : Cert.Pre_idx_in_rows.fn x y v = fun _ => 1#1) (j : Cert.Pre_idx_in_rows.S1024x10.Idx) :
    (v j).toNat < 8192 := by
  simp only [Cert.Pre_idx_in_rows.fn] at h
  exact lt_of_cmp _ (Host.reduce_andi_eq_one _ _ _ _ (fun a => a.elim0) (congrFun h _) j (funext fun a => a.elim0))

theorem frame_kernel : Cert.quiescent_Kernel := fun m ρ hpre =>
  letI : Named Bits := ⟨fun _ _ _ bits => bits⟩
  (θ_run Cert.Kernel.defs _ _).mono (fun _ h => ⟨fun c => ⟨(h.1 c).1, (h.1 c).2.1, (h.1 c).2.2.1⟩, h.2⟩)
    (run_main (F := Bits) m ρ fun d j => rows_of_fn _ _ _ (hpre d) j)

theorem frame_kernelIdeal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ fun d j => rows_of_fn _ _ _ (hpre d) j)

end Cert.Proof.Sc

end
-- ==== Proof.Value.lean ====
/-
  The two programs' results are the same extended reals.
-/
module

public import proofs.«01_k».proof.Defs
public import proofs.«01_k».proof.Proof.Sums
public import proofs.«01_k».proof.Proof.Frames
public import proofs.«01_k».proof.Proof.Gen.ReferenceIdeal
public import Idealize.ShloMosaic.Lib.Claim
public import Idealize.ShloMosaic.Lib.Quiescent
public import Idealize.ShloMosaic.Lib.Routing.Ops
public import Idealize.ShloMosaic.Lib.IdealHost
public import Idealize.ShloMosaic.Lib.Tactic.WordOmega

@[expose] public section

noncomputable section

namespace Cert.Proof.Sc

open Idealize.ShloMosaic Idealize.SL.Sem

/-! ## The reference's gather -/

section Ref

open Cert.ReferenceIdeal Cert.ReferenceIdeal.Gen

/-- The index list as the reference reads it: flat. -/
def flat (av : IVec S1024x10 32) : IVec S10240 32 := fun i => shapeCast S10240 av shapeCasts_S1024x10_S10240 i

/-- The reference's index list, as its gather takes it. -/
def wrap (av : IVec S1024x10 32) : IVec S10240x1 32 :=
  broadcastInDim S10240x1 ![0] bcast_S10240_S10240x1_0
    (select (cmpi .slt (flat av) (broadcastInDim S10240 ![] bcast_S_S10240 (constantI S_ 32 0#32)))
      (addi (flat av) (broadcastInDim S10240 ![] bcast_S_S10240 (constantI S_ 32 8192#32))) (flat av))

/-- The rows the reference takes. -/
def refRows (mv : S8192x512.Idx → EReal) (av : IVec S1024x10 32) : S10240x512.Idx → EReal :=
  Host.gather gather_S8192x512_S10240x1_S10240x512_1_0_n_n_0_1_1512 mv (wrap av)

/-- Entry `i` of the flat list is entry `(i / 80, i % 80)` of the list cut into rows of eighty. -/
theorem flat_eq (av : IVec S1024x10 32) (i : Fin 10240) :
    flat av (ValueIdx.ix1 i) = idx2 av (ValueIdx.ix2 (⟨i.val / 80, by omega⟩ : Fin 128) (⟨i.val % 80, Nat.mod_lt _ (by decide)⟩ : Fin 80)) := by
  unfold flat idx2 shapeCast
  refine congrArg av (Shape.reshapeEquiv_eq_of_rowMajor _ ((Shape.rowMajor_reshapeEquiv _ _).trans ?_))
  refine (Shape.rowMajor_val_two _).trans (Eq.trans ?_ (Shape.rowMajor_val_one _).symm)
  show i.val / 80 * 80 + i.val % 80 = i.val
  omega

/-- A word that names a row is not wrapped around. -/
theorem wrap_word (v : BitVec 32) (h : v.toNat < 8192) :
    Scalar.select (IntOp.cmpi .slt v 0#32) (IntOp.addi v 8192#32) v = BitVec.ofNat 32 (v.toNat % 8192) := by
  have e : IntOp.cmpi .slt v 0#32 = 0#1 := by
    have h2 (p : Bool) : (BitVec.ofBool p = 0#1) ↔ p = false := by cases p <;> decide
    simp only [IntOp.cmpi, h2, BitVec.slt_eq_decide, decide_eq_false_iff_not, BitVec.toInt_eq_toNat_cond, BitVec.toNat_ofNat, Nat.reducePow, Nat.reduceMod]
    omega
  rw [e, Nat.mod_eq_of_lt h, BitVec.ofNat_toNat, BitVec.setWidth_eq]
  rfl

theorem wrap_eq (av : IVec S1024x10 32) (h : ∀ j, (av j).toNat < 8192) (i : Fin 10240) :
    wrap av (ValueIdx.ix2 i (0 : Fin 1))
      = BitVec.ofNat 32 (rowAt (idx2 av) (⟨i.val / 80, by omega⟩ : Fin 128) (⟨i.val % 80, Nat.mod_lt _ (by decide)⟩ : Fin 80)).val := by
  have e : wrap av (ValueIdx.ix2 i (0 : Fin 1))
      = Scalar.select (IntOp.cmpi .slt (flat av (ValueIdx.ix1 i)) 0#32) (IntOp.addi (flat av (ValueIdx.ix1 i)) 8192#32) (flat av (ValueIdx.ix1 i)) := by
    obtain ⟨k, hk, e⟩ : ∃ k : S10240.Idx, (k 0).val = i.val ∧ wrap av (ValueIdx.ix2 i (0 : Fin 1))
        = Scalar.select (IntOp.cmpi .slt (flat av k) 0#32) (IntOp.addi (flat av k) 8192#32) (flat av k) := ⟨_, rfl, rfl⟩
    have hk' : k = ValueIdx.ix1 i := funext fun a => Fin.ext (by
      match a with
      | 0 => exact hk)
    rw [e, hk']
  rw [e, wrap_word (flat av (ValueIdx.ix1 i)) (h _), flat_eq]
  rfl

theorem refRows_eq (mv : S8192x512.Idx → EReal) (av : IVec S1024x10 32) (h : ∀ j, (av j).toNat < 8192) :
    refRows mv av = gath mv (idx2 av) := by
  funext y
  have hy : y = ValueIdx.ix2 (y 0 : Fin 10240) (y 1 : Fin 512) := funext fun a => by
    match a with
    | 0 => rfl
    | 1 => rfl
  rw [hy]
  exact Routing.gather_row (nb := 8192) (B := 512) (n := 10240) _ rfl rfl rfl rfl rfl mv (wrap av) (y 0 : Fin 10240) (y 1 : Fin 512) _ (wrap_eq av h (y 0 : Fin 10240)) (by decide)

/-! ## The loss -/

/-- The number of elements. -/
theorem ofBits_count : Ideal.ofBits .f32 0x4AA00000#32 = ((5242880 : ℝ) : EReal) := by
  simp [Ideal.ofBits, Ideal.ieee, -EReal.coe_mul]; norm_num

/-- A sum over all of an array. -/
theorem sum_all {n0 n1 : ℕ} (h : (⟨2, ![n0, n1]⟩ : Shape).ReducesTo [0, 1] S_) (hu : 0 < S_.numel) (x : FVec Ideal (⟨2, ![n0, n1]⟩ : Shape) .f32) (j : S_.Idx) :
    (Host.reduceAdd (F := Ideal) x (constant S_ .f32 0x00000000#32) h hu j : EReal) = ∑ a : Fin n0, ∑ b : Fin n1, (x (ValueIdx.ix2 a b) : EReal) := by
  rw [ValueIdx.hostReduceAdd_apply]
  show Ideal.ofBits .f32 0x00000000#32 + ∑ i ∈ Finset.univ.filter (fun i => h.drop i = j), (x i : EReal) = _
  rw [Ideal.ofBits_zero_f32, zero_add, Finset.filter_true_of_mem fun i _ => (funext fun a => a.elim0 : h.drop i = j)]
  exact sum_idx2 fun i => (x i : EReal)

/-- The mean of the squared differences, as the reference takes it. -/
theorem mean_eq (q z : S10240x512.Idx → EReal) (x : FVec Ideal S10240x512 .f32) (hx : ∀ (i : Fin 10240) (j : Fin 512), (x (ValueIdx.ix2 i j) : EReal) = sqd (n := 10240) q z i j) (j : S_.Idx) :
    (Host.divf (F := Ideal) (Host.reduceAdd (F := Ideal) x (constant S_ .f32 0x00000000#32) reducesTo_S10240x512_S_d0_1 h_S_) (constant S_ .f32 0x4AA00000#32) j : EReal)
      = (∑ i : Fin 10240, ∑ j : Fin 512, sqd (n := 10240) q z i j) * ((5242880⁻¹ : ℝ) : EReal) := by
  rw [ValueIdx.hostDivf_apply, sum_all]
  show Ideal.div _ (Ideal.ofBits .f32 0x4AA00000#32) = _
  rw [ofBits_count, Ideal.div_coe (by norm_num), one_div]
  exact congrArg (· * ((5242880⁻¹ : ℝ) : EReal)) (Finset.sum_congr rfl fun i _ => Finset.sum_congr rfl fun j _ => hx i j)

/-- The reference's loss. -/
def refLoss (q z : FVec Ideal S10240x512 .f32) : FVec Ideal S_ .f32 :=
  addf
    (mulf (constant S_ .f32 0x3F400000#32) (Host.divf (Host.reduceAdd (mulf (subf q z) (subf q z)) (constant S_ .f32 0x00000000#32) reducesTo_S10240x512_S_d0_1 h_S_) (constant S_ .f32 0x4AA00000#32)))
    (mulf (constant S_ .f32 0x3E800000#32) (Host.divf (Host.reduceAdd (mulf (subf z q) (subf z q)) (constant S_ .f32 0x00000000#32) reducesTo_S10240x512_S_d0_1 h_S_) (constant S_ .f32 0x4AA00000#32)))

theorem loss_eq (zv : S10240x512.Idx → EReal) (mv : S8192x512.Idx → EReal) (iv : (⟨2, ![128, 80]⟩ : Shape).Idx → BitVec 32) :
    refLoss (gath mv iv) zv = lossOf (F := Ideal) (lpv (F := Ideal) zv mv iv) := by
  funext j
  have h1 := mean_eq (gath mv iv) zv (mulf (F := Ideal) (subf (F := Ideal) (gath mv iv) zv) (subf (F := Ideal) (gath mv iv) zv)) (fun _ _ => rfl) j
  have h2 := mean_eq (gath mv iv) zv (mulf (F := Ideal) (subf (F := Ideal) zv (gath mv iv)) (subf (F := Ideal) zv (gath mv iv))) (fun _ _ => sq_swap _ _) j
  have h3 := (sum_all Cert.KernelIdeal.Gen.reducesTo_S32x16_S_d0_1 Cert.KernelIdeal.Gen.h_S_ (lpv (F := Ideal) zv mv iv) j).trans (sum_lpv zv mv iv)
  unfold refLoss lossOf
  show FloatOps.addf (FloatOps.mulf _ _) (FloatOps.mulf _ _) = FloatOps.addf (FloatOps.mulf _ _) (FloatOps.mulf _ _)
  exact congrArg₂ _ (congrArg _ (h1.trans h3.symm)) (congrArg _ (h2.trans h3.symm))

/-! ## The runs -/

theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9) = addf (F := Ideal) (s := S10240x512) (φ := .f32) (m ((c.tc : Thread nD τ).loc main_arg0))
          (subf (F := Ideal) (refRows (m ((c.tc : Thread nD τ).loc main_arg1)) (m ((c.tc : Thread nD τ).loc main_arg2))) (m ((c.tc : Thread nD τ).loc main_arg0)))
      ∧ r.2.mem ((c.tc : Thread nD τ).loc main_v20) = refLoss (refRows (m ((c.tc : Thread nD τ).loc main_arg1)) (m ((c.tc : Thread nD τ).loc main_arg2))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  · rfl
  · rfl

end Ref

theorem frame_ref : Cert.quiescent_ReferenceIdeal := fun m g _ =>
  θ_run_mono (run_ref m g) fun r h => ⟨fun c => (h c).2.2, sem_eq_zero_of_no_sems (by decide) r.2⟩

theorem frame_ref_pre : Cert.quiescent_ReferenceIdeal_pre_idx_in_rows := fun m g _ => frame_ref m g trivial

theorem algebraic : Cert.algebraic_KernelIdeal_ReferenceIdeal := fun m g m' g' hpre hagree => by
  have hp : PreOK (F := Ideal) m := fun d j => rows_of_fn _ _ _ (hpre d) j
  refine ⟨fun c => outv (F := Ideal) (m (zLoc c)) (m (mLoc c)) (idx2 (m (aLoc c))),
    fun c => lossOf (F := Ideal) (lpv (F := Ideal) (m (zLoc c)) (m (mLoc c)) (idx2 (m (aLoc c)))),
    θ_run_mono (run_main (F := Ideal) m g hp) fun r h c => ⟨(h.1 c).2.2.2.1, (h.1 c).2.2.2.2, (h.1 c).1, (h.1 c).2.1, (h.1 c).2.2.1⟩,
    θ_run_mono (run_ref m' g') fun r h c => ?_⟩
  obtain ⟨h0, h1, ha⟩ := h c
  refine ⟨h0.trans ?_, h1.trans ?_, ha⟩
  · rw [(hagree c).1, (hagree c).2.1, (hagree c).2.2, refRows_eq _ _ (hp c)]
    rfl
  · rw [(hagree c).1, (hagree c).2.1, (hagree c).2.2, refRows_eq _ _ (hp c)]
    exact loss_eq _ _ _

end Cert.Proof.Sc

end
-- ==== Proof.CodebookValue.lean ====
/-
  The codebook call: the mapped codebook, the squared lengths of its rows and twice its transpose, block of 512 rows by block,
  against the same three arrays written whole.
-/
module

public import proofs.«01_k».proof.Defs
public import proofs.«01_k».proof.Proof.Gen.Codebook.Frame
public import proofs.«01_k».proof.Proof.Gen.CodebookIdeal.Value
public import proofs.«01_k».proof.Proof.Gen.CodebookReferenceIdeal.Run
public import Idealize.ShloMosaic.Lib.MatmulPlain
public import Idealize.ShloMosaic.Lib.StackMember
public import Idealize.ShloMosaic.Lib.IdealHost
public import Idealize.ShloMosaic.Lib.Quiescent

@[expose] public section

noncomputable section

namespace Cert.Proof.Cb

open Idealize.ShloMosaic Idealize.ShloMosaic.TcCoe Idealize.SL.Sem Idealize.ShloMosaic.ValueIdx

/-- Entry `(r, d)` of the mapped codebook: row `r` of the table against row `d` of the weights, plus the bias. -/
def mval (A : (⟨2, ![8192, 4096]⟩ : Shape).Idx → EReal) (W : (⟨2, ![512, 4096]⟩ : Shape).Idx → EReal)
    (b : (⟨1, ![512]⟩ : Shape).Idx → EReal) (r : Fin 8192) (d : Fin 512) : EReal :=
  (∑ k : Fin 4096, A (ix2 r k) * W (ix2 d k)) + b (ix1 d)

/-- The mapped codebook. -/
def mapped (A : (⟨2, ![8192, 4096]⟩ : Shape).Idx → EReal) (W : (⟨2, ![512, 4096]⟩ : Shape).Idx → EReal)
    (b : (⟨1, ![512]⟩ : Shape).Idx → EReal) : (⟨2, ![8192, 512]⟩ : Shape).Idx → EReal := fun i => mval A W b (i 0) (i 1)

/-- The squared length of each of its rows. -/
def lengths (A : (⟨2, ![8192, 4096]⟩ : Shape).Idx → EReal) (W : (⟨2, ![512, 4096]⟩ : Shape).Idx → EReal)
    (b : (⟨1, ![512]⟩ : Shape).Idx → EReal) : (⟨2, ![8192, 1]⟩ : Shape).Idx → EReal :=
  fun i => ∑ d : Fin 512, mval A W b (i 0) d * mval A W b (i 0) d

/-- Twice its transpose. -/
def twice (A : (⟨2, ![8192, 4096]⟩ : Shape).Idx → EReal) (W : (⟨2, ![512, 4096]⟩ : Shape).Idx → EReal)
    (b : (⟨1, ![512]⟩ : Shape).Idx → EReal) : (⟨2, ![512, 8192]⟩ : Shape).Idx → EReal :=
  fun i => mval A W b (i 1) (i 0) + mval A W b (i 1) (i 0)

/-- The literal two. -/
theorem ofBits_two : Ideal.ofBits .f32 0x40000000#32 = 2 := by
  have h : Ideal.ieee 8 23 (0x40000000#32 : BitVec 32) = ((2 : ℝ) : EReal) := by
    simp only [Ideal.ieee]
    rw [if_neg (by decide), if_neg (by decide), if_neg (by decide)]
    norm_num [Nat.shiftRight_eq_div_pow]
  exact h.trans (by norm_cast)

/-- Twice an extended real is its sum with itself. -/
theorem two_mul_ereal (x : EReal) : 2 * x = x + x := by
  have h : (2 : EReal) = 1 + 1 := by norm_num
  rw [h, EReal.right_distrib_of_nonneg (by norm_num) (by norm_num), one_mul]

theorem hz : (![0, 0] : Fin 2 → Nat) = fun _ => 0 := funext fun a => by fin_cases a <;> rfl

section Kernel

open Cert.CodebookIdeal Cert.CodebookIdeal.Gen

variable (m : (ℓ : Loc nD τ sig) → Buf (Elt Ideal) ℓ) (ρ : Dev nD → PrngReg) (c : Dev nD)

/-- The table, the weights and the bias as launched. -/
abbrev tab : S8192x4096.Idx → EReal := m ((c : Thread nD τ).loc main_arg0)
abbrev wts : S512x4096.Idx → EReal := m ((c : Thread nD τ).loc main_arg1)
abbrev bia : S512.Idx → EReal := m ((c : Thread nD τ).loc main_arg2)

/-- Entry `(p, d)` of one block: its row of the table against the row of the weights, plus the bias. -/
theorem pay1_apply (x0 : Vec Ideal S512x4096 .f32) (x1 : Vec Ideal S512x4096 .f32) (x2 : Vec Ideal S1x512 .f32) (p d : Fin 512) :
    k0_pay1 x0 x1 x2 (ix2 p d) = (∑ k : Fin 4096, x0 (ix2 p k) * x1 (ix2 d k)) + x2 (ix2 0 d) := by
  have e1 : matmul (F := Ideal) (φ₁ := .f32) (φ₂ := .f32) (DotDims.transposedRhs 512 4096 512) none x0 x1 (constant S512x512 .f32 0x00000000#32) (ix2 p d)
      = ∑ k : Fin 4096, x0 (ix2 p k) * x1 (ix2 d k) := by
    refine (Ideal.matmul_transposedRhs_apply none x0 x1 _ p d).trans ?_
    rw [constant_apply, Ideal.ofBits_zero_f32, zero_add]
  have e2 : broadcastTo S512x512 (shapeCast S1x512 x2 shapeCasts_S1x512_S1x512) broadcasts_S1x512_S512x512 (ix2 p d) = x2 (ix2 0 d) := by
    rw [shapeCast_self]
    exact broadcastTo_apply _ _ _ _ (fun a => by match a with | ⟨0, _⟩ => rfl | ⟨1, _⟩ => rfl)
  unfold k0_pay1
  exact congrArg₂ (· + ·) e1 e2

/-- Block `t` of the table starts at row `512 t`. -/
theorem iblk0 (t : Fin cfg0.N) (p : Fin 512) (k : Fin 4096) (h : 512 * t.val + p.val < 8192) :
    iblk m c 0 t (ix2 p k) = tab m c (ix2 ⟨512 * t.val + p.val, h⟩ k) := by
  show V m c main_arg0 ((win0_0.rect t).emb (ix2 p k)) = _
  rw [V_main_arg0]
  refine congrArg (tab m c) (funext fun a => Fin.ext ?_)
  have e : win0_0.index t 0 = t.val ∧ win0_0.index t 1 = 0 :=
    (by decide +kernel : ∀ t : Fin grid0.N, win0_0.index t 0 = t.val ∧ win0_0.index t 1 = 0) t
  match a with
  | ⟨0, _⟩ => refine (Pipeline.Window.rect_emb_val win0_0 t (ix2 p k) 0).trans ?_; rw [e.1]; show t.val * 512 + p.val = 512 * t.val + p.val; omega
  | ⟨1, _⟩ => refine (Pipeline.Window.rect_emb_val win0_0 t (ix2 p k) 1).trans ?_; rw [e.2]; show 0 * 4096 + k.val = k.val; omega

/-- Every point takes all the weights. -/
theorem iblk1 (t : Fin cfg0.N) (d : Fin 512) (k : Fin 4096) : iblk m c 1 t (ix2 d k) = wts m c (ix2 d k) := by
  show V m c main_arg1 ((win0_1.rect t).emb (ix2 d k)) = _
  rw [V_main_arg1]
  refine congrArg (wts m c) (funext fun a => Fin.ext ?_)
  have e : win0_1.index t 0 = 0 ∧ win0_1.index t 1 = 0 :=
    (by decide +kernel : ∀ t : Fin grid0.N, win0_1.index t 0 = 0 ∧ win0_1.index t 1 = 0) t
  match a with
  | ⟨0, _⟩ => exact Pipeline.Window.rect_emb_val_of_index_zero win0_1 t 0 e.1 _
  | ⟨1, _⟩ => exact Pipeline.Window.rect_emb_val_of_index_zero win0_1 t 1 e.2 _

/-- The bias as the region finds it, one row. -/
theorem V_bias : (V m c main_v0 : S1x512.Idx → EReal) = broadcastInDim S1x512 ![1] bcast_S512_S1x512_1 (bia m c) := by
  dsimp only [V, hostOps0]
  after_results

/-- Every point takes all the bias. -/
theorem iblk2 (t : Fin cfg0.N) (d : Fin 512) : iblk m c 2 t (ix2 0 d) = bia m c (ix1 d) := by
  show V m c main_v0 ((win0_2.rect t).emb (ix2 0 d)) = _
  have e : win0_2.index t 0 = 0 ∧ win0_2.index t 1 = 0 :=
    (by decide +kernel : ∀ t : Fin grid0.N, win0_2.index t 0 = 0 ∧ win0_2.index t 1 = 0) t
  rw [V_bias]
  refine broadcastInDim_apply _ _ _ _ _ (fun a => ?_)
  match a with
  | ⟨0, _⟩ => exact (Pipeline.Window.rect_emb_val_of_index_zero win0_2 t 1 e.2 (ix2 0 d)).symm

/-- So entry `(p, d)` of block `t` is entry `(512 t + p, d)` of the mapped codebook. -/
theorem block_apply (t : Fin cfg0.N) (p d : Fin 512) (h : 512 * t.val + p.val < 8192) :
    k0_pay1 (iblk m c 0 t) (iblk m c 1 t) (iblk m c 2 t) (ix2 p d)
      = mval (tab m c) (wts m c) (bia m c) ⟨512 * t.val + p.val, h⟩ d := by
  refine (pay1_apply _ _ _ p d).trans ?_
  unfold mval
  rw [iblk2]
  refine congrArg (· + _) (Finset.sum_congr rfl fun k _ => ?_)
  rw [iblk0 m c t p k h, iblk1]

theorem point_lt (t : Fin cfg0.N) : t.val < 16 := t.isLt

theorem flushed3_eq (t : Fin cfg0.N) :
    (dats m 0 c).flushed 3 t = (win0_3.blk t).view.read (Elt Ideal) (mapped (tab m c) (wts m c) (bia m c)) := by
  refine (Value.flushed3 m c t).trans (funext fun y => ?_)
  have ht := point_lt t
  have hy : (y 0).val < 512 := (y 0).isLt
  have e : win0_3.index t 0 = t.val ∧ win0_3.index t 1 = 0 :=
    (by decide +kernel : ∀ t : Fin grid0.N, win0_3.index t 0 = t.val ∧ win0_3.index t 1 = 0) t
  show out0_3 (iblk m c 0 t) (iblk m c 1 t) (iblk m c 2 t) y = mapped (tab m c) (wts m c) (bia m c) ((win0_3.rect t).emb y)
  unfold out0_3
  rw [View.canon_unit_zero hz, View.ld_unit_zero hz, View.ld_unit_zero hz, View.ld_unit_zero hz]
  refine (congrArg _ (eq_ix2 y)).trans ((block_apply m c t (y 0) (y 1) (by omega)).trans ?_)
  refine congrArg₂ (mval (tab m c) (wts m c) (bia m c)) (Fin.ext ?_) (Fin.ext ?_)
  · refine Eq.trans ?_ (Pipeline.Window.rect_emb_val win0_3 t y 0).symm
    rw [e.1]; show 512 * t.val + (y 0).val = t.val * 512 + (y 0).val; omega
  · exact (Pipeline.Window.rect_emb_val_of_index_zero win0_3 t 1 e.2 y).symm

theorem flushed4_eq (t : Fin cfg0.N) :
    (dats m 0 c).flushed 4 t = (win0_4.blk t).view.read (Elt Ideal) (lengths (tab m c) (wts m c) (bia m c)) := by
  refine (Value.flushed4 m c t).trans (funext fun y => ?_)
  have ht := point_lt t
  have hy : (y 0).val < 512 := (y 0).isLt
  have e : win0_4.index t 0 = t.val ∧ win0_4.index t 1 = 0 :=
    (by decide +kernel : ∀ t : Fin grid0.N, win0_4.index t 0 = t.val ∧ win0_4.index t 1 = 0) t
  show out0_4 (iblk m c 0 t) (iblk m c 1 t) (iblk m c 2 t) y = lengths (tab m c) (wts m c) (bia m c) ((win0_4.rect t).emb y)
  unfold out0_4
  rw [View.ld_unit_zero hz, View.ld_unit_zero hz, View.ld_unit_zero hz, Value.canon4_eq]
  refine (Ideal.multiReduction_add_single _ _ _ _ _ _).trans ?_
  refine Finset.sum_congr rfl fun d _ => ?_
  have hr : (⟨512 * t.val + (y 0).val, by omega⟩ : Fin 8192) = (win0_4.rect t).emb y 0 := Fin.ext (by
    refine Eq.trans ?_ (Pipeline.Window.rect_emb_val win0_4 t y 0).symm
    rw [e.1]; show 512 * t.val + (y 0).val = t.val * 512 + (y 0).val; omega)
  have hl : reduces_S512x512_S512.lift (Value.ix4_0 y) d = ix2 (⟨(y 0).val, hy⟩ : Fin 512) (d : Fin 512) := by
    funext a; apply Fin.ext
    match a with
    | ⟨0, _⟩ => rfl
    | ⟨1, _⟩ => rfl
  have hb : k0_pay1 (iblk m c 0 t) (iblk m c 1 t) (iblk m c 2 t) (reduces_S512x512_S512.lift (Value.ix4_0 y) d)
      = mval (tab m c) (wts m c) (bia m c) ((win0_4.rect t).emb y 0) d :=
    (congrArg (k0_pay1 (iblk m c 0 t) (iblk m c 1 t) (iblk m c 2 t)) hl).trans
      ((block_apply m c t ⟨(y 0).val, hy⟩ d (by show 512 * t.val + (y 0).val < 8192; omega)).trans
        (congrArg (fun r => mval (tab m c) (wts m c) (bia m c) r d) hr))
  exact congrArg₂ (· * ·) hb hb

theorem flushed5_eq (t : Fin cfg0.N) :
    (dats m 0 c).flushed 5 t = (win0_5.blk t).view.read (Elt Ideal) (twice (tab m c) (wts m c) (bia m c)) := by
  refine (Value.flushed5 m c t).trans (funext fun y => ?_)
  have ht := point_lt t
  have hy : (y 1).val < 512 := (y 1).isLt
  have e : win0_5.index t 0 = 0 ∧ win0_5.index t 1 = t.val :=
    (by decide +kernel : ∀ t : Fin grid0.N, win0_5.index t 0 = 0 ∧ win0_5.index t 1 = t.val) t
  show out0_5 (iblk m c 0 t) (iblk m c 1 t) (iblk m c 2 t) y = twice (tab m c) (wts m c) (bia m c) ((win0_5.rect t).emb y)
  unfold out0_5
  rw [View.ld_unit_zero hz, View.ld_unit_zero hz, View.ld_unit_zero hz, Value.canon5_eq]
  have hl : Value.ix5_0 y = ix2 (⟨(y 1).val, hy⟩ : Fin 512) (y 0 : Fin 512) := by
    funext a; apply Fin.ext
    match a with
    | ⟨0, _⟩ => rfl
    | ⟨1, _⟩ => rfl
  have hb : k0_pay1 (iblk m c 0 t) (iblk m c 1 t) (iblk m c 2 t) (Value.ix5_0 y)
      = mval (tab m c) (wts m c) (bia m c) ((win0_5.rect t).emb y 1) ((win0_5.rect t).emb y 0) := by
    rw [hl]
    refine (block_apply m c t ⟨(y 1).val, hy⟩ (y 0) (by show 512 * t.val + (y 1).val < 8192; omega)).trans ?_
    refine congrArg₂ (mval (tab m c) (wts m c) (bia m c)) (Fin.ext ?_) (Fin.ext ?_)
    · refine Eq.trans ?_ (Pipeline.Window.rect_emb_val win0_5 t y 1).symm
      rw [e.2]; show 512 * t.val + (y 1).val = t.val * 512 + (y 1).val; omega
    · exact (Pipeline.Window.rect_emb_val_of_index_zero win0_5 t 0 e.1 y).symm
  exact congrArg₂ (· + ·) hb hb

theorem mem_blk3 (t : Fin cfg0.N) (i : S8192x512.Idx) : i ∈ ((cfg0.win 3).blk t).view.set ↔
    ∀ a, win0_3.index t a * win0_3.size a ≤ (i a : Nat) ∧ (i a : Nat) < win0_3.index t a * win0_3.size a + win0_3.xsize (grid0.coords t) a := by
  show i ∈ ((View.whole main_v1_0).slice (win0_3.rect t)).set ↔ _
  rw [View.set_slice_whole, Rect.mem_set_unit]

theorem cover3 (i : S8192x512.Idx) : ∃ t : Fin cfg0.N, (cfg0.win 3).flush t = true ∧ i ∈ ((cfg0.win 3).blk t).view.set := by
  have h0 : (i 0).val < 8192 := (i 0).isLt
  have h1 : (i 1).val < 512 := (i 1).isLt
  refine ⟨⟨(i 0).val / 512, by show (i 0).val / 512 < 16; omega⟩, flush0_3 _, ?_⟩
  have e := (by decide +kernel : ∀ t : Fin grid0.N, win0_3.index t 0 * win0_3.size 0 = t.val * 512 ∧ win0_3.xsize (grid0.coords t) 0 = 512
    ∧ win0_3.index t 1 * win0_3.size 1 = 0 ∧ win0_3.xsize (grid0.coords t) 1 = 512) ⟨(i 0).val / 512, by show (i 0).val / 512 < 16; omega⟩
  rw [mem_blk3]
  intro a
  match a with
  | ⟨0, _⟩ => show win0_3.index _ 0 * win0_3.size 0 ≤ (i 0 : Nat) ∧ (i 0 : Nat) < win0_3.index _ 0 * win0_3.size 0 + win0_3.xsize (grid0.coords _) 0
              rw [e.1, e.2.1]; dsimp only; omega
  | ⟨1, _⟩ => show win0_3.index _ 1 * win0_3.size 1 ≤ (i 1 : Nat) ∧ (i 1 : Nat) < win0_3.index _ 1 * win0_3.size 1 + win0_3.xsize (grid0.coords _) 1
              rw [e.2.2.1, e.2.2.2]; omega

theorem final3 : (dats m 0 c).arrAt 3 cfg0.N = mapped (tab m c) (wts m c) (bia m c) :=
  (dats m 0 c).arrAt_eq_of_cover 3 _ (fun t _ => flushed3_eq m c t) cover3

theorem mem_blk4 (t : Fin cfg0.N) (i : S8192x1.Idx) : i ∈ ((cfg0.win 4).blk t).view.set ↔
    ∀ a, win0_4.index t a * win0_4.size a ≤ (i a : Nat) ∧ (i a : Nat) < win0_4.index t a * win0_4.size a + win0_4.xsize (grid0.coords t) a := by
  show i ∈ ((View.whole main_v1_1).slice (win0_4.rect t)).set ↔ _
  rw [View.set_slice_whole, Rect.mem_set_unit]

theorem cover4 (i : S8192x1.Idx) : ∃ t : Fin cfg0.N, (cfg0.win 4).flush t = true ∧ i ∈ ((cfg0.win 4).blk t).view.set := by
  have h0 : (i 0).val < 8192 := (i 0).isLt
  have h1 : (i 1).val < 1 := (i 1).isLt
  refine ⟨⟨(i 0).val / 512, by show (i 0).val / 512 < 16; omega⟩, flush0_4 _, ?_⟩
  have e := (by decide +kernel : ∀ t : Fin grid0.N, win0_4.index t 0 * win0_4.size 0 = t.val * 512 ∧ win0_4.xsize (grid0.coords t) 0 = 512
    ∧ win0_4.index t 1 * win0_4.size 1 = 0 ∧ win0_4.xsize (grid0.coords t) 1 = 1) ⟨(i 0).val / 512, by show (i 0).val / 512 < 16; omega⟩
  rw [mem_blk4]
  intro a
  match a with
  | ⟨0, _⟩ => show win0_4.index _ 0 * win0_4.size 0 ≤ (i 0 : Nat) ∧ (i 0 : Nat) < win0_4.index _ 0 * win0_4.size 0 + win0_4.xsize (grid0.coords _) 0
              rw [e.1, e.2.1]; dsimp only; omega
  | ⟨1, _⟩ => show win0_4.index _ 1 * win0_4.size 1 ≤ (i 1 : Nat) ∧ (i 1 : Nat) < win0_4.index _ 1 * win0_4.size 1 + win0_4.xsize (grid0.coords _) 1
              rw [e.2.2.1, e.2.2.2]; omega

theorem final4 : (dats m 0 c).arrAt 4 cfg0.N = lengths (tab m c) (wts m c) (bia m c) :=
  (dats m 0 c).arrAt_eq_of_cover 4 _ (fun t _ => flushed4_eq m c t) cover4

theorem mem_blk5 (t : Fin cfg0.N) (i : S512x8192.Idx) : i ∈ ((cfg0.win 5).blk t).view.set ↔
    ∀ a, win0_5.index t a * win0_5.size a ≤ (i a : Nat) ∧ (i a : Nat) < win0_5.index t a * win0_5.size a + win0_5.xsize (grid0.coords t) a := by
  show i ∈ ((View.whole main_v1_2).slice (win0_5.rect t)).set ↔ _
  rw [View.set_slice_whole, Rect.mem_set_unit]

theorem cover5 (i : S512x8192.Idx) : ∃ t : Fin cfg0.N, (cfg0.win 5).flush t = true ∧ i ∈ ((cfg0.win 5).blk t).view.set := by
  have h0 : (i 0).val < 512 := (i 0).isLt
  have h1 : (i 1).val < 8192 := (i 1).isLt
  refine ⟨⟨(i 1).val / 512, by show (i 1).val / 512 < 16; omega⟩, flush0_5 _, ?_⟩
  have e := (by decide +kernel : ∀ t : Fin grid0.N, win0_5.index t 1 * win0_5.size 1 = t.val * 512 ∧ win0_5.xsize (grid0.coords t) 1 = 512
    ∧ win0_5.index t 0 * win0_5.size 0 = 0 ∧ win0_5.xsize (grid0.coords t) 0 = 512) ⟨(i 1).val / 512, by show (i 1).val / 512 < 16; omega⟩
  rw [mem_blk5]
  intro a
  match a with
  | ⟨0, _⟩ => show win0_5.index _ 0 * win0_5.size 0 ≤ (i 0 : Nat) ∧ (i 0 : Nat) < win0_5.index _ 0 * win0_5.size 0 + win0_5.xsize (grid0.coords _) 0
              rw [e.2.2.1, e.2.2.2]; omega
  | ⟨1, _⟩ => show win0_5.index _ 1 * win0_5.size 1 ≤ (i 1 : Nat) ∧ (i 1 : Nat) < win0_5.index _ 1 * win0_5.size 1 + win0_5.xsize (grid0.coords _) 1
              rw [e.1, e.2.1]; dsimp only; omega

theorem final5 : (dats m 0 c).arrAt 5 cfg0.N = twice (tab m c) (wts m c) (bia m c) :=
  (dats m 0 c).arrAt_eq_of_cover 5 _ (fun t _ => flushed5_eq m c t) cover5

end Kernel

section Ref

open Cert.CodebookReferenceIdeal Cert.CodebookReferenceIdeal.Gen

variable (A : FVec Ideal S8192x4096 .f32) (W : FVec Ideal S512x4096 .f32) (b : FVec Ideal S512 .f32)

/-- The reference's mapped codebook. -/
abbrev refMap : FVec Ideal S8192x512 .f32 :=
  addf (Host.dotGeneral dot_S8192x4096_S4096x512_S8192x512_1_0_0_1_n_n none A (transpose S4096x512 [1, 0] W transposes_S512x4096_S4096x512_1_0))
    (broadcastInDim S8192x512 ![0, 1] bcast_S1x512_S8192x512_0_1 (broadcastInDim S1x512 ![1] bcast_S512_S1x512_1 b))

theorem refMap_apply (r : Fin 8192) (d : Fin 512) : refMap A W b (ix2 r d) = mval A W b r d := by
  have e1 : Host.dotGeneral (DotDims.plain 8192 4096 512) none A (transpose S4096x512 [1, 0] W transposes_S512x4096_S4096x512_1_0) (ix2 r d)
      = ∑ k : Fin 4096, A (ix2 r k) * W (ix2 d k) := by
    refine (StackMember.dotGeneral_plain_apply none _ _ r d).trans (Finset.sum_congr rfl fun k _ => congrArg _ ?_)
    exact transpose_apply _ _ _ _ _ (fun a => by match a with | ⟨0, _⟩ => rfl | ⟨1, _⟩ => rfl)
  have e2 : broadcastInDim S8192x512 ![0, 1] bcast_S1x512_S8192x512_0_1 (broadcastInDim S1x512 ![1] bcast_S512_S1x512_1 b) (ix2 r d) = b (ix1 d) := by
    refine (broadcastInDim_apply _ _ _ _ (ix2 0 d) (fun a => by match a with | ⟨0, _⟩ => rfl | ⟨1, _⟩ => rfl)).trans ?_
    exact broadcastInDim_apply _ _ _ _ (ix1 d) (fun a => by match a with | ⟨0, _⟩ => rfl)
  exact congrArg₂ (· + ·) e1 e2

theorem ref3 : refMap A W b = mapped A W b := funext fun i => (congrArg _ (eq_ix2 i)).trans (refMap_apply A W b (i 0) (i 1))

theorem ref4 : broadcastInDim S8192x1 ![0] bcast_S8192_S8192x1_0
    (Host.reduceAdd (mulf (refMap A W b) (refMap A W b)) (constant S_ .f32 0x00000000#32) reducesTo_S8192x512_S8192_d1 h_S_)
      = lengths A W b := funext fun i => by
  have hR : Shape.Reduces S8192x512 [1] S8192 := by decide
  have key (r : Fin 8192) : Host.reduceAdd (mulf (refMap A W b) (refMap A W b)) (constant S_ .f32 0x00000000#32) reducesTo_S8192x512_S8192_d1 h_S_ (ix1 r : S8192.Idx)
      = ∑ d : Fin 512, mval A W b r d * mval A W b r d := by
    rw [ValueIdx.hostReduceAdd_apply, Ideal.hostReduceAdd_single _ hR, constant_apply, Ideal.ofBits_zero_f32, zero_add]
    refine Finset.sum_congr rfl fun d _ => ?_
    have hl : hR.lift (ix1 r) d = (ix2 r (d : Fin 512) : S8192x512.Idx) := by
      funext a; apply Fin.ext
      match a with
      | ⟨0, _⟩ => rfl
      | ⟨1, _⟩ => rfl
    have hb : refMap A W b (hR.lift (ix1 r) d) = mval A W b r d := (congrArg (refMap A W b) hl).trans (refMap_apply A W b r d)
    exact congrArg₂ (· * ·) hb hb
  exact (broadcastInDim_apply _ _ _ _ (ix1 (i 0) : S8192.Idx) (fun a => by match a with | ⟨0, _⟩ => rfl)).trans (key (i 0))

theorem ref5 : transpose S512x8192 [1, 0] (mulf (broadcastInDim S8192x512 ![] bcast_S_S8192x512 (constant S_ .f32 0x40000000#32)) (refMap A W b))
    transposes_S8192x512_S512x8192_1_0 = twice A W b := funext fun i => by
  have key (r : Fin 8192) (d : Fin 512) : mulf (broadcastInDim S8192x512 ![] bcast_S_S8192x512 (constant S_ .f32 0x40000000#32)) (refMap A W b) (ix2 r d : S8192x512.Idx)
      = mval A W b r d + mval A W b r d := by
    rw [mulf_apply, refMap_apply]
    have e : (broadcastInDim S8192x512 ![] bcast_S_S8192x512 (constant (F := Ideal) S_ .f32 0x40000000#32)) (ix2 r d) = 2 := ofBits_two
    rw [e]
    exact two_mul_ereal _
  exact (transpose_apply _ _ _ _ (ix2 (i 1) (i 0) : S8192x512.Idx) (fun a => by match a with | ⟨0, _⟩ => rfl | ⟨1, _⟩ => rfl)).trans (key (i 1) (i 0))

end Ref

/-! ## The claims -/

theorem frame_codebook : Cert.quiescent_Codebook := fun m ρ _ => Cert.Codebook.Gen.frame (F := Bits) m ρ

theorem frame_codebookIdeal : Cert.quiescent_CodebookIdeal := fun m ρ _ => Cert.CodebookIdeal.Gen.frame m ρ

theorem frame_codebookRef : Cert.quiescent_CodebookReferenceIdeal := fun m ρ _ =>
  (θ_run Cert.CodebookReferenceIdeal.defs _ _).mono
    (fun r h => ⟨fun c => ⟨(h c).2.2.2.1, (h c).2.2.2.2.1, (h c).2.2.2.2.2⟩, sem_eq_zero_of_no_sems (by decide) r.2⟩)
    (Cert.CodebookReferenceIdeal.Value.run m ρ)

theorem algebraic : Cert.algebraic_CodebookIdeal_CodebookReferenceIdeal := fun m ρ m' ρ' _ ha =>
  ⟨fun c => mapped (tab m c) (wts m c) (bia m c), fun c => lengths (tab m c) (wts m c) (bia m c), fun c => twice (tab m c) (wts m c) (bia m c),
    (θ_run Cert.CodebookIdeal.defs _ _).mono
      (fun r h c => ⟨(h c).1.trans (final3 m c), (h c).2.1.trans (final4 m c), (h c).2.2.1.trans (final5 m c), (h c).2.2.2⟩)
      (Cert.CodebookIdeal.Value.run_blocks m ρ),
    (θ_run Cert.CodebookReferenceIdeal.defs _ _).mono
      (fun r h c => by
        obtain ⟨e0, e1, e2⟩ := ha c
        have h3 := (h c).1
        have h4 := (h c).2.1
        have h5 := (h c).2.2.1
        rw [e0, e1, e2] at h3 h4 h5
        exact ⟨h3.trans (ref3 _ _ _), h4.trans (ref4 _ _ _), h5.trans (ref5 _ _ _), (h c).2.2.2⟩)
      (Cert.CodebookReferenceIdeal.Value.run m' ρ')⟩

end Cert.Proof.Cb

end
-- ==== Proof.AsStep.lean ====
/- The ten greedy picks of one block of rows, and the block's distances: the values the body of the assignment call
   computes, as functions of what it loads. -/
module

public import proofs.«01_k».proof.Proof.Gen.AssignIdeal.Skeleton

@[expose] public section

set_option maxRecDepth 16384

noncomputable section

namespace Cert.Proof.As

open Cert.AssignIdeal Cert.AssignIdeal.Gen Idealize.ShloMosaic

variable {F : FTy → Type} [FloatOps F]

/-- The column numbers along a block's rows. -/
abbrev cols : IVec S16x8192 32 := iota .tc S16x8192 32 [1] iota_S16x8192_d1_w32

/-- A per-row integer along its row. -/
def rowI (i : IVec S16 32) : IVec S16x8192 32 :=
  broadcastTo S16x8192 (shapeCast S16x1 i shapeCasts_S16_S16x1) broadcasts_S16x1_S16x8192

/-- Each row's least entry, along the row. -/
def least (x : FVec F S16x8192 .f32) : FVec F S16x8192 .f32 :=
  broadcastTo S16x8192 (shapeCast S16x1 (multiReduction .minimumf [1] S16 x 0x7F800000#32 reduces_S16x8192_S16 (.inl rfl) rfl)
    shapeCasts_S16_S16x1) broadcasts_S16x1_S16x8192

/-- The first column of each row that the given bits mark. -/
def firstOf (b : IVec S16x8192 1) : IVec S16 32 :=
  multiReductionI .minsi [1] S16 (select b cols (broadcast S16x8192 8192#32)) 2147483647#32 reduces_S16x8192_S16 rfl

/-- The first column at which each row's least entry stands. -/
def pickOf (x : FVec F S16x8192 .f32) : IVec S16 32 := firstOf (cmpf .oeq x (least x))

/-- The marked entries replaced by infinity. -/
def hide (b : IVec S16x8192 1) (x : FVec F S16x8192 .f32) : FVec F S16x8192 .f32 :=
  select b (broadcast S16x8192 (Scalar.ofBits .f32 0x7F800000#32)) x

/-- The marks with each row's given column added. -/
def mark (b : IVec S16x8192 1) (i : IVec S16 32) : IVec S16x8192 1 := ori b (cmpi .eq cols (rowI i))

theorem slices_fin : ∀ k : Fin 10, S10x16x8192.Slices ![k.val, 0, 0] S1x16x8192 := by decide

/-- Slot `k`'s distances of a block. -/
def plane (v : FVec F S10x16x8192 .f32) (k : Nat) : FVec F S16x8192 .f32 :=
  shapeCast S16x8192 (extractStridedSlice S1x16x8192 ![(Fin.ofNat 10 k).val, 0, 0] v (slices_fin (Fin.ofNat 10 k))) shapeCasts_S1x16x8192_S16x8192

/-- The columns taken before slot `k`. -/
def msk (v : FVec F S10x16x8192 .f32) : Nat → IVec S16x8192 1
  | 0 => broadcast S16x8192 0#1
  | k + 1 => mark (msk v k) (pickOf (hide (msk v k) (plane v k)))

/-- Slot `k`'s pick. -/
def idx (v : FVec F S10x16x8192 .f32) (k : Nat) : IVec S16 32 := pickOf (hide (msk v k) (plane v k))

theorem msk_succ (v : FVec F S10x16x8192 .f32) (k : Nat) : mark (msk v k) (idx v k) = msk v (k + 1) := rfl

/-- The pick as a column. -/
def col1 (i : IVec S16 32) : IVec S16x1 32 := shapeCast S16x1 i shapeCasts_S16_S16x1

/-- Ten columns side by side. -/
def beside (a b c d e f g h i j : IVec S16 32) : IVec S16x10 32 :=
  concatenate S16x10 1 [⟨S16x1, col1 a⟩, ⟨S16x1, col1 b⟩, ⟨S16x1, col1 c⟩, ⟨S16x1, col1 d⟩, ⟨S16x1, col1 e⟩, ⟨S16x1, col1 f⟩, ⟨S16x1, col1 g⟩, ⟨S16x1, col1 h⟩, ⟨S16x1, col1 i⟩, ⟨S16x1, col1 j⟩] concatenates_S16x1_S16x1_S16x1_S16x1_S16x1_S16x1_S16x1_S16x1_S16x1_S16x1_S16x10_d1

/-- A block's picks, all ten slots. -/
def picks (v : FVec F S10x16x8192 .f32) : IVec S16x10 32 :=
  beside (idx v 0) (idx v 1) (idx v 2) (idx v 3) (idx v 4) (idx v 5) (idx v 6) (idx v 7) (idx v 8) (idx v 9)

/-! ## The first block's text -/

section A

variable (v : FVec F S10x16x8192 .f32) (m : IVec S16x8192 1) (x b : FVec F S16x8192 .f32) (e : IVec S16x8192 1) (n : IVec S16x8192 32)

theorem pay10_eq : k0_pay10 cols m x b = mark m (k0_pay9 cols x b) := rfl
theorem pay11_eq : k0_pay11 v cols m x b = pickOf (hide (k0_pay10 cols m x b) (plane v 2)) := rfl
theorem pay12_eq : k0_pay12 v cols m x b = mark (k0_pay10 cols m x b) (k0_pay11 v cols m x b) := rfl
theorem pay13_eq : k0_pay13 v cols m x b = pickOf (hide (k0_pay12 v cols m x b) (plane v 3)) := rfl
theorem pay14_eq : k0_pay14 v cols m x b = mark (k0_pay12 v cols m x b) (k0_pay13 v cols m x b) := rfl
theorem pay15_eq : k0_pay15 v cols m x b = cmpf .oeq (hide (k0_pay14 v cols m x b) (plane v 4)) (least (hide (k0_pay14 v cols m x b) (plane v 4))) := rfl
theorem pay17_eq : k0_pay17 cols e k0_pay16 = firstOf e := rfl
theorem pay18_eq : k0_pay18 cols m e n = mark m (k0_pay17 cols e n) := rfl
theorem pay19_eq : k0_pay19 v cols m e n = pickOf (hide (k0_pay18 cols m e n) (plane v 5)) := rfl
theorem pay20_eq : k0_pay20 v cols m e n = mark (k0_pay18 cols m e n) (k0_pay19 v cols m e n) := rfl
theorem pay21_eq : k0_pay21 v cols m e n = pickOf (hide (k0_pay20 v cols m e n) (plane v 6)) := rfl
theorem pay22_eq : k0_pay22 v cols m e n = mark (k0_pay20 v cols m e n) (k0_pay21 v cols m e n) := rfl
theorem pay23_eq : k0_pay23 v cols m e n = pickOf (hide (k0_pay22 v cols m e n) (plane v 7)) := rfl
theorem pay24_eq (a0 a1 a2 a3 a4 a5 a6 a7 : IVec S16 32) : k0_pay24 v cols a0 a1 a2 a3 a4 a5 a6 m a7
    = beside a0 a1 a2 a3 a4 a5 a6 a7 (pickOf (hide (mark m a7) (plane v 8)))
        (pickOf (hide (mark (mark m a7) (pickOf (hide (mark m a7) (plane v 8)))) (plane v 9))) := rfl

theorem a0 : k0_pay5 v = idx v 0 := rfl
theorem am1 : k0_pay6 v = msk v 1 := rfl
theorem ax1 : k0_pay7 v = hide (msk v 1) (plane v 1) := by rw [← am1]; rfl
theorem ab1 : k0_pay8 v = least (hide (msk v 1) (plane v 1)) := by rw [← ax1]; rfl
theorem a1 : k0_pay9 cols (k0_pay7 v) (k0_pay8 v) = idx v 1 := by rw [ax1, ab1]; rfl
theorem am2 : k0_pay10 cols (k0_pay6 v) (k0_pay7 v) (k0_pay8 v) = msk v 2 := by rw [pay10_eq, a1, am1, msk_succ]
theorem a2 : k0_pay11 v cols (k0_pay6 v) (k0_pay7 v) (k0_pay8 v) = idx v 2 := by rw [pay11_eq, am2]; rfl
theorem am3 : k0_pay12 v cols (k0_pay6 v) (k0_pay7 v) (k0_pay8 v) = msk v 3 := by rw [pay12_eq, a2, am2, msk_succ]
theorem a3 : k0_pay13 v cols (k0_pay6 v) (k0_pay7 v) (k0_pay8 v) = idx v 3 := by rw [pay13_eq, am3]; rfl
theorem am4 : k0_pay14 v cols (k0_pay6 v) (k0_pay7 v) (k0_pay8 v) = msk v 4 := by rw [pay14_eq, a3, am3, msk_succ]
theorem ae4 : k0_pay15 v cols (k0_pay6 v) (k0_pay7 v) (k0_pay8 v) = cmpf .oeq (hide (msk v 4) (plane v 4)) (least (hide (msk v 4) (plane v 4))) := by
  rw [pay15_eq, am4]
theorem a4 : k0_pay17 cols (cmpf .oeq (hide (msk v 4) (plane v 4)) (least (hide (msk v 4) (plane v 4)))) k0_pay16 = idx v 4 := by rw [pay17_eq]; rfl

/-- Where slot four's least entry stands. -/
abbrev e4 : IVec S16x8192 1 := cmpf .oeq (hide (msk v 4) (plane v 4)) (least (hide (msk v 4) (plane v 4)))

theorem am5 : k0_pay18 cols (msk v 4) (e4 v) k0_pay16 = msk v 5 := by rw [pay18_eq, a4, msk_succ]
theorem a5 : k0_pay19 v cols (msk v 4) (e4 v) k0_pay16 = idx v 5 := by rw [pay19_eq, am5]; rfl
theorem am6 : k0_pay20 v cols (msk v 4) (e4 v) k0_pay16 = msk v 6 := by rw [pay20_eq, a5, am5, msk_succ]
theorem a6 : k0_pay21 v cols (msk v 4) (e4 v) k0_pay16 = idx v 6 := by rw [pay21_eq, am6]; rfl
theorem am7 : k0_pay22 v cols (msk v 4) (e4 v) k0_pay16 = msk v 7 := by rw [pay22_eq, a6, am6, msk_succ]
theorem a7 : k0_pay23 v cols (msk v 4) (e4 v) k0_pay16 = idx v 7 := by rw [pay23_eq, am7]; rfl
theorem a9 : k0_pay24 v cols (idx v 0) (idx v 1) (idx v 2) (idx v 3) (idx v 4) (idx v 5) (idx v 6) (msk v 7) (idx v 7) = picks v := by
  rw [pay24_eq, msk_succ]; rfl

/-! ## The second block's text -/

variable (c1 : IVec S16x1 32)

theorem pay33_eq : k0_pay33 cols m (k0_pay32 v) = mark m (k0_pay31 v) := rfl
theorem pay34_eq : k0_pay34 v cols m c1 = pickOf (hide (k0_pay33 cols m c1) (plane v 2)) := rfl
theorem pay35_eq : k0_pay35 v cols m c1 = mark (k0_pay33 cols m c1) (k0_pay34 v cols m c1) := rfl
theorem pay36_eq : k0_pay36 v cols m c1 = pickOf (hide (k0_pay35 v cols m c1) (plane v 3)) := rfl
theorem pay37_eq : k0_pay37 v cols m c1 = mark (k0_pay35 v cols m c1) (k0_pay36 v cols m c1) := rfl
theorem pay38_eq : k0_pay38 v cols m c1 = pickOf (hide (k0_pay37 v cols m c1) (plane v 4)) := rfl
theorem pay39_eq : k0_pay39 v cols m c1 = mark (k0_pay37 v cols m c1) (k0_pay38 v cols m c1) := rfl
theorem pay40_eq : k0_pay40 v cols m = pickOf (hide m (plane v 5)) := rfl
theorem pay41_eq : k0_pay41 v cols m = mark m (k0_pay40 v cols m) := rfl
theorem pay42_eq : k0_pay42 v cols m = pickOf (hide (k0_pay41 v cols m) (plane v 6)) := rfl
theorem pay43_eq : k0_pay43 v cols m = mark (k0_pay41 v cols m) (k0_pay42 v cols m) := rfl
theorem pay44_eq : k0_pay44 v cols m = pickOf (hide (k0_pay43 v cols m) (plane v 7)) := rfl
theorem pay45_eq : k0_pay45 v cols m = mark (k0_pay43 v cols m) (k0_pay44 v cols m) := rfl
theorem pay46_eq : k0_pay46 v = plane v 8 := rfl
theorem pay47_eq (a0 a1 a2 a3 a4 a5 a6 a7 : IVec S16 32) : k0_pay47 v cols a0 a1 a2 a3 a4 a5 a6 a7 m x (Scalar.ofBits .f32 0x7F800000#32)
    = beside a0 a1 a2 a3 a4 a5 a6 a7 (pickOf (hide m x)) (pickOf (hide (mark m (pickOf (hide m x))) (plane v 9))) := rfl

theorem b0 : k0_pay29 v = idx v 0 := rfl
theorem bm1 : k0_pay30 v = msk v 1 := rfl
theorem b1 : k0_pay31 v = idx v 1 := by
  rw [show k0_pay31 v = pickOf (hide (k0_pay30 v) (plane v 1)) from rfl, bm1]; rfl
theorem bm2 : k0_pay33 cols (msk v 1) (k0_pay32 v) = msk v 2 := by rw [pay33_eq, b1, msk_succ]
theorem b2 : k0_pay34 v cols (msk v 1) (k0_pay32 v) = idx v 2 := by rw [pay34_eq, bm2]; rfl
theorem bm3 : k0_pay35 v cols (msk v 1) (k0_pay32 v) = msk v 3 := by rw [pay35_eq, b2, bm2, msk_succ]
theorem b3 : k0_pay36 v cols (msk v 1) (k0_pay32 v) = idx v 3 := by rw [pay36_eq, bm3]; rfl
theorem bm4 : k0_pay37 v cols (msk v 1) (k0_pay32 v) = msk v 4 := by rw [pay37_eq, b3, bm3, msk_succ]
theorem b4 : k0_pay38 v cols (msk v 1) (k0_pay32 v) = idx v 4 := by rw [pay38_eq, bm4]; rfl
theorem bm5 : k0_pay39 v cols (msk v 1) (k0_pay32 v) = msk v 5 := by rw [pay39_eq, b4, bm4, msk_succ]
theorem b5 : k0_pay40 v cols (msk v 5) = idx v 5 := by rw [pay40_eq]; rfl
theorem bm6 : k0_pay41 v cols (msk v 5) = msk v 6 := by rw [pay41_eq, b5, msk_succ]
theorem b6 : k0_pay42 v cols (msk v 5) = idx v 6 := by rw [pay42_eq, bm6]; rfl
theorem bm7 : k0_pay43 v cols (msk v 5) = msk v 7 := by rw [pay43_eq, b6, bm6, msk_succ]
theorem b7 : k0_pay44 v cols (msk v 5) = idx v 7 := by rw [pay44_eq, bm7]; rfl
theorem bm8 : k0_pay45 v cols (msk v 5) = msk v 8 := by rw [pay45_eq, b7, bm7, msk_succ]
theorem b9 : k0_pay47 v cols (idx v 0) (idx v 1) (idx v 2) (idx v 3) (idx v 4) (idx v 5) (idx v 6) (idx v 7) (msk v 8) (k0_pay46 v) (Scalar.ofBits .f32 0x7F800000#32) = picks v := by
  rw [pay47_eq, pay46_eq]; rfl

end A

/-! ## The distances of a block of rows -/

/-- The first half of a step's rows. -/
def distA (z : FVec F S10x32x512 .f32) (q : FVec F S10x32x1 .f32) (mt : FVec F S512x8192 .f32) (r : FVec F S1x8192 .f32) : FVec F S10x16x8192 .f32 :=
  k0_pay27 (k0_pay25 (k0_pay3 q)) (k0_pay26 (k0_pay2 z)) mt (constant S160x8192 .f32 0x00000000#32) r

/-- The second half. -/
def distB (z : FVec F S10x32x512 .f32) (q : FVec F S10x32x1 .f32) (mt : FVec F S512x8192 .f32) (r : FVec F S1x8192 .f32) : FVec F S10x16x8192 .f32 :=
  k0_pay1 (k0_pay48 (k0_pay2 z) mt) (k0_pay49 r) (k0_pay50 (k0_pay3 q))

/-- The first block's text, whole. -/
theorem textA (v : FVec F S10x16x8192 .f32) :
    k0_pay24 v cols (k0_pay5 v) (k0_pay9 cols (k0_pay7 v) (k0_pay8 v)) (k0_pay11 v cols (k0_pay6 v) (k0_pay7 v) (k0_pay8 v))
      (k0_pay13 v cols (k0_pay6 v) (k0_pay7 v) (k0_pay8 v))
      (k0_pay17 cols (k0_pay15 v cols (k0_pay6 v) (k0_pay7 v) (k0_pay8 v)) k0_pay16)
      (k0_pay19 v cols (k0_pay14 v cols (k0_pay6 v) (k0_pay7 v) (k0_pay8 v)) (k0_pay15 v cols (k0_pay6 v) (k0_pay7 v) (k0_pay8 v)) k0_pay16)
      (k0_pay21 v cols (k0_pay14 v cols (k0_pay6 v) (k0_pay7 v) (k0_pay8 v)) (k0_pay15 v cols (k0_pay6 v) (k0_pay7 v) (k0_pay8 v)) k0_pay16)
      (k0_pay22 v cols (k0_pay14 v cols (k0_pay6 v) (k0_pay7 v) (k0_pay8 v)) (k0_pay15 v cols (k0_pay6 v) (k0_pay7 v) (k0_pay8 v)) k0_pay16)
      (k0_pay23 v cols (k0_pay14 v cols (k0_pay6 v) (k0_pay7 v) (k0_pay8 v)) (k0_pay15 v cols (k0_pay6 v) (k0_pay7 v) (k0_pay8 v)) k0_pay16)
    = picks v := by
  rw [a1, a2, a3, ae4, am4, a4, a5, a6, am7, a7, a0, a9]

/-- The second block's text, whole. -/
theorem textB (v : FVec F S10x16x8192 .f32) :
    k0_pay47 v cols (k0_pay29 v) (k0_pay31 v) (k0_pay34 v cols (k0_pay30 v) (k0_pay32 v)) (k0_pay36 v cols (k0_pay30 v) (k0_pay32 v))
      (k0_pay38 v cols (k0_pay30 v) (k0_pay32 v))
      (k0_pay40 v cols (k0_pay39 v cols (k0_pay30 v) (k0_pay32 v)))
      (k0_pay42 v cols (k0_pay39 v cols (k0_pay30 v) (k0_pay32 v)))
      (k0_pay44 v cols (k0_pay39 v cols (k0_pay30 v) (k0_pay32 v)))
      (k0_pay45 v cols (k0_pay39 v cols (k0_pay30 v) (k0_pay32 v)))
      (k0_pay46 v) (Scalar.ofBits .f32 0x7F800000#32)
    = picks v := by
  rw [bm1, b2, b3, b4, bm5, b5, b6, b7, bm8, b0, b1, b9]

end Cert.Proof.As

end
-- ==== Proof.AsBody.lean ====
/- The body of the assignment call, run once: what it leaves in its scratch buffers and in the output's block. -/
module

public import proofs.«01_k».proof.Proof.AsStep
public import proofs.«01_k».proof.Proof.Gen.AssignIdeal.Launch
public import proofs.«01_k».proof.Proof.Gen.AssignIdeal.Points
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WritesUnit

@[expose] public section

set_option maxRecDepth 16384

noncomputable section

namespace Cert.Proof.As

open Cert.AssignIdeal Cert.AssignIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev rZ : Rect S10x32x512 := Rect.unit (s := S10x32x512) ![0, 0, 0] S10x32x512.size inb_S10x32x512_S10x32x512_0_0_0
abbrev rQ : Rect S10x32x1 := Rect.unit (s := S10x32x1) ![0, 0, 0] S10x32x1.size inb_S10x32x1_S10x32x1_0_0_0
abbrev rM : Rect S512x8192 := Rect.unit (s := S512x8192) ![0, 0] S512x8192.size inb_S512x8192_S512x8192_0_0
abbrev rR : Rect S1x8192 := Rect.unit (s := S1x8192) ![0, 0] S1x8192.size inb_S1x8192_S1x8192_0_0
abbrev rD : Rect S10x16x8192 := Rect.unit (s := S10x16x8192) ![0, 0, 0] S10x16x8192.size inb_S10x16x8192_S10x16x8192_0_0_0

/-- The rows the first store of step `i` writes, and the rows the second writes. -/
abbrev r1 (i : grid0.Coords) : Rect S1024x10 := Rect.unit (s := S1024x10) (k0_off1 i) S16x10.size (k0_off1_inb i)
abbrev r2 (i : grid0.Coords) : Rect S1024x10 := Rect.unit (s := S1024x10) (k0_off2 i) S16x10.size (k0_off2_inb i)

/-- The output's block after step `i`, from its block before and the two stored pieces. -/
def Upd (i : grid0.Coords) (X : Vec F S1024x10 .i32) (pA pB : Vec F S16x10 .i32) (Y : Vec F S1024x10 .i32) : Prop :=
  ∃ (v : View sig .tc .vmem S1024x10 .i32) (f : v.ty.Contents (Elt F)),
    v.read (Elt F) f = X ∧ Y = v.read (Elt F) (v.writes (Elt F) f [⟨r2 i, pB⟩, ⟨r1 i, pA⟩])

set_option maxHeartbeats 2000000 in
theorem kernelRun (c : Dev nD) (E : Set ℕ) (i : grid0.Coords) (arg1 : Memref sig .tc .vmem S10x32x512 .f32) (harg1 : arg1.IsWhole) (arg2 : Memref sig .tc .vmem S10x32x1 .f32) (harg2 : arg2.IsWhole) (arg3 : Memref sig .tc .vmem S512x8192 .f32) (harg3 : arg3.IsWhole) (arg4 : Memref sig .tc .vmem S1x8192 .f32) (harg4 : arg4.IsWhole) (arg5 : Memref sig .tc .vmem S1024x10 .i32) (harg5 : arg5.IsWhole) (arg6 : Memref sig .tc .vmem S10x16x8192 .f32) (harg6 : arg6.IsWhole) (arg7 : Memref sig .tc .vmem S10x16x8192 .f32) (harg7 : arg7.IsWhole)
    (x1 : Vec F S10x32x512 .f32) (x2 : Vec F S10x32x1 .f32) (x3 : Vec F S512x8192 .f32) (x4 : Vec F S1x8192 .f32) (x5 : Vec F S1024x10 .i32) (x6 x7 : Vec F S10x16x8192 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (iprop(owns (c : Thread nD τ) arg1 fullShare x1 ∗ owns (c : Thread nD τ) arg2 fullShare x2 ∗ owns (c : Thread nD τ) arg3 fullShare x3 ∗ owns (c : Thread nD τ) arg4 fullShare x4
            ∗ (∃ Y, ⌜Upd i x5 (picks (View.ld x6 rD)) (picks (distA (View.ld x1 rZ) (View.ld x2 rQ) (View.ld x3 rM) (View.ld x4 rR))) Y⌝ ∗ owns (c : Thread nD τ) arg5 fullShare Y)
            ∗ owns (c : Thread nD τ) arg6 fullShare (View.canon [⟨rD, distB (View.ld x1 rZ) (View.ld x2 rQ) (View.ld x3 rM) (View.ld x4 rR)⟩])
            ∗ (∃ d, owns (c : Thread nD τ) arg7 fullShare d)) -∗ K ⟨⟩))
      ⊢ wp frame (wpE (defs₀ (F := F)) Variants.none c none) E (cc0__assign_body i arg1 harg1 arg2 harg2 arg3 harg3 arg4 harg4 arg5 harg5 arg6 harg6 arg7 harg7) K := by
  simp only [cc0__assign_body_eq_skeleton, k0_part1_eq_skeleton, k0_part2_eq_skeleton, k0_part3_eq_skeleton, k0_part4_eq_skeleton, k0_part5_eq_skeleton, k0_part6_eq_skeleton, k0_part7_eq_skeleton, k0_part8_eq_skeleton]; unfold cc0__assign_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _
    isplitr
    swap
    · iexists _; isplitr
      swap; · iexact H5
      ipureintro; rfl
    ipureintro
    refine ⟨arg5.view, f5, rfl, ?_⟩
    refine congrArg (fun z => View.read (Elt F) arg5.view (arg5.view.writes (Elt F) f5 z)) ?_
    refine congrArg₂ (fun a b => [(⟨r2 i, a⟩ : View.Piece (Elt F) S1024x10 .i32), ⟨r1 i, b⟩]) ?_ ?_
    · have h : kernelRun.sl.v189 c arg1 arg2 arg3 arg4 arg7 f1 f2 f3 f4 = distA (View.ld (View.read (Elt F) arg1.view f1) rZ) (View.ld (View.read (Elt F) arg2.view f2) rQ) (View.ld (View.read (Elt F) arg3.view f3) rM) (View.ld (View.read (Elt F) arg4.view f4) rR) :=
        View.readCov_cons_toLoadRect _ _ _ _
      rw [← h]
      exact textB _
    · exact textA (View.ld (View.read (Elt F) arg6.view f6) rD)
  isplitl [H6]
  · iexists _; isplitr
    swap; · iexact H6
    ipureintro
    exact View.read_writes_eq_canon _ _ _ (fun y => View.cover_of_tiled [⟨rD, _⟩] S10x16x8192.size (by rfl) y)
  iexists _, _; isplitr
  swap; · iexact H7
  ipureintro; rfl

end Cert.Proof.As

end
-- ==== Proof.AsLaunch.lean ====
/- The assignment call launched: what each point's stores leave in the output's block, and the run of the whole program. -/
module

public import proofs.«01_k».proof.Proof.AsBody
public import Idealize.ShloMosaic.Lib.Pipeline.DatRel
public import Idealize.ShloMosaic.Lib.Pipeline.ArrRel
public import Idealize.ShloMosaic.Lib.ValueIdxCore

@[expose] public section

set_option maxRecDepth 16384

noncomputable section

namespace Cert.Proof.As

open Cert.AssignIdeal Cert.AssignIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each core's buffers when the call is reached, after the host operations. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh0 main_chain

/-- No host operation before the call writes this argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes this argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the call writes this argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The distances of a point's first sixteen rows, and of its last sixteen. -/
def fstD (c : Dev nD) (t : Fin cfg0.N) : Vec F S10x16x8192 .f32 :=
  distA (F := F) (iblk m c 0 t) (iblk m c 1 t) (iblk m c 2 t) (iblk m c 3 t)
def sndD (c : Dev nD) (t : Fin cfg0.N) : Vec F S10x16x8192 .f32 :=
  distB (F := F) (iblk m c 0 t) (iblk m c 1 t) (iblk m c 2 t) (iblk m c 3 t)

/-- The point whose rows hold row `n`, and `n`'s place in its half. -/
def ptOf (n : Fin 1024) : Fin cfg0.N := ⟨n.val / 32, show n.val / 32 < 33 by omega⟩
def inHalf (n : Fin 1024) (k : Fin 10) : S16x10.Idx := ValueIdx.ix2 ⟨n.val % 16, Nat.mod_lt _ (by decide)⟩ k

/-- What the output holds at row `n`, column `k` once its row is stored. -/
def want (c : Dev nD) (n : Fin 1024) (k : Fin 10) : BitVec 32 :=
  if n.val / 16 % 2 = 0 then picks (F := F) (fstD m c (ptOf n)) (inHalf n k) else picks (F := F) (sndD m c (ptOf n)) (inHalf n k)

/-- Every row before `16 b` holds what it should. -/
def Upto (c : Dev nD) (b : ℕ) (X : Vec F S1024x10 .i32) : Prop :=
  ∀ (n : Fin 1024) (k : Fin 10), n.val < 16 * b → X (ValueIdx.ix2 n k) = want m c n k

theorem off1_eq : ∀ i : grid0.Coords, k0_off1 i = ![16 * (2 * (i 0).val - 1), 0] := by decide +kernel
theorem off2_eq : ∀ i : grid0.Coords, k0_off2 i = ![16 * min (2 * (i 0).val) 62, 0] := by decide +kernel
theorem coords_val : ∀ t : Fin cfg0.N, ((grid0.coords t) 0).val = t.val := by decide +kernel

/-- The last point reads the block the one before it read. -/
theorem fst_last (c : Dev nD) : fstD m c ⟨32, by decide⟩ = fstD m c ⟨31, by decide⟩ := by
  have h0 : iblk m c 0 ⟨32, by decide⟩ = iblk m c 0 ⟨31, by decide⟩ := rfl
  have h1 : iblk m c 1 ⟨32, by decide⟩ = iblk m c 1 ⟨31, by decide⟩ := rfl
  have h2 : iblk m c 2 ⟨32, by decide⟩ = iblk m c 2 ⟨31, by decide⟩ := rfl
  have h3 : iblk m c 3 ⟨32, by decide⟩ = iblk m c 3 ⟨31, by decide⟩ := rfl
  unfold fstD
  rw [h0, h1, h2, h3]

/-- One point's stores: the rows right before them, and the second halves of the point before, leave the rows right up to the first
half of this point. -/
theorem upd_upto (c : Dev nD) (t : Fin cfg0.N) (X Y : Vec F S1024x10 .i32) (u : Vec F S10x16x8192 .f32)
    (hX : t.val ≠ 0 → Upto m c (2 * t.val - 1) X) (hu : ∀ s : Fin cfg0.N, t.val = s.val + 1 → u = sndD m c s)
    (hY : Upd (grid0.coords t) X (picks u) (picks (fstD m c t)) Y) : Upto m c (2 * t.val + 1) Y := by
  obtain ⟨v, f, hf, rfl⟩ := hY
  subst hf
  intro n k hn
  have ht : t.val < 33 := t.isLt
  have e2 := off2_eq (grid0.coords t)
  have e1 := off1_eq (grid0.coords t)
  rw [coords_val] at e1 e2
  by_cases h2 : n.val / 16 = min (2 * t.val) 62
  · have hm : n.val = 16 * min (2 * t.val) 62 + n.val % 16 := by omega
    refine (View.read_writes_cons_rows_of_mem v f _ _ _ (ValueIdx.ix2 n k) (inHalf n k) e2 hm rfl).trans ?_
    have hp : n.val / 16 % 2 = 0 := by omega
    unfold want
    rw [if_pos hp]
    by_cases h32 : t.val = 32
    · have a : t = ⟨32, by decide⟩ := Fin.ext h32
      have b : ptOf n = ⟨31, by decide⟩ := Fin.ext (show n.val / 32 = 31 by omega)
      rw [a, b, fst_last]
    · have b : ptOf n = t := Fin.ext (show n.val / 32 = t.val by omega)
      rw [b]
  · refine (View.read_writes_cons_rows_of_not_mem v f _ _ _ (ValueIdx.ix2 n k) e2 (W := 16) rfl ?_).trans ?_
    · show n.val < 16 * min (2 * t.val) 62 ∨ 16 * min (2 * t.val) 62 + 16 ≤ n.val
      omega
    by_cases h1 : n.val / 16 = 2 * t.val - 1
    · have hm : n.val = 16 * (2 * t.val - 1) + n.val % 16 := by omega
      refine (View.read_writes_cons_rows_of_mem v f _ _ _ (ValueIdx.ix2 n k) (inHalf n k) e1 hm rfl).trans ?_
      have hp : ¬ n.val / 16 % 2 = 0 := by omega
      have hs := hu (ptOf n) (show t.val = n.val / 32 + 1 by omega)
      unfold want
      rw [if_neg hp, hs]
    · refine (View.read_writes_cons_rows_of_not_mem v f _ _ _ (ValueIdx.ix2 n k) e1 (W := 16) rfl ?_).trans ?_
      · show n.val < 16 * (2 * t.val - 1) ∨ 16 * (2 * t.val - 1) + 16 ≤ n.val
        omega
      exact hX (by omega) n k (by omega)

abbrev scA : Memref sig .tc .vmem S10x16x8192 .f32 := Memref.whole cc0_scratch0
abbrev scB : Memref sig .tc .vmem S10x16x8192 .f32 := Memref.whole cc0_scratch1

/-- Between points: the first scratch buffer holds the second-half distances of the point before, the other anything. -/
def inv (c : Dev nD) (t : Fin (cfg0.N + 1)) : sProp 𝕄 :=
  iprop((∃ u, ⌜∀ s : Fin cfg0.N, t.val = s.val + 1 → u = sndD m c s⌝ ∗ owns (c : Thread nD τ) scA fullShare u)
    ∗ (∃ d, owns (c : Thread nD τ) scB fullShare d) ∗ ∃ r, prngReg c r)

/-- The proof data: each input's block left in place; the output's block is named by `leaves` below. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := inv m c t
  q _ := fullShare
  owed _ := 0

/-- The window that is held to a predicate: the output's. -/
def marked : Fin 5 → Bool := fun w => match w with
  | ⟨4, _⟩ => true
  | _ => false

/-- What a point leaves in it. -/
def leaves (c : Dev nD) (w : Fin cfg0.W) (t : Fin cfg0.N) : ((cfg0.win w).block.Idx → Elt F (cfg0.win w).elt) → Prop :=
  match w with
  | ⟨4, _⟩ => fun X => Upto m c (2 * t.val + 1) X
  | _ => fun _ => True

abbrev rdat (c : Dev nD) : RDat τ (Elt F) Unit ℕ (UR sig nD τ) ℕ cfg0 c := (dat m c).toRRel marked (leaves m c)

theorem A_eq (c : Dev nD) (w : Fin cfg0.W) : (dat m c).A w = V m c (Pipeline.arrRef spec0 w) := by dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]

theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem before2 (c : Dev nD) (t : Fin cfg0.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem before3 (c : Dev nD) (t : Fin cfg0.N) (d) : (dat m c).before 3 t d = iblk m c 3 t :=
  ((dat m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What a point finds in the output's block is what the point before left. -/
theorem finds (c : Dev nD) (t : Fin cfg0.N) (X : Vec F S1024x10 .i32) (h : (rdat m c).Finds 4 t X) (ht : t.val ≠ 0) :
    Upto m c (2 * t.val - 1) X := by
  have hl : t.val < 33 := t.isLt
  rcases ((rdat m c).finds_of_pos (w := 4) rfl ht X).mp h with hf | hf
  · exact absurd ((flush0_4 _).mp hf) (show ¬ (t.val - 1) % 33 = 32 by omega)
  · have := (dat m c).toRRel_leaves (fgt := marked) (Rl := leaves m c) (w := 4) rfl hf
    have e : 2 * (t.val - 1) + 1 = 2 * t.val - 1 := by omega
    rw [← e]
    exact this

def bodyPre (c : Dev nD) (t : Fin cfg0.N) : sProp 𝕄 :=
  iprop(inv m c t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ X, ⌜(rdat m c).Finds 4 t X⌝ ∗ owns (c : Thread nD τ) (st0_4 t) fullShare X))

def bodyPost (c : Dev nD) (t : Fin cfg0.N) : sProp 𝕄 :=
  iprop(inv m c t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ (∃ X, ⌜leaves m c 4 t X⌝ ∗ owns (c : Thread nD τ) (st0_4 t) fullShare X))

theorem z3 : (![0, 0, 0] : Fin 3 → ℕ) = fun _ => 0 := by decide
theorem z2 : (![0, 0] : Fin 2 → ℕ) = fun _ => 0 := by decide

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dat m c).owesAt () t.succ = (dat m c).owesAt () t.castSucc from rfl, after0, after1, after2, after3]
  unfold inv
  iintro ⟨⟨⟨%u, %hu, HA⟩, ⟨%d, HB⟩, Hg⟩, Ho, ⟨%d0, H0⟩, ⟨%d1, H1⟩, ⟨%d2, H2⟩, ⟨%d3, H3⟩, ⟨%X, %hX, H4⟩⟩
  iapply (kernelRun c Set.univ (grid0.coords t) _ _ _ _ _ _ _ _ _ _ _ _ _ _ (iblk m c 0 t) (iblk m c 1 t) (iblk m c 2 t) (iblk m c 3 t) X u d _)
  isplitl [H0]; · iexact H0
  isplitl [H1]; · iexact H1
  isplitl [H2]; · iexact H2
  isplitl [H3]; · iexact H3
  isplitl [H4]; · iexact H4
  isplitl [HA]; · iexact HA
  isplitl [HB]; · iexact HB
  iintro ⟨H0, H1, H2, H3, ⟨%Y, %hY, H4⟩, HA, HB⟩
  isplitl [HA HB Hg]
  · isplitl [HA]
    · iexists _
      isplitr
      swap; · iexact HA
      ipureintro
      intro s hs
      have e : s = t := Fin.ext (by simpa using hs.symm)
      subst e
      rw [View.canon_unit_zero z3, View.ld_unit_zero z3, View.ld_unit_zero z3, View.ld_unit_zero z2, View.ld_unit_zero z2]
      rfl
    isplitl [HB]; · iexact HB
    iexact Hg
  isplitl [Ho]; · iexact Ho
  isplitl [H0]; · iexact H0
  isplitl [H1]; · iexact H1
  isplitl [H2]; · iexact H2
  isplitl [H3]; · iexact H3
  iexists Y
  isplitr
  swap; · iexact H4
  ipureintro
  rw [View.ld_unit_zero z3, View.ld_unit_zero z3, View.ld_unit_zero z3, View.ld_unit_zero z2, View.ld_unit_zero z2] at hY
  exact upd_upto m c t X Y u (finds m c t X hX) (fun s hs => hu s hs) hY

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dat (F := F) m c) (defs₀ (F := F)) Variants.none () Set.univ marked (leaves m c) := fun t => by
  rw [bigSep_W0, bigSep_W0, defs₀_row]
  exact triple_restated (sound_body m c t) rfl .rfl fun _ => .rfl

theorem inv_in (c : Dev nD) : Pipeline.ΦA spec0 c ⊢ inv m c 0 := by
  unfold Pipeline.ΦA inv
  rw [scopedRest0_eq]
  simp only [scA, scB, owns_whole]
  iintro ⟨⟨⟨%f, HA⟩, HB⟩, Hg⟩
  isplitl [HA]
  · iexists f
    isplitr
    swap; · iexact HA
    ipureintro
    intro s hs
    exact absurd hs (by simp)
  isplitl [HB]; · iexact HB
  iexact Hg

theorem inv_out (c : Dev nD) : inv m c (Fin.last cfg0.N) ⊢ Pipeline.ΦA spec0 c := by
  unfold Pipeline.ΦA inv
  rw [scopedRest0_eq]
  simp only [scA, scB, owns_whole]
  iintro ⟨⟨%f, %hf, HA⟩, HB, Hg⟩
  isplitl [HA HB]
  · isplitl [HA]; · iexists f; iexact HA
    iexact HB
  iexact Hg

set_option backward.isDefEq.respectTransparency.types false in
set_option maxHeartbeats 800000 in
/-- Every run ends, with every array at what the proof data say and every counter at zero. -/
theorem run_main : θ_run defs (onTc (τ := τ) (main (F := F))) (s₀ m ρ)
    (fun r => RDat.FramePost cfg0 (rdat m) (V m) r ∧ r.2.sem = fun _ => 0) :=
  RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m)
    (hin := inv_in m) (hout := inv_out m)

/-- The whole output is stored at the last point. -/
theorem whole4 : (cfg0.win 4).WholeAt (⟨32, by decide⟩ : Fin cfg0.N) :=
  ⟨(flush0_4 _).mpr rfl, fun t h => Fin.ext (by have := (flush0_4 t).mp h; have := t.isLt; have : t.val < 33 := this; show t.val = 32; omega),
    by decide⟩

/-- The run, read at the arguments and at the output. -/
theorem run_out : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ ∀ (n : Fin 1024) (k : Fin 10), (r.2.mem ((c.tc : Thread nD τ).loc main_v8) : Vec F S1024x10 .i32) (ValueIdx.ix2 n k) = want m c n k)
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans (V_main_arg2 m c),
      fun n k => by
        obtain ⟨X, hX, hG⟩ := RDat.ArrAt.emb_eq_of_wholeAt ((h.1 c).1 4) whole4
        have hL : Upto m c 65 X := (dat m c).toRRel_leaves (fgt := marked) (Rl := leaves m c) (w := 4) rfl hX
        have e : X (ValueIdx.ix2 n k) = want m c n k := hL n k (by have := n.isLt; omega)
        exact (hG (ValueIdx.ix2 n k)).trans e⟩, h.2⟩) (run_main m ρ)

/-- The arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c).1, (h.1 c).2.1, (h.1 c).2.2.1⟩, h.2⟩) (run_out m ρ)

end Cert.Proof.As

end
-- ==== Proof.ArOps.lean ====
/- The assignment's reference, run: the distances, then ten rounds of taking each row's first least column and barring it. -/
module

public import proofs.«01_k».proof.Proof.Gen.AssignReferenceIdeal
public import Idealize.ShloMosaic.Lib.StableHlo.Run
public import Idealize.ShloMosaic.Lib.Quiescent

@[expose] public section

set_option maxRecDepth 16384

noncomputable section

namespace Cert.Proof.Ar

open Cert.AssignReferenceIdeal Cert.AssignReferenceIdeal.Gen Idealize.ShloMosaic Idealize.ShloMosaic.TcCoe Idealize.SL.Sem Idealize.ShloMosaic.StableHlo

variable {F : FTy → Type} [FloatOps F]

/-- The distances, one row per point, slot and column. -/
def rdist (z : FVec F S10240x512 .f32) (q : FVec F S8192x1 .f32) (mt : FVec F S512x8192 .f32) : FVec F S1024x10x8192 .f32 :=
  shapeCast S1024x10x8192 (subf (addf
      (broadcastInDim S10240x8192 ![0, 1] bcast_S10240x1_S10240x8192_0_1 (broadcastInDim S10240x1 ![0] bcast_S10240_S10240x1_0
        (Host.reduceAdd (mulf z z) (constant S_ .f32 0x00000000#32) reducesTo_S10240x512_S10240_d1 h_S_)))
      (broadcastInDim S10240x8192 ![0, 1] bcast_S1x8192_S10240x8192_0_1 (broadcastInDim S1x8192 ![1] bcast_S8192_S1x8192_1
        (shapeCast S8192 q shapeCasts_S8192x1_S8192))))
      (Host.dotGeneral dot_S10240x512_S512x8192_S10240x8192_1_0_0_1_n_n none z mt)) shapeCasts_S10240x8192_S1024x10x8192

theorem rslices : ∀ k : Fin 10, S1024x10x8192.Slices ![0, k.val, 0] S1024x1x8192 := by decide

/-- Slot `k`'s rows. -/
def rplane (d : FVec F S1024x10x8192 .f32) (k : Nat) : FVec F S1024x8192 .f32 :=
  shapeCast S1024x8192 (extractStridedSlice S1024x1x8192 ![0, (Fin.ofNat 10 k).val, 0] d (rslices (Fin.ofNat 10 k))) shapeCasts_S1024x1x8192_S1024x8192

/-- Each row's first least column. -/
def rargmin (x : FVec F S1024x8192 .f32) : IVec S1024 32 :=
  fun j => (Host.argReduce reducer_argmin_f32_i32 x (iotaInDim S1024x8192 32 1) (constant S_ .f32 0x7F800000#32) (constantI S_ 32 0#32) reducesTo_S1024x8192_S1024_d1 h_S_ j).2

/-- The rows with each point's given column barred. -/
def rhide (i : IVec S1024 32) (d : FVec F S1024x10x8192 .f32) : FVec F S1024x10x8192 .f32 :=
  select (broadcastInDim S1024x10x8192 ![0, 1, 2] bcast_S1024x1x8192_S1024x10x8192_0_1_2
      (cmpi .eq (broadcastInDim S1024x1x8192 ![0, 1, 2] bcast_S1x1x8192_S1024x1x8192_0_1_2 (broadcastInDim S1x1x8192 ![2] bcast_S8192_S1x1x8192_2 (iotaInDim S8192 32 0)))
        (broadcastInDim S1024x1x8192 ![0, 1, 2] bcast_S1024x1x1_S1024x1x8192_0_1_2 (broadcastInDim S1024x1x1 ![0] bcast_S1024_S1024x1x1_0 i))))
    (broadcastInDim S1024x10x8192 ![] bcast_S_S1024x10x8192 (constant S_ .f32 0x7F800000#32)) d

/-- The rows before round `k`, and round `k`'s picks. -/
def rows (d : FVec F S1024x10x8192 .f32) : Nat → FVec F S1024x10x8192 .f32
  | 0 => d
  | k + 1 => rhide (rargmin (rplane (rows d k) k)) (rows d k)
def rpick (d : FVec F S1024x10x8192 .f32) (k : Nat) : IVec S1024 32 := rargmin (rplane (rows d k) k)

def rcol (i : IVec S1024 32) : IVec S1024x1 32 := broadcastInDim S1024x1 ![0] bcast_S1024_S1024x1_0 i

/-- All ten rounds' picks, side by side. -/
def rpicks (d : FVec F S1024x10x8192 .f32) : IVec S1024x10 32 :=
  concatenate S1024x10 1 [⟨S1024x1, rcol (rpick d 0)⟩, ⟨S1024x1, rcol (rpick d 1)⟩, ⟨S1024x1, rcol (rpick d 2)⟩, ⟨S1024x1, rcol (rpick d 3)⟩, ⟨S1024x1, rcol (rpick d 4)⟩,
    ⟨S1024x1, rcol (rpick d 5)⟩, ⟨S1024x1, rcol (rpick d 6)⟩, ⟨S1024x1, rcol (rpick d 7)⟩, ⟨S1024x1, rcol (rpick d 8)⟩, ⟨S1024x1, rcol (rpick d 9)⟩] concatenates_S1024x1_S1024x1_S1024x1_S1024x1_S1024x1_S1024x1_S1024x1_S1024x1_S1024x1_S1024x1_S1024x10_d1

/-- The operations of this stretch, and what they write. -/
abbrev preOps : List (HloOp τ sig (Elt F)) :=
  [ binary main_arg0 main_arg0 main_v0 (mulf : (⟨S10240x512, .f32⟩ : BufTy).Contents (Elt F) → (⟨S10240x512, .f32⟩ : BufTy).Contents (Elt F) → (⟨S10240x512, .f32⟩ : BufTy).Contents (Elt F)),
    nullary main_cst (constant S_ .f32 0x00000000#32),
    binary main_v0 main_cst main_v1 ((fun x v => Host.reduceAdd x v reducesTo_S10240x512_S10240_d1 h_S_) : (⟨S10240x512, .f32⟩ : BufTy).Contents (Elt F) → (⟨S_, .f32⟩ : BufTy).Contents (Elt F) → (⟨S10240, .f32⟩ : BufTy).Contents (Elt F)),
    unary main_v1 main_v2 (broadcastInDim S10240x1 ![0] bcast_S10240_S10240x1_0 : (⟨S10240, .f32⟩ : BufTy).Contents (Elt F) → (⟨S10240x1, .f32⟩ : BufTy).Contents (Elt F)),
    reshape main_arg1 main_v3 (rfl : (.f32 : EltTy) = .f32) shapeCasts_S8192x1_S8192,
    unary main_v3 main_v4 (broadcastInDim S1x8192 ![1] bcast_S8192_S1x8192_1 : (⟨S8192, .f32⟩ : BufTy).Contents (Elt F) → (⟨S1x8192, .f32⟩ : BufTy).Contents (Elt F)),
    unary main_v2 main_v5 (broadcastInDim S10240x8192 ![0, 1] bcast_S10240x1_S10240x8192_0_1 : (⟨S10240x1, .f32⟩ : BufTy).Contents (Elt F) → (⟨S10240x8192, .f32⟩ : BufTy).Contents (Elt F)),
    unary main_v4 main_v6 (broadcastInDim S10240x8192 ![0, 1] bcast_S1x8192_S10240x8192_0_1 : (⟨S1x8192, .f32⟩ : BufTy).Contents (Elt F) → (⟨S10240x8192, .f32⟩ : BufTy).Contents (Elt F)),
    binary main_v5 main_v6 main_v7 (addf : (⟨S10240x8192, .f32⟩ : BufTy).Contents (Elt F) → (⟨S10240x8192, .f32⟩ : BufTy).Contents (Elt F) → (⟨S10240x8192, .f32⟩ : BufTy).Contents (Elt F)),
    binary main_arg0 main_arg2 main_v8 ((fun l r => Host.dotGeneral dot_S10240x512_S512x8192_S10240x8192_1_0_0_1_n_n none l r) : (⟨S10240x512, .f32⟩ : BufTy).Contents (Elt F) → (⟨S512x8192, .f32⟩ : BufTy).Contents (Elt F) → (⟨S10240x8192, .f32⟩ : BufTy).Contents (Elt F)),
    binary main_v7 main_v8 main_v9 (subf : (⟨S10240x8192, .f32⟩ : BufTy).Contents (Elt F) → (⟨S10240x8192, .f32⟩ : BufTy).Contents (Elt F) → (⟨S10240x8192, .f32⟩ : BufTy).Contents (Elt F)),
    reshape main_v9 main_v10 (rfl : (.f32 : EltTy) = .f32) shapeCasts_S10240x8192_S1024x10x8192,
    nullary main_v11 (iotaInDim S8192 32 0) ]

abbrev preW : List (Ref sig .tc) := [main_v0, main_cst, main_v1, main_v2, main_v3, main_v4, main_v5, main_v6, main_v7, main_v8, main_v9, main_v10, main_v11]

theorem pre_sub : (preOps : List (HloOp τ sig (Elt F))).Forall fun op => op.bufs ⊆ tcRefs τ sig :=
  ⟨binary_bufs_sub .., nullary_bufs_sub .., binary_bufs_sub .., unary_bufs_sub .., reshape_bufs_sub .., unary_bufs_sub .., unary_bufs_sub .., unary_bufs_sub .., binary_bufs_sub .., binary_bufs_sub .., binary_bufs_sub .., reshape_bufs_sub .., nullary_bufs_sub ..⟩

theorem pre_keep (U : Valuation τ sig (Elt F)) (r : Ref sig .tc) (h : r ∉ preW) : after (preOps (F := F)) U (Proc.devRef .tc r) = U (Proc.devRef .tc r) :=
  after_of_writes_sub _ U (forall_writes_sub_of_map (W := preW) rfl) h

/-- The operations of this stretch, and what they write. -/
abbrev take0Ops : List (HloOp τ sig (Elt F)) :=
  [ unary main_v10 main_v12 ((extractStridedSlice S1024x1x8192 ![0, 0, 0] · slices_S1024x10x8192_S1024x1x8192_0_0_0) : (⟨S1024x10x8192, .f32⟩ : BufTy).Contents (Elt F) → (⟨S1024x1x8192, .f32⟩ : BufTy).Contents (Elt F)),
    reshape main_v12 main_v13 (rfl : (.f32 : EltTy) = .f32) shapeCasts_S1024x1x8192_S1024x8192,
    TRef.nullary main_call0.v0 (iotaInDim S1024x8192 32 1),
    TRef.nullary main_call0.cst (constant S_ .f32 0x7F800000#32),
    TRef.nullary main_call0.c (constantI S_ 32 0#32),
    TRef.quaternary (.of main_v13 : TRef sig ⟨S1024x8192, .f32⟩) main_call0.v0 main_call0.cst main_call0.c main_call0.v1_0 (fun x y u v j => (Host.argReduce reducer_argmin_f32_i32 x y u v reducesTo_S1024x8192_S1024_d1 h_S_ j).1),
    TRef.quaternary (.of main_v13 : TRef sig ⟨S1024x8192, .f32⟩) main_call0.v0 main_call0.cst main_call0.c main_call0.v1_1 (fun x y u v j => (Host.argReduce reducer_argmin_f32_i32 x y u v reducesTo_S1024x8192_S1024_d1 h_S_ j).2) ]

abbrev take0W : List (Ref sig .tc) := [main_v12, main_v13, main_call0_v0, main_call0_cst, main_call0_c, main_call0_v1_0, main_v14]

theorem take0_sub : (take0Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take0_keep (U : Valuation τ sig (Elt F)) (r : Ref sig .tc) (h : r ∉ take0W) : after (take0Ops (F := F)) U (Proc.devRef .tc r) = U (Proc.devRef .tc r) :=
  after_of_writes_sub _ U (forall_writes_sub_of_map (W := take0W) rfl) h

/-- The operations of this stretch, and what they write. -/
abbrev bar0Ops : List (HloOp τ sig (Elt F)) :=
  [ unary main_v14 main_v15 (broadcastInDim S1024x1x1 ![0] bcast_S1024_S1024x1x1_0 : (⟨S1024, .i32⟩ : BufTy).Contents (Elt F) → (⟨S1024x1x1, .i32⟩ : BufTy).Contents (Elt F)),
    unary main_v11 main_v16 (broadcastInDim S1x1x8192 ![2] bcast_S8192_S1x1x8192_2 : (⟨S8192, .i32⟩ : BufTy).Contents (Elt F) → (⟨S1x1x8192, .i32⟩ : BufTy).Contents (Elt F)),
    unary main_v16 main_v17 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v15 main_v18 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v17 main_v18 main_v19 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_0 (constant S_ .f32 0x7F800000#32),
    TRef.unary (.of main_cst_0 : TRef sig ⟨S_, .f32⟩) main_call1.v0 id,
    TRef.unary (.of main_v19 : TRef sig ⟨S1024x1x8192, .i1⟩) main_call1.v1 (broadcastInDim S1024x10x8192 ![0, 1, 2] bcast_S1024x1x8192_S1024x10x8192_0_1_2),
    TRef.unary main_call1.v0 main_call1.v2 (broadcastInDim S1024x10x8192 ![] bcast_S_S1024x10x8192),
    TRef.ternary main_call1.v1 main_call1.v2 (.of main_v10 : TRef sig ⟨S1024x10x8192, .f32⟩) main_call1.v3 select,
    unary main_v14 main_v21 (broadcastInDim S1024x1 ![0] bcast_S1024_S1024x1_0 : (⟨S1024, .i32⟩ : BufTy).Contents (Elt F) → (⟨S1024x1, .i32⟩ : BufTy).Contents (Elt F)) ]

abbrev bar0W : List (Ref sig .tc) := [main_v15, main_v16, main_v17, main_v18, main_v19, main_cst_0, main_call1_v0, main_call1_v1, main_call1_v2, main_v20, main_v21]

theorem bar0_sub : (bar0Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar0_keep (U : Valuation τ sig (Elt F)) (r : Ref sig .tc) (h : r ∉ bar0W) : after (bar0Ops (F := F)) U (Proc.devRef .tc r) = U (Proc.devRef .tc r) :=
  after_of_writes_sub _ U (forall_writes_sub_of_map (W := bar0W) rfl) h

/-- The operations of this stretch, and what they write. -/
abbrev take1Ops : List (HloOp τ sig (Elt F)) :=
  [ unary main_v20 main_v22 ((extractStridedSlice S1024x1x8192 ![0, 1, 0] · slices_S1024x10x8192_S1024x1x8192_0_1_0) : (⟨S1024x10x8192, .f32⟩ : BufTy).Contents (Elt F) → (⟨S1024x1x8192, .f32⟩ : BufTy).Contents (Elt F)),
    reshape main_v22 main_v23 (rfl : (.f32 : EltTy) = .f32) shapeCasts_S1024x1x8192_S1024x8192,
    TRef.nullary main_call2.v0 (iotaInDim S1024x8192 32 1),
    TRef.nullary main_call2.cst (constant S_ .f32 0x7F800000#32),
    TRef.nullary main_call2.c (constantI S_ 32 0#32),
    TRef.quaternary (.of main_v23 : TRef sig ⟨S1024x8192, .f32⟩) main_call2.v0 main_call2.cst main_call2.c main_call2.v1_0 (fun x y u v j => (Host.argReduce reducer_argmin_f32_i32 x y u v reducesTo_S1024x8192_S1024_d1 h_S_ j).1),
    TRef.quaternary (.of main_v23 : TRef sig ⟨S1024x8192, .f32⟩) main_call2.v0 main_call2.cst main_call2.c main_call2.v1_1 (fun x y u v j => (Host.argReduce reducer_argmin_f32_i32 x y u v reducesTo_S1024x8192_S1024_d1 h_S_ j).2) ]

abbrev take1W : List (Ref sig .tc) := [main_v22, main_v23, main_call2_v0, main_call2_cst, main_call2_c, main_call2_v1_0, main_v24]

theorem take1_sub : (take1Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take1_keep (U : Valuation τ sig (Elt F)) (r : Ref sig .tc) (h : r ∉ take1W) : after (take1Ops (F := F)) U (Proc.devRef .tc r) = U (Proc.devRef .tc r) :=
  after_of_writes_sub _ U (forall_writes_sub_of_map (W := take1W) rfl) h

/-- The operations of this stretch, and what they write. -/
abbrev bar1Ops : List (HloOp τ sig (Elt F)) :=
  [ unary main_v24 main_v25 (broadcastInDim S1024x1x1 ![0] bcast_S1024_S1024x1x1_0 : (⟨S1024, .i32⟩ : BufTy).Contents (Elt F) → (⟨S1024x1x1, .i32⟩ : BufTy).Contents (Elt F)),
    unary main_v11 main_v26 (broadcastInDim S1x1x8192 ![2] bcast_S8192_S1x1x8192_2 : (⟨S8192, .i32⟩ : BufTy).Contents (Elt F) → (⟨S1x1x8192, .i32⟩ : BufTy).Contents (Elt F)),
    unary main_v26 main_v27 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v25 main_v28 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v27 main_v28 main_v29 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_1 (constant S_ .f32 0x7F800000#32),
    TRef.unary (.of main_cst_1 : TRef sig ⟨S_, .f32⟩) main_call3.v0 id,
    TRef.unary (.of main_v29 : TRef sig ⟨S1024x1x8192, .i1⟩) main_call3.v1 (broadcastInDim S1024x10x8192 ![0, 1, 2] bcast_S1024x1x8192_S1024x10x8192_0_1_2),
    TRef.unary main_call3.v0 main_call3.v2 (broadcastInDim S1024x10x8192 ![] bcast_S_S1024x10x8192),
    TRef.ternary main_call3.v1 main_call3.v2 (.of main_v20 : TRef sig ⟨S1024x10x8192, .f32⟩) main_call3.v3 select,
    unary main_v24 main_v31 (broadcastInDim S1024x1 ![0] bcast_S1024_S1024x1_0 : (⟨S1024, .i32⟩ : BufTy).Contents (Elt F) → (⟨S1024x1, .i32⟩ : BufTy).Contents (Elt F)) ]

abbrev bar1W : List (Ref sig .tc) := [main_v25, main_v26, main_v27, main_v28, main_v29, main_cst_1, main_call3_v0, main_call3_v1, main_call3_v2, main_v30, main_v31]

theorem bar1_sub : (bar1Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar1_keep (U : Valuation τ sig (Elt F)) (r : Ref sig .tc) (h : r ∉ bar1W) : after (bar1Ops (F := F)) U (Proc.devRef .tc r) = U (Proc.devRef .tc r) :=
  after_of_writes_sub _ U (forall_writes_sub_of_map (W := bar1W) rfl) h

/-- The operations of this stretch, and what they write. -/
abbrev take2Ops : List (HloOp τ sig (Elt F)) :=
  [ unary main_v30 main_v32 ((extractStridedSlice S1024x1x8192 ![0, 2, 0] · slices_S1024x10x8192_S1024x1x8192_0_2_0) : (⟨S1024x10x8192, .f32⟩ : BufTy).Contents (Elt F) → (⟨S1024x1x8192, .f32⟩ : BufTy).Contents (Elt F)),
    reshape main_v32 main_v33 (rfl : (.f32 : EltTy) = .f32) shapeCasts_S1024x1x8192_S1024x8192,
    TRef.nullary main_call4.v0 (iotaInDim S1024x8192 32 1),
    TRef.nullary main_call4.cst (constant S_ .f32 0x7F800000#32),
    TRef.nullary main_call4.c (constantI S_ 32 0#32),
    TRef.quaternary (.of main_v33 : TRef sig ⟨S1024x8192, .f32⟩) main_call4.v0 main_call4.cst main_call4.c main_call4.v1_0 (fun x y u v j => (Host.argReduce reducer_argmin_f32_i32 x y u v reducesTo_S1024x8192_S1024_d1 h_S_ j).1),
    TRef.quaternary (.of main_v33 : TRef sig ⟨S1024x8192, .f32⟩) main_call4.v0 main_call4.cst main_call4.c main_call4.v1_1 (fun x y u v j => (Host.argReduce reducer_argmin_f32_i32 x y u v reducesTo_S1024x8192_S1024_d1 h_S_ j).2) ]

abbrev take2W : List (Ref sig .tc) := [main_v32, main_v33, main_call4_v0, main_call4_cst, main_call4_c, main_call4_v1_0, main_v34]

theorem take2_sub : (take2Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take2_keep (U : Valuation τ sig (Elt F)) (r : Ref sig .tc) (h : r ∉ take2W) : after (take2Ops (F := F)) U (Proc.devRef .tc r) = U (Proc.devRef .tc r) :=
  after_of_writes_sub _ U (forall_writes_sub_of_map (W := take2W) rfl) h

/-- The operations of this stretch, and what they write. -/
abbrev bar2Ops : List (HloOp τ sig (Elt F)) :=
  [ unary main_v34 main_v35 (broadcastInDim S1024x1x1 ![0] bcast_S1024_S1024x1x1_0 : (⟨S1024, .i32⟩ : BufTy).Contents (Elt F) → (⟨S1024x1x1, .i32⟩ : BufTy).Contents (Elt F)),
    unary main_v11 main_v36 (broadcastInDim S1x1x8192 ![2] bcast_S8192_S1x1x8192_2 : (⟨S8192, .i32⟩ : BufTy).Contents (Elt F) → (⟨S1x1x8192, .i32⟩ : BufTy).Contents (Elt F)),
    unary main_v36 main_v37 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v35 main_v38 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v37 main_v38 main_v39 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_2 (constant S_ .f32 0x7F800000#32),
    TRef.unary (.of main_cst_2 : TRef sig ⟨S_, .f32⟩) main_call5.v0 id,
    TRef.unary (.of main_v39 : TRef sig ⟨S1024x1x8192, .i1⟩) main_call5.v1 (broadcastInDim S1024x10x8192 ![0, 1, 2] bcast_S1024x1x8192_S1024x10x8192_0_1_2),
    TRef.unary main_call5.v0 main_call5.v2 (broadcastInDim S1024x10x8192 ![] bcast_S_S1024x10x8192),
    TRef.ternary main_call5.v1 main_call5.v2 (.of main_v30 : TRef sig ⟨S1024x10x8192, .f32⟩) main_call5.v3 select,
    unary main_v34 main_v41 (broadcastInDim S1024x1 ![0] bcast_S1024_S1024x1_0 : (⟨S1024, .i32⟩ : BufTy).Contents (Elt F) → (⟨S1024x1, .i32⟩ : BufTy).Contents (Elt F)) ]

abbrev bar2W : List (Ref sig .tc) := [main_v35, main_v36, main_v37, main_v38, main_v39, main_cst_2, main_call5_v0, main_call5_v1, main_call5_v2, main_v40, main_v41]

theorem bar2_sub : (bar2Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar2_keep (U : Valuation τ sig (Elt F)) (r : Ref sig .tc) (h : r ∉ bar2W) : after (bar2Ops (F := F)) U (Proc.devRef .tc r) = U (Proc.devRef .tc r) :=
  after_of_writes_sub _ U (forall_writes_sub_of_map (W := bar2W) rfl) h

/-- The operations of this stretch, and what they write. -/
abbrev take3Ops : List (HloOp τ sig (Elt F)) :=
  [ unary main_v40 main_v42 ((extractStridedSlice S1024x1x8192 ![0, 3, 0] · slices_S1024x10x8192_S1024x1x8192_0_3_0) : (⟨S1024x10x8192, .f32⟩ : BufTy).Contents (Elt F) → (⟨S1024x1x8192, .f32⟩ : BufTy).Contents (Elt F)),
    reshape main_v42 main_v43 (rfl : (.f32 : EltTy) = .f32) shapeCasts_S1024x1x8192_S1024x8192,
    TRef.nullary main_call6.v0 (iotaInDim S1024x8192 32 1),
    TRef.nullary main_call6.cst (constant S_ .f32 0x7F800000#32),
    TRef.nullary main_call6.c (constantI S_ 32 0#32),
    TRef.quaternary (.of main_v43 : TRef sig ⟨S1024x8192, .f32⟩) main_call6.v0 main_call6.cst main_call6.c main_call6.v1_0 (fun x y u v j => (Host.argReduce reducer_argmin_f32_i32 x y u v reducesTo_S1024x8192_S1024_d1 h_S_ j).1),
    TRef.quaternary (.of main_v43 : TRef sig ⟨S1024x8192, .f32⟩) main_call6.v0 main_call6.cst main_call6.c main_call6.v1_1 (fun x y u v j => (Host.argReduce reducer_argmin_f32_i32 x y u v reducesTo_S1024x8192_S1024_d1 h_S_ j).2) ]

abbrev take3W : List (Ref sig .tc) := [main_v42, main_v43, main_call6_v0, main_call6_cst, main_call6_c, main_call6_v1_0, main_v44]

theorem take3_sub : (take3Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take3_keep (U : Valuation τ sig (Elt F)) (r : Ref sig .tc) (h : r ∉ take3W) : after (take3Ops (F := F)) U (Proc.devRef .tc r) = U (Proc.devRef .tc r) :=
  after_of_writes_sub _ U (forall_writes_sub_of_map (W := take3W) rfl) h

/-- The operations of this stretch, and what they write. -/
abbrev bar3Ops : List (HloOp τ sig (Elt F)) :=
  [ unary main_v44 main_v45 (broadcastInDim S1024x1x1 ![0] bcast_S1024_S1024x1x1_0 : (⟨S1024, .i32⟩ : BufTy).Contents (Elt F) → (⟨S1024x1x1, .i32⟩ : BufTy).Contents (Elt F)),
    unary main_v11 main_v46 (broadcastInDim S1x1x8192 ![2] bcast_S8192_S1x1x8192_2 : (⟨S8192, .i32⟩ : BufTy).Contents (Elt F) → (⟨S1x1x8192, .i32⟩ : BufTy).Contents (Elt F)),
    unary main_v46 main_v47 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v45 main_v48 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v47 main_v48 main_v49 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_3 (constant S_ .f32 0x7F800000#32),
    TRef.unary (.of main_cst_3 : TRef sig ⟨S_, .f32⟩) main_call7.v0 id,
    TRef.unary (.of main_v49 : TRef sig ⟨S1024x1x8192, .i1⟩) main_call7.v1 (broadcastInDim S1024x10x8192 ![0, 1, 2] bcast_S1024x1x8192_S1024x10x8192_0_1_2),
    TRef.unary main_call7.v0 main_call7.v2 (broadcastInDim S1024x10x8192 ![] bcast_S_S1024x10x8192),
    TRef.ternary main_call7.v1 main_call7.v2 (.of main_v40 : TRef sig ⟨S1024x10x8192, .f32⟩) main_call7.v3 select,
    unary main_v44 main_v51 (broadcastInDim S1024x1 ![0] bcast_S1024_S1024x1_0 : (⟨S1024, .i32⟩ : BufTy).Contents (Elt F) → (⟨S1024x1, .i32⟩ : BufTy).Contents (Elt F)) ]

abbrev bar3W : List (Ref sig .tc) := [main_v45, main_v46, main_v47, main_v48, main_v49, main_cst_3, main_call7_v0, main_call7_v1, main_call7_v2, main_v50, main_v51]

theorem bar3_sub : (bar3Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar3_keep (U : Valuation τ sig (Elt F)) (r : Ref sig .tc) (h : r ∉ bar3W) : after (bar3Ops (F := F)) U (Proc.devRef .tc r) = U (Proc.devRef .tc r) :=
  after_of_writes_sub _ U (forall_writes_sub_of_map (W := bar3W) rfl) h

/-- The operations of this stretch, and what they write. -/
abbrev take4Ops : List (HloOp τ sig (Elt F)) :=
  [ unary main_v50 main_v52 ((extractStridedSlice S1024x1x8192 ![0, 4, 0] · slices_S1024x10x8192_S1024x1x8192_0_4_0) : (⟨S1024x10x8192, .f32⟩ : BufTy).Contents (Elt F) → (⟨S1024x1x8192, .f32⟩ : BufTy).Contents (Elt F)),
    reshape main_v52 main_v53 (rfl : (.f32 : EltTy) = .f32) shapeCasts_S1024x1x8192_S1024x8192,
    TRef.nullary main_call8.v0 (iotaInDim S1024x8192 32 1),
    TRef.nullary main_call8.cst (constant S_ .f32 0x7F800000#32),
    TRef.nullary main_call8.c (constantI S_ 32 0#32),
    TRef.quaternary (.of main_v53 : TRef sig ⟨S1024x8192, .f32⟩) main_call8.v0 main_call8.cst main_call8.c main_call8.v1_0 (fun x y u v j => (Host.argReduce reducer_argmin_f32_i32 x y u v reducesTo_S1024x8192_S1024_d1 h_S_ j).1),
    TRef.quaternary (.of main_v53 : TRef sig ⟨S1024x8192, .f32⟩) main_call8.v0 main_call8.cst main_call8.c main_call8.v1_1 (fun x y u v j => (Host.argReduce reducer_argmin_f32_i32 x y u v reducesTo_S1024x8192_S1024_d1 h_S_ j).2) ]

abbrev take4W : List (Ref sig .tc) := [main_v52, main_v53, main_call8_v0, main_call8_cst, main_call8_c, main_call8_v1_0, main_v54]

theorem take4_sub : (take4Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take4_keep (U : Valuation τ sig (Elt F)) (r : Ref sig .tc) (h : r ∉ take4W) : after (take4Ops (F := F)) U (Proc.devRef .tc r) = U (Proc.devRef .tc r) :=
  after_of_writes_sub _ U (forall_writes_sub_of_map (W := take4W) rfl) h

/-- The operations of this stretch, and what they write. -/
abbrev bar4Ops : List (HloOp τ sig (Elt F)) :=
  [ unary main_v54 main_v55 (broadcastInDim S1024x1x1 ![0] bcast_S1024_S1024x1x1_0 : (⟨S1024, .i32⟩ : BufTy).Contents (Elt F) → (⟨S1024x1x1, .i32⟩ : BufTy).Contents (Elt F)),
    unary main_v11 main_v56 (broadcastInDim S1x1x8192 ![2] bcast_S8192_S1x1x8192_2 : (⟨S8192, .i32⟩ : BufTy).Contents (Elt F) → (⟨S1x1x8192, .i32⟩ : BufTy).Contents (Elt F)),
    unary main_v56 main_v57 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v55 main_v58 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v57 main_v58 main_v59 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_4 (constant S_ .f32 0x7F800000#32),
    TRef.unary (.of main_cst_4 : TRef sig ⟨S_, .f32⟩) main_call9.v0 id,
    TRef.unary (.of main_v59 : TRef sig ⟨S1024x1x8192, .i1⟩) main_call9.v1 (broadcastInDim S1024x10x8192 ![0, 1, 2] bcast_S1024x1x8192_S1024x10x8192_0_1_2),
    TRef.unary main_call9.v0 main_call9.v2 (broadcastInDim S1024x10x8192 ![] bcast_S_S1024x10x8192),
    TRef.ternary main_call9.v1 main_call9.v2 (.of main_v50 : TRef sig ⟨S1024x10x8192, .f32⟩) main_call9.v3 select,
    unary main_v54 main_v61 (broadcastInDim S1024x1 ![0] bcast_S1024_S1024x1_0 : (⟨S1024, .i32⟩ : BufTy).Contents (Elt F) → (⟨S1024x1, .i32⟩ : BufTy).Contents (Elt F)) ]

abbrev bar4W : List (Ref sig .tc) := [main_v55, main_v56, main_v57, main_v58, main_v59, main_cst_4, main_call9_v0, main_call9_v1, main_call9_v2, main_v60, main_v61]

theorem bar4_sub : (bar4Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar4_keep (U : Valuation τ sig (Elt F)) (r : Ref sig .tc) (h : r ∉ bar4W) : after (bar4Ops (F := F)) U (Proc.devRef .tc r) = U (Proc.devRef .tc r) :=
  after_of_writes_sub _ U (forall_writes_sub_of_map (W := bar4W) rfl) h

/-- The operations of this stretch, and what they write. -/
abbrev take5Ops : List (HloOp τ sig (Elt F)) :=
  [ unary main_v60 main_v62 ((extractStridedSlice S1024x1x8192 ![0, 5, 0] · slices_S1024x10x8192_S1024x1x8192_0_5_0) : (⟨S1024x10x8192, .f32⟩ : BufTy).Contents (Elt F) → (⟨S1024x1x8192, .f32⟩ : BufTy).Contents (Elt F)),
    reshape main_v62 main_v63 (rfl : (.f32 : EltTy) = .f32) shapeCasts_S1024x1x8192_S1024x8192,
    TRef.nullary main_call10.v0 (iotaInDim S1024x8192 32 1),
    TRef.nullary main_call10.cst (constant S_ .f32 0x7F800000#32),
    TRef.nullary main_call10.c (constantI S_ 32 0#32),
    TRef.quaternary (.of main_v63 : TRef sig ⟨S1024x8192, .f32⟩) main_call10.v0 main_call10.cst main_call10.c main_call10.v1_0 (fun x y u v j => (Host.argReduce reducer_argmin_f32_i32 x y u v reducesTo_S1024x8192_S1024_d1 h_S_ j).1),
    TRef.quaternary (.of main_v63 : TRef sig ⟨S1024x8192, .f32⟩) main_call10.v0 main_call10.cst main_call10.c main_call10.v1_1 (fun x y u v j => (Host.argReduce reducer_argmin_f32_i32 x y u v reducesTo_S1024x8192_S1024_d1 h_S_ j).2) ]

abbrev take5W : List (Ref sig .tc) := [main_v62, main_v63, main_call10_v0, main_call10_cst, main_call10_c, main_call10_v1_0, main_v64]

theorem take5_sub : (take5Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take5_keep (U : Valuation τ sig (Elt F)) (r : Ref sig .tc) (h : r ∉ take5W) : after (take5Ops (F := F)) U (Proc.devRef .tc r) = U (Proc.devRef .tc r) :=
  after_of_writes_sub _ U (forall_writes_sub_of_map (W := take5W) rfl) h

/-- The operations of this stretch, and what they write. -/
abbrev bar5Ops : List (HloOp τ sig (Elt F)) :=
  [ unary main_v64 main_v65 (broadcastInDim S1024x1x1 ![0] bcast_S1024_S1024x1x1_0 : (⟨S1024, .i32⟩ : BufTy).Contents (Elt F) → (⟨S1024x1x1, .i32⟩ : BufTy).Contents (Elt F)),
    unary main_v11 main_v66 (broadcastInDim S1x1x8192 ![2] bcast_S8192_S1x1x8192_2 : (⟨S8192, .i32⟩ : BufTy).Contents (Elt F) → (⟨S1x1x8192, .i32⟩ : BufTy).Contents (Elt F)),
    unary main_v66 main_v67 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v65 main_v68 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v67 main_v68 main_v69 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_5 (constant S_ .f32 0x7F800000#32),
    TRef.unary (.of main_cst_5 : TRef sig ⟨S_, .f32⟩) main_call11.v0 id,
    TRef.unary (.of main_v69 : TRef sig ⟨S1024x1x8192, .i1⟩) main_call11.v1 (broadcastInDim S1024x10x8192 ![0, 1, 2] bcast_S1024x1x8192_S1024x10x8192_0_1_2),
    TRef.unary main_call11.v0 main_call11.v2 (broadcastInDim S1024x10x8192 ![] bcast_S_S1024x10x8192),
    TRef.ternary main_call11.v1 main_call11.v2 (.of main_v60 : TRef sig ⟨S1024x10x8192, .f32⟩) main_call11.v3 select,
    unary main_v64 main_v71 (broadcastInDim S1024x1 ![0] bcast_S1024_S1024x1_0 : (⟨S1024, .i32⟩ : BufTy).Contents (Elt F) → (⟨S1024x1, .i32⟩ : BufTy).Contents (Elt F)) ]

abbrev bar5W : List (Ref sig .tc) := [main_v65, main_v66, main_v67, main_v68, main_v69, main_cst_5, main_call11_v0, main_call11_v1, main_call11_v2, main_v70, main_v71]

theorem bar5_sub : (bar5Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar5_keep (U : Valuation τ sig (Elt F)) (r : Ref sig .tc) (h : r ∉ bar5W) : after (bar5Ops (F := F)) U (Proc.devRef .tc r) = U (Proc.devRef .tc r) :=
  after_of_writes_sub _ U (forall_writes_sub_of_map (W := bar5W) rfl) h

/-- The operations of this stretch, and what they write. -/
abbrev take6Ops : List (HloOp τ sig (Elt F)) :=
  [ unary main_v70 main_v72 ((extractStridedSlice S1024x1x8192 ![0, 6, 0] · slices_S1024x10x8192_S1024x1x8192_0_6_0) : (⟨S1024x10x8192, .f32⟩ : BufTy).Contents (Elt F) → (⟨S1024x1x8192, .f32⟩ : BufTy).Contents (Elt F)),
    reshape main_v72 main_v73 (rfl : (.f32 : EltTy) = .f32) shapeCasts_S1024x1x8192_S1024x8192,
    TRef.nullary main_call12.v0 (iotaInDim S1024x8192 32 1),
    TRef.nullary main_call12.cst (constant S_ .f32 0x7F800000#32),
    TRef.nullary main_call12.c (constantI S_ 32 0#32),
    TRef.quaternary (.of main_v73 : TRef sig ⟨S1024x8192, .f32⟩) main_call12.v0 main_call12.cst main_call12.c main_call12.v1_0 (fun x y u v j => (Host.argReduce reducer_argmin_f32_i32 x y u v reducesTo_S1024x8192_S1024_d1 h_S_ j).1),
    TRef.quaternary (.of main_v73 : TRef sig ⟨S1024x8192, .f32⟩) main_call12.v0 main_call12.cst main_call12.c main_call12.v1_1 (fun x y u v j => (Host.argReduce reducer_argmin_f32_i32 x y u v reducesTo_S1024x8192_S1024_d1 h_S_ j).2) ]

abbrev take6W : List (Ref sig .tc) := [main_v72, main_v73, main_call12_v0, main_call12_cst, main_call12_c, main_call12_v1_0, main_v74]

theorem take6_sub : (take6Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take6_keep (U : Valuation τ sig (Elt F)) (r : Ref sig .tc) (h : r ∉ take6W) : after (take6Ops (F := F)) U (Proc.devRef .tc r) = U (Proc.devRef .tc r) :=
  after_of_writes_sub _ U (forall_writes_sub_of_map (W := take6W) rfl) h

/-- The operations of this stretch, and what they write. -/
abbrev bar6Ops : List (HloOp τ sig (Elt F)) :=
  [ unary main_v74 main_v75 (broadcastInDim S1024x1x1 ![0] bcast_S1024_S1024x1x1_0 : (⟨S1024, .i32⟩ : BufTy).Contents (Elt F) → (⟨S1024x1x1, .i32⟩ : BufTy).Contents (Elt F)),
    unary main_v11 main_v76 (broadcastInDim S1x1x8192 ![2] bcast_S8192_S1x1x8192_2 : (⟨S8192, .i32⟩ : BufTy).Contents (Elt F) → (⟨S1x1x8192, .i32⟩ : BufTy).Contents (Elt F)),
    unary main_v76 main_v77 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v75 main_v78 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v77 main_v78 main_v79 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_6 (constant S_ .f32 0x7F800000#32),
    TRef.unary (.of main_cst_6 : TRef sig ⟨S_, .f32⟩) main_call13.v0 id,
    TRef.unary (.of main_v79 : TRef sig ⟨S1024x1x8192, .i1⟩) main_call13.v1 (broadcastInDim S1024x10x8192 ![0, 1, 2] bcast_S1024x1x8192_S1024x10x8192_0_1_2),
    TRef.unary main_call13.v0 main_call13.v2 (broadcastInDim S1024x10x8192 ![] bcast_S_S1024x10x8192),
    TRef.ternary main_call13.v1 main_call13.v2 (.of main_v70 : TRef sig ⟨S1024x10x8192, .f32⟩) main_call13.v3 select,
    unary main_v74 main_v81 (broadcastInDim S1024x1 ![0] bcast_S1024_S1024x1_0 : (⟨S1024, .i32⟩ : BufTy).Contents (Elt F) → (⟨S1024x1, .i32⟩ : BufTy).Contents (Elt F)) ]

abbrev bar6W : List (Ref sig .tc) := [main_v75, main_v76, main_v77, main_v78, main_v79, main_cst_6, main_call13_v0, main_call13_v1, main_call13_v2, main_v80, main_v81]

theorem bar6_sub : (bar6Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar6_keep (U : Valuation τ sig (Elt F)) (r : Ref sig .tc) (h : r ∉ bar6W) : after (bar6Ops (F := F)) U (Proc.devRef .tc r) = U (Proc.devRef .tc r) :=
  after_of_writes_sub _ U (forall_writes_sub_of_map (W := bar6W) rfl) h

/-- The operations of this stretch, and what they write. -/
abbrev take7Ops : List (HloOp τ sig (Elt F)) :=
  [ unary main_v80 main_v82 ((extractStridedSlice S1024x1x8192 ![0, 7, 0] · slices_S1024x10x8192_S1024x1x8192_0_7_0) : (⟨S1024x10x8192, .f32⟩ : BufTy).Contents (Elt F) → (⟨S1024x1x8192, .f32⟩ : BufTy).Contents (Elt F)),
    reshape main_v82 main_v83 (rfl : (.f32 : EltTy) = .f32) shapeCasts_S1024x1x8192_S1024x8192,
    TRef.nullary main_call14.v0 (iotaInDim S1024x8192 32 1),
    TRef.nullary main_call14.cst (constant S_ .f32 0x7F800000#32),
    TRef.nullary main_call14.c (constantI S_ 32 0#32),
    TRef.quaternary (.of main_v83 : TRef sig ⟨S1024x8192, .f32⟩) main_call14.v0 main_call14.cst main_call14.c main_call14.v1_0 (fun x y u v j => (Host.argReduce reducer_argmin_f32_i32 x y u v reducesTo_S1024x8192_S1024_d1 h_S_ j).1),
    TRef.quaternary (.of main_v83 : TRef sig ⟨S1024x8192, .f32⟩) main_call14.v0 main_call14.cst main_call14.c main_call14.v1_1 (fun x y u v j => (Host.argReduce reducer_argmin_f32_i32 x y u v reducesTo_S1024x8192_S1024_d1 h_S_ j).2) ]

abbrev take7W : List (Ref sig .tc) := [main_v82, main_v83, main_call14_v0, main_call14_cst, main_call14_c, main_call14_v1_0, main_v84]

theorem take7_sub : (take7Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take7_keep (U : Valuation τ sig (Elt F)) (r : Ref sig .tc) (h : r ∉ take7W) : after (take7Ops (F := F)) U (Proc.devRef .tc r) = U (Proc.devRef .tc r) :=
  after_of_writes_sub _ U (forall_writes_sub_of_map (W := take7W) rfl) h

/-- The operations of this stretch, and what they write. -/
abbrev bar7Ops : List (HloOp τ sig (Elt F)) :=
  [ unary main_v84 main_v85 (broadcastInDim S1024x1x1 ![0] bcast_S1024_S1024x1x1_0 : (⟨S1024, .i32⟩ : BufTy).Contents (Elt F) → (⟨S1024x1x1, .i32⟩ : BufTy).Contents (Elt F)),
    unary main_v11 main_v86 (broadcastInDim S1x1x8192 ![2] bcast_S8192_S1x1x8192_2 : (⟨S8192, .i32⟩ : BufTy).Contents (Elt F) → (⟨S1x1x8192, .i32⟩ : BufTy).Contents (Elt F)),
    unary main_v86 main_v87 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v85 main_v88 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v87 main_v88 main_v89 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_7 (constant S_ .f32 0x7F800000#32),
    TRef.unary (.of main_cst_7 : TRef sig ⟨S_, .f32⟩) main_call15.v0 id,
    TRef.unary (.of main_v89 : TRef sig ⟨S1024x1x8192, .i1⟩) main_call15.v1 (broadcastInDim S1024x10x8192 ![0, 1, 2] bcast_S1024x1x8192_S1024x10x8192_0_1_2),
    TRef.unary main_call15.v0 main_call15.v2 (broadcastInDim S1024x10x8192 ![] bcast_S_S1024x10x8192),
    TRef.ternary main_call15.v1 main_call15.v2 (.of main_v80 : TRef sig ⟨S1024x10x8192, .f32⟩) main_call15.v3 select,
    unary main_v84 main_v91 (broadcastInDim S1024x1 ![0] bcast_S1024_S1024x1_0 : (⟨S1024, .i32⟩ : BufTy).Contents (Elt F) → (⟨S1024x1, .i32⟩ : BufTy).Contents (Elt F)) ]

abbrev bar7W : List (Ref sig .tc) := [main_v85, main_v86, main_v87, main_v88, main_v89, main_cst_7, main_call15_v0, main_call15_v1, main_call15_v2, main_v90, main_v91]

theorem bar7_sub : (bar7Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar7_keep (U : Valuation τ sig (Elt F)) (r : Ref sig .tc) (h : r ∉ bar7W) : after (bar7Ops (F := F)) U (Proc.devRef .tc r) = U (Proc.devRef .tc r) :=
  after_of_writes_sub _ U (forall_writes_sub_of_map (W := bar7W) rfl) h

/-- The operations of this stretch, and what they write. -/
abbrev take8Ops : List (HloOp τ sig (Elt F)) :=
  [ unary main_v90 main_v92 ((extractStridedSlice S1024x1x8192 ![0, 8, 0] · slices_S1024x10x8192_S1024x1x8192_0_8_0) : (⟨S1024x10x8192, .f32⟩ : BufTy).Contents (Elt F) → (⟨S1024x1x8192, .f32⟩ : BufTy).Contents (Elt F)),
    reshape main_v92 main_v93 (rfl : (.f32 : EltTy) = .f32) shapeCasts_S1024x1x8192_S1024x8192,
    TRef.nullary main_call16.v0 (iotaInDim S1024x8192 32 1),
    TRef.nullary main_call16.cst (constant S_ .f32 0x7F800000#32),
    TRef.nullary main_call16.c (constantI S_ 32 0#32),
    TRef.quaternary (.of main_v93 : TRef sig ⟨S1024x8192, .f32⟩) main_call16.v0 main_call16.cst main_call16.c main_call16.v1_0 (fun x y u v j => (Host.argReduce reducer_argmin_f32_i32 x y u v reducesTo_S1024x8192_S1024_d1 h_S_ j).1),
    TRef.quaternary (.of main_v93 : TRef sig ⟨S1024x8192, .f32⟩) main_call16.v0 main_call16.cst main_call16.c main_call16.v1_1 (fun x y u v j => (Host.argReduce reducer_argmin_f32_i32 x y u v reducesTo_S1024x8192_S1024_d1 h_S_ j).2) ]

abbrev take8W : List (Ref sig .tc) := [main_v92, main_v93, main_call16_v0, main_call16_cst, main_call16_c, main_call16_v1_0, main_v94]

theorem take8_sub : (take8Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take8_keep (U : Valuation τ sig (Elt F)) (r : Ref sig .tc) (h : r ∉ take8W) : after (take8Ops (F := F)) U (Proc.devRef .tc r) = U (Proc.devRef .tc r) :=
  after_of_writes_sub _ U (forall_writes_sub_of_map (W := take8W) rfl) h

/-- The operations of this stretch, and what they write. -/
abbrev bar8Ops : List (HloOp τ sig (Elt F)) :=
  [ unary main_v94 main_v95 (broadcastInDim S1024x1x1 ![0] bcast_S1024_S1024x1x1_0 : (⟨S1024, .i32⟩ : BufTy).Contents (Elt F) → (⟨S1024x1x1, .i32⟩ : BufTy).Contents (Elt F)),
    unary main_v11 main_v96 (broadcastInDim S1x1x8192 ![2] bcast_S8192_S1x1x8192_2 : (⟨S8192, .i32⟩ : BufTy).Contents (Elt F) → (⟨S1x1x8192, .i32⟩ : BufTy).Contents (Elt F)),
    unary main_v96 main_v97 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v95 main_v98 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v97 main_v98 main_v99 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_8 (constant S_ .f32 0x7F800000#32),
    TRef.unary (.of main_cst_8 : TRef sig ⟨S_, .f32⟩) main_call17.v0 id,
    TRef.unary (.of main_v99 : TRef sig ⟨S1024x1x8192, .i1⟩) main_call17.v1 (broadcastInDim S1024x10x8192 ![0, 1, 2] bcast_S1024x1x8192_S1024x10x8192_0_1_2),
    TRef.unary main_call17.v0 main_call17.v2 (broadcastInDim S1024x10x8192 ![] bcast_S_S1024x10x8192),
    TRef.ternary main_call17.v1 main_call17.v2 (.of main_v90 : TRef sig ⟨S1024x10x8192, .f32⟩) main_call17.v3 select,
    unary main_v94 main_v101 (broadcastInDim S1024x1 ![0] bcast_S1024_S1024x1_0 : (⟨S1024, .i32⟩ : BufTy).Contents (Elt F) → (⟨S1024x1, .i32⟩ : BufTy).Contents (Elt F)) ]

abbrev bar8W : List (Ref sig .tc) := [main_v95, main_v96, main_v97, main_v98, main_v99, main_cst_8, main_call17_v0, main_call17_v1, main_call17_v2, main_v100, main_v101]

theorem bar8_sub : (bar8Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar8_keep (U : Valuation τ sig (Elt F)) (r : Ref sig .tc) (h : r ∉ bar8W) : after (bar8Ops (F := F)) U (Proc.devRef .tc r) = U (Proc.devRef .tc r) :=
  after_of_writes_sub _ U (forall_writes_sub_of_map (W := bar8W) rfl) h

/-- The operations of this stretch, and what they write. -/
abbrev take9Ops : List (HloOp τ sig (Elt F)) :=
  [ unary main_v100 main_v102 ((extractStridedSlice S1024x1x8192 ![0, 9, 0] · slices_S1024x10x8192_S1024x1x8192_0_9_0) : (⟨S1024x10x8192, .f32⟩ : BufTy).Contents (Elt F) → (⟨S1024x1x8192, .f32⟩ : BufTy).Contents (Elt F)),
    reshape main_v102 main_v103 (rfl : (.f32 : EltTy) = .f32) shapeCasts_S1024x1x8192_S1024x8192,
    TRef.nullary main_call18.v0 (iotaInDim S1024x8192 32 1),
    TRef.nullary main_call18.cst (constant S_ .f32 0x7F800000#32),
    TRef.nullary main_call18.c (constantI S_ 32 0#32),
    TRef.quaternary (.of main_v103 : TRef sig ⟨S1024x8192, .f32⟩) main_call18.v0 main_call18.cst main_call18.c main_call18.v1_0 (fun x y u v j => (Host.argReduce reducer_argmin_f32_i32 x y u v reducesTo_S1024x8192_S1024_d1 h_S_ j).1),
    TRef.quaternary (.of main_v103 : TRef sig ⟨S1024x8192, .f32⟩) main_call18.v0 main_call18.cst main_call18.c main_call18.v1_1 (fun x y u v j => (Host.argReduce reducer_argmin_f32_i32 x y u v reducesTo_S1024x8192_S1024_d1 h_S_ j).2) ]

abbrev take9W : List (Ref sig .tc) := [main_v102, main_v103, main_call18_v0, main_call18_cst, main_call18_c, main_call18_v1_0, main_v104]

theorem take9_sub : (take9Ops : List (HloOp τ sig (Elt F))).Forall fun op => op.bufs ⊆ tcRefs τ sig :=
  ⟨unary_bufs_sub .., reshape_bufs_sub .., nullary_bufs_sub .., nullary_bufs_sub .., nullary_bufs_sub .., quaternary_bufs_sub .., quaternary_bufs_sub ..⟩

theorem take9_keep (U : Valuation τ sig (Elt F)) (r : Ref sig .tc) (h : r ∉ take9W) : after (take9Ops (F := F)) U (Proc.devRef .tc r) = U (Proc.devRef .tc r) :=
  after_of_writes_sub _ U (forall_writes_sub_of_map (W := take9W) rfl) h

/-- The operations of this stretch, and what they write. -/
abbrev bar9Ops : List (HloOp τ sig (Elt F)) :=
  [ unary main_v104 main_v105 (broadcastInDim S1024x1x1 ![0] bcast_S1024_S1024x1x1_0 : (⟨S1024, .i32⟩ : BufTy).Contents (Elt F) → (⟨S1024x1x1, .i32⟩ : BufTy).Contents (Elt F)),
    unary main_v11 main_v106 (broadcastInDim S1x1x8192 ![2] bcast_S8192_S1x1x8192_2 : (⟨S8192, .i32⟩ : BufTy).Contents (Elt F) → (⟨S1x1x8192, .i32⟩ : BufTy).Contents (Elt F)),
    unary main_v106 main_v107 (broadcastInDim S1024x1x8192 ![0, 1, 2] bcast_S1x1x8192_S1024x1x8192_0_1_2 : (⟨S1x1x8192, .i32⟩ : BufTy).Contents (Elt F) → (⟨S1024x1x8192, .i32⟩ : BufTy).Contents (Elt F)),
    unary main_v105 main_v108 (broadcastInDim S1024x1x8192 ![0, 1, 2] bcast_S1024x1x1_S1024x1x8192_0_1_2 : (⟨S1024x1x1, .i32⟩ : BufTy).Contents (Elt F) → (⟨S1024x1x8192, .i32⟩ : BufTy).Contents (Elt F)),
    binary main_v107 main_v108 main_v109 (cmpi .eq : (⟨S1024x1x8192, .i32⟩ : BufTy).Contents (Elt F) → (⟨S1024x1x8192, .i32⟩ : BufTy).Contents (Elt F) → (⟨S1024x1x8192, .i1⟩ : BufTy).Contents (Elt F)),
    nullary main_cst_9 (constant S_ .f32 0x7F800000#32),
    TRef.unary (.of main_cst_9 : TRef sig ⟨S_, .f32⟩) main_call19.v0 id,
    TRef.unary (.of main_v109 : TRef sig ⟨S1024x1x8192, .i1⟩) main_call19.v1 (broadcastInDim S1024x10x8192 ![0, 1, 2] bcast_S1024x1x8192_S1024x10x8192_0_1_2),
    TRef.unary main_call19.v0 main_call19.v2 (broadcastInDim S1024x10x8192 ![] bcast_S_S1024x10x8192),
    TRef.ternary main_call19.v1 main_call19.v2 (.of main_v100 : TRef sig ⟨S1024x10x8192, .f32⟩) main_call19.v3 select,
    unary main_v104 main_v111 (broadcastInDim S1024x1 ![0] bcast_S1024_S1024x1_0 : (⟨S1024, .i32⟩ : BufTy).Contents (Elt F) → (⟨S1024x1, .i32⟩ : BufTy).Contents (Elt F)) ]

abbrev bar9W : List (Ref sig .tc) := [main_v105, main_v106, main_v107, main_v108, main_v109, main_cst_9, main_call19_v0, main_call19_v1, main_call19_v2, main_v110, main_v111]

theorem bar9_sub : (bar9Ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., unary_bufs_sub ..⟩

theorem bar9_keep (U : Valuation τ sig (Elt F)) (r : Ref sig .tc) (h : r ∉ bar9W) : after (bar9Ops (F := F)) U (Proc.devRef .tc r) = U (Proc.devRef .tc r) :=
  after_of_writes_sub _ U (forall_writes_sub_of_map (W := bar9W) rfl) h

/-- The operations of this stretch, and what they write. -/
abbrev finalOps : List (HloOp τ sig (Elt F)) :=
  [ nary ![main_v21, main_v31, main_v41, main_v51, main_v61, main_v71, main_v81, main_v91, main_v101, main_v111] main_v112 (fun u => (concatenate S1024x10 1 [⟨S1024x1, (u 0 : (⟨S1024x1, .i32⟩ : BufTy).Contents (Elt F))⟩, ⟨S1024x1, (u 1 : (⟨S1024x1, .i32⟩ : BufTy).Contents (Elt F))⟩, ⟨S1024x1, (u 2 : (⟨S1024x1, .i32⟩ : BufTy).Contents (Elt F))⟩, ⟨S1024x1, (u 3 : (⟨S1024x1, .i32⟩ : BufTy).Contents (Elt F))⟩, ⟨S1024x1, (u 4 : (⟨S1024x1, .i32⟩ : BufTy).Contents (Elt F))⟩, ⟨S1024x1, (u 5 : (⟨S1024x1, .i32⟩ : BufTy).Contents (Elt F))⟩, ⟨S1024x1, (u 6 : (⟨S1024x1, .i32⟩ : BufTy).Contents (Elt F))⟩, ⟨S1024x1, (u 7 : (⟨S1024x1, .i32⟩ : BufTy).Contents (Elt F))⟩, ⟨S1024x1, (u 8 : (⟨S1024x1, .i32⟩ : BufTy).Contents (Elt F))⟩, ⟨S1024x1, (u 9 : (⟨S1024x1, .i32⟩ : BufTy).Contents (Elt F))⟩] concatenates_S1024x1_S1024x1_S1024x1_S1024x1_S1024x1_S1024x1_S1024x1_S1024x1_S1024x1_S1024x1_S1024x10_d1 : (⟨S1024x10, .i32⟩ : BufTy).Contents (Elt F))) ]

abbrev finalW : List (Ref sig .tc) := [main_v112]

theorem final_sub : (finalOps : List (HloOp τ sig (Elt F))).Forall fun op => op.bufs ⊆ tcRefs τ sig :=
  nary_bufs_sub ..

theorem final_keep (U : Valuation τ sig (Elt F)) (r : Ref sig .tc) (h : r ∉ finalW) : after (finalOps (F := F)) U (Proc.devRef .tc r) = U (Proc.devRef .tc r) :=
  after_of_writes_sub _ U (forall_writes_sub_of_map (W := finalW) rfl) h

theorem pre_dist (U : Valuation τ sig (Elt F)) : after (preOps (F := F)) U main_v10 = rdist (U main_arg0) (U main_arg1) (U main_arg2) := by
  after_results; rfl

theorem pre_cols (U : Valuation τ sig (Elt F)) : after (preOps (F := F)) U main_v11 = iotaInDim S8192 32 0 := by
  after_results

theorem take0_idx (U : Valuation τ sig (Elt F)) :
    after (take0Ops (F := F)) U main_v14 = rargmin (rplane (U main_v10) 0) := by
  after_results_simp; rfl

theorem bar0_rows (U : Valuation τ sig (Elt F)) (h : U main_v11 = (iotaInDim S8192 32 0 : IVec S8192 32)) :
    after (bar0Ops (F := F)) U main_v20 = rhide (U main_v14) (U main_v10) := by
  after_results_simp; rw [h]; unfold rhide; simp only [TRef.ofBuf_toBuf, TRef.ofBuf, TRef.toBuf, cast_eq, id]

theorem bar0_col (U : Valuation τ sig (Elt F)) :
    after (bar0Ops (F := F)) U main_v21 = rcol (U main_v14) := by
  after_results_simp; rfl

theorem take1_idx (U : Valuation τ sig (Elt F)) :
    after (take1Ops (F := F)) U main_v24 = rargmin (rplane (U main_v20) 1) := by
  after_results_simp; rfl

theorem bar1_rows (U : Valuation τ sig (Elt F)) (h : U main_v11 = (iotaInDim S8192 32 0 : IVec S8192 32)) :
    after (bar1Ops (F := F)) U main_v30 = rhide (U main_v24) (U main_v20) := by
  after_results_simp; rw [h]; unfold rhide; simp only [TRef.ofBuf_toBuf, TRef.ofBuf, TRef.toBuf, cast_eq, id]

theorem bar1_col (U : Valuation τ sig (Elt F)) :
    after (bar1Ops (F := F)) U main_v31 = rcol (U main_v24) := by
  after_results_simp; rfl

theorem take2_idx (U : Valuation τ sig (Elt F)) :
    after (take2Ops (F := F)) U main_v34 = rargmin (rplane (U main_v30) 2) := by
  after_results_simp; rfl

theorem bar2_rows (U : Valuation τ sig (Elt F)) (h : U main_v11 = (iotaInDim S8192 32 0 : IVec S8192 32)) :
    after (bar2Ops (F := F)) U main_v40 = rhide (U main_v34) (U main_v30) := by
  after_results_simp; rw [h]; unfold rhide; simp only [TRef.ofBuf_toBuf, TRef.ofBuf, TRef.toBuf, cast_eq, id]

theorem bar2_col (U : Valuation τ sig (Elt F)) :
    after (bar2Ops (F := F)) U main_v41 = rcol (U main_v34) := by
  after_results_simp; rfl

theorem take3_idx (U : Valuation τ sig (Elt F)) :
    after (take3Ops (F := F)) U main_v44 = rargmin (rplane (U main_v40) 3) := by
  after_results_simp; rfl

theorem bar3_rows (U : Valuation τ sig (Elt F)) (h : U main_v11 = (iotaInDim S8192 32 0 : IVec S8192 32)) :
    after (bar3Ops (F := F)) U main_v50 = rhide (U main_v44) (U main_v40) := by
  after_results_simp; rw [h]; unfold rhide; simp only [TRef.ofBuf_toBuf, TRef.ofBuf, TRef.toBuf, cast_eq, id]

theorem bar3_col (U : Valuation τ sig (Elt F)) :
    after (bar3Ops (F := F)) U main_v51 = rcol (U main_v44) := by
  after_results_simp; rfl

theorem take4_idx (U : Valuation τ sig (Elt F)) :
    after (take4Ops (F := F)) U main_v54 = rargmin (rplane (U main_v50) 4) := by
  after_results_simp; rfl

theorem bar4_rows (U : Valuation τ sig (Elt F)) (h : U main_v11 = (iotaInDim S8192 32 0 : IVec S8192 32)) :
    after (bar4Ops (F := F)) U main_v60 = rhide (U main_v54) (U main_v50) := by
  after_results_simp; rw [h]; unfold rhide; simp only [TRef.ofBuf_toBuf, TRef.ofBuf, TRef.toBuf, cast_eq, id]

theorem bar4_col (U : Valuation τ sig (Elt F)) :
    after (bar4Ops (F := F)) U main_v61 = rcol (U main_v54) := by
  after_results_simp; rfl

theorem take5_idx (U : Valuation τ sig (Elt F)) :
    after (take5Ops (F := F)) U main_v64 = rargmin (rplane (U main_v60) 5) := by
  after_results_simp; rfl

theorem bar5_rows (U : Valuation τ sig (Elt F)) (h : U main_v11 = (iotaInDim S8192 32 0 : IVec S8192 32)) :
    after (bar5Ops (F := F)) U main_v70 = rhide (U main_v64) (U main_v60) := by
  after_results_simp; rw [h]; unfold rhide; simp only [TRef.ofBuf_toBuf, TRef.ofBuf, TRef.toBuf, cast_eq, id]

theorem bar5_col (U : Valuation τ sig (Elt F)) :
    after (bar5Ops (F := F)) U main_v71 = rcol (U main_v64) := by
  after_results_simp; rfl

theorem take6_idx (U : Valuation τ sig (Elt F)) :
    after (take6Ops (F := F)) U main_v74 = rargmin (rplane (U main_v70) 6) := by
  after_results_simp; rfl

theorem bar6_rows (U : Valuation τ sig (Elt F)) (h : U main_v11 = (iotaInDim S8192 32 0 : IVec S8192 32)) :
    after (bar6Ops (F := F)) U main_v80 = rhide (U main_v74) (U main_v70) := by
  after_results_simp; rw [h]; unfold rhide; simp only [TRef.ofBuf_toBuf, TRef.ofBuf, TRef.toBuf, cast_eq, id]

theorem bar6_col (U : Valuation τ sig (Elt F)) :
    after (bar6Ops (F := F)) U main_v81 = rcol (U main_v74) := by
  after_results_simp; rfl

theorem take7_idx (U : Valuation τ sig (Elt F)) :
    after (take7Ops (F := F)) U main_v84 = rargmin (rplane (U main_v80) 7) := by
  after_results_simp; rfl

theorem bar7_rows (U : Valuation τ sig (Elt F)) (h : U main_v11 = (iotaInDim S8192 32 0 : IVec S8192 32)) :
    after (bar7Ops (F := F)) U main_v90 = rhide (U main_v84) (U main_v80) := by
  after_results_simp; rw [h]; unfold rhide; simp only [TRef.ofBuf_toBuf, TRef.ofBuf, TRef.toBuf, cast_eq, id]

theorem bar7_col (U : Valuation τ sig (Elt F)) :
    after (bar7Ops (F := F)) U main_v91 = rcol (U main_v84) := by
  after_results_simp; rfl

theorem take8_idx (U : Valuation τ sig (Elt F)) :
    after (take8Ops (F := F)) U main_v94 = rargmin (rplane (U main_v90) 8) := by
  after_results_simp; rfl

theorem bar8_rows (U : Valuation τ sig (Elt F)) (h : U main_v11 = (iotaInDim S8192 32 0 : IVec S8192 32)) :
    after (bar8Ops (F := F)) U main_v100 = rhide (U main_v94) (U main_v90) := by
  after_results_simp; rw [h]; unfold rhide; simp only [TRef.ofBuf_toBuf, TRef.ofBuf, TRef.toBuf, cast_eq, id]

theorem bar8_col (U : Valuation τ sig (Elt F)) :
    after (bar8Ops (F := F)) U main_v101 = rcol (U main_v94) := by
  after_results_simp; rfl

theorem take9_idx (U : Valuation τ sig (Elt F)) :
    after (take9Ops (F := F)) U main_v104 = rargmin (rplane (U main_v100) 9) := by
  after_results_simp; rfl

theorem bar9_rows (U : Valuation τ sig (Elt F)) (h : U main_v11 = (iotaInDim S8192 32 0 : IVec S8192 32)) :
    after (bar9Ops (F := F)) U main_v110 = rhide (U main_v104) (U main_v100) := by
  after_results_simp; rw [h]; unfold rhide; simp only [TRef.ofBuf_toBuf, TRef.ofBuf, TRef.toBuf, cast_eq, id]

theorem bar9_col (U : Valuation τ sig (Elt F)) :
    after (bar9Ops (F := F)) U main_v111 = rcol (U main_v104) := by
  after_results_simp; rfl

end Cert.Proof.Ar

end
-- ==== Proof.ArRun.lean ====
/- The assignment's reference, run to its end: the ten picks of every point. -/
module

public import proofs.«01_k».proof.Proof.ArOps

@[expose] public section

set_option maxRecDepth 65536

noncomputable section

namespace Cert.Proof.Ar

open Cert.AssignReferenceIdeal Cert.AssignReferenceIdeal.Gen Idealize.ShloMosaic Idealize.ShloMosaic.TcCoe Idealize.SL.Sem Idealize.ShloMosaic.StableHlo

variable {F : FTy → Type} [FloatOps F]

theorem after_two (a b : List (HloOp τ sig (Elt F))) (U : Valuation τ sig (Elt F)) : after (a ++ b) U = after b (after a U) := by
  induction a generalizing U with
  | nil => rfl
  | cons o a ih => exact ih _

/-- Everything the reference does, in order. -/
abbrev allOps : List (HloOp τ sig (Elt F)) :=
  preOps ++ (take0Ops ++ (bar0Ops ++ (take1Ops ++ (bar1Ops ++ (take2Ops ++ (bar2Ops ++ (take3Ops ++ (bar3Ops ++ (take4Ops ++ (bar4Ops ++ (take5Ops ++ (bar5Ops ++ (take6Ops ++ (bar6Ops ++ (take7Ops ++ (bar7Ops ++ (take8Ops ++ (bar8Ops ++ (take9Ops ++ (bar9Ops ++ (finalOps)))))))))))))))))))))

theorem all_eq (c : Dev nD) : main (F := F) c = seq allOps := rfl
theorem no_refs : (Finset.univ.filter fun b : Ref sig .tc => b.isScoped) = ∅ := by decide
theorem no_sems : (Finset.univ.filter fun sm : SemLoc sig => sm.isScoped .tc) = ∅ := by decide
theorem all_sub : (allOps : List (HloOp τ sig (Elt F))).Forall fun op => op.bufs ⊆ tcRefs τ sig :=
  List.forall_iff_forall_mem.mpr fun o h => by
    simp only [allOps, List.mem_append] at h
    rcases h with h | h | h | h | h | h | h | h | h | h | h | h | h | h | h | h | h | h | h | h | h | h
    · exact List.forall_iff_forall_mem.mp pre_sub o h
    · exact List.forall_iff_forall_mem.mp take0_sub o h
    · exact List.forall_iff_forall_mem.mp bar0_sub o h
    · exact List.forall_iff_forall_mem.mp take1_sub o h
    · exact List.forall_iff_forall_mem.mp bar1_sub o h
    · exact List.forall_iff_forall_mem.mp take2_sub o h
    · exact List.forall_iff_forall_mem.mp bar2_sub o h
    · exact List.forall_iff_forall_mem.mp take3_sub o h
    · exact List.forall_iff_forall_mem.mp bar3_sub o h
    · exact List.forall_iff_forall_mem.mp take4_sub o h
    · exact List.forall_iff_forall_mem.mp bar4_sub o h
    · exact List.forall_iff_forall_mem.mp take5_sub o h
    · exact List.forall_iff_forall_mem.mp bar5_sub o h
    · exact List.forall_iff_forall_mem.mp take6_sub o h
    · exact List.forall_iff_forall_mem.mp bar6_sub o h
    · exact List.forall_iff_forall_mem.mp take7_sub o h
    · exact List.forall_iff_forall_mem.mp bar7_sub o h
    · exact List.forall_iff_forall_mem.mp take8_sub o h
    · exact List.forall_iff_forall_mem.mp bar8_sub o h
    · exact List.forall_iff_forall_mem.mp take9_sub o h
    · exact List.forall_iff_forall_mem.mp bar9_sub o h
    · exact List.forall_iff_forall_mem.mp final_sub o h

theorem step0 (D : FVec F S1024x10x8192 .f32) (U : Valuation τ sig (Elt F)) (h1 : U main_v11 = (iotaInDim S8192 32 0 : IVec S8192 32)) (h2 : U main_v10 = rows D 0) :
    after (bar0Ops (F := F)) (after (take0Ops (F := F)) U) main_v11 = (iotaInDim S8192 32 0 : IVec S8192 32)
      ∧ after (bar0Ops (F := F)) (after (take0Ops (F := F)) U) main_v20 = rows D 1
      ∧ after (bar0Ops (F := F)) (after (take0Ops (F := F)) U) main_v21 = rcol (rpick D 0)
      ∧ ∀ r : Ref sig .tc, r ∉ take0W → r ∉ bar0W → after (bar0Ops (F := F)) (after (take0Ops (F := F)) U) (Proc.devRef .tc r) = U (Proc.devRef .tc r) := by
  have a1 : after (take0Ops (F := F)) U main_v11 = (iotaInDim S8192 32 0 : IVec S8192 32) := (take0_keep U main_v11 (by decide)).trans h1
  have a2 : after (take0Ops (F := F)) U main_v10 = rows D 0 := (take0_keep U main_v10 (by decide)).trans h2
  have a3 : after (take0Ops (F := F)) U main_v14 = rpick D 0 := (take0_idx U).trans (by rw [h2]; rfl)
  refine ⟨(bar0_keep _ main_v11 (by decide)).trans a1, (bar0_rows _ a1).trans (by rw [a2, a3]; rfl), (bar0_col _).trans (by rw [a3]), fun r hr hs => ?_⟩
  exact (bar0_keep _ r hs).trans (take0_keep U r hr)

theorem step1 (D : FVec F S1024x10x8192 .f32) (U : Valuation τ sig (Elt F)) (h1 : U main_v11 = (iotaInDim S8192 32 0 : IVec S8192 32)) (h2 : U main_v20 = rows D 1) :
    after (bar1Ops (F := F)) (after (take1Ops (F := F)) U) main_v11 = (iotaInDim S8192 32 0 : IVec S8192 32)
      ∧ after (bar1Ops (F := F)) (after (take1Ops (F := F)) U) main_v30 = rows D 2
      ∧ after (bar1Ops (F := F)) (after (take1Ops (F := F)) U) main_v31 = rcol (rpick D 1)
      ∧ ∀ r : Ref sig .tc, r ∉ take1W → r ∉ bar1W → after (bar1Ops (F := F)) (after (take1Ops (F := F)) U) (Proc.devRef .tc r) = U (Proc.devRef .tc r) := by
  have a1 : after (take1Ops (F := F)) U main_v11 = (iotaInDim S8192 32 0 : IVec S8192 32) := (take1_keep U main_v11 (by decide)).trans h1
  have a2 : after (take1Ops (F := F)) U main_v20 = rows D 1 := (take1_keep U main_v20 (by decide)).trans h2
  have a3 : after (take1Ops (F := F)) U main_v24 = rpick D 1 := (take1_idx U).trans (by rw [h2]; rfl)
  refine ⟨(bar1_keep _ main_v11 (by decide)).trans a1, (bar1_rows _ a1).trans (by rw [a2, a3]; rfl), (bar1_col _).trans (by rw [a3]), fun r hr hs => ?_⟩
  exact (bar1_keep _ r hs).trans (take1_keep U r hr)

theorem step2 (D : FVec F S1024x10x8192 .f32) (U : Valuation τ sig (Elt F)) (h1 : U main_v11 = (iotaInDim S8192 32 0 : IVec S8192 32)) (h2 : U main_v30 = rows D 2) :
    after (bar2Ops (F := F)) (after (take2Ops (F := F)) U) main_v11 = (iotaInDim S8192 32 0 : IVec S8192 32)
      ∧ after (bar2Ops (F := F)) (after (take2Ops (F := F)) U) main_v40 = rows D 3
      ∧ after (bar2Ops (F := F)) (after (take2Ops (F := F)) U) main_v41 = rcol (rpick D 2)
      ∧ ∀ r : Ref sig .tc, r ∉ take2W → r ∉ bar2W → after (bar2Ops (F := F)) (after (take2Ops (F := F)) U) (Proc.devRef .tc r) = U (Proc.devRef .tc r) := by
  have a1 : after (take2Ops (F := F)) U main_v11 = (iotaInDim S8192 32 0 : IVec S8192 32) := (take2_keep U main_v11 (by decide)).trans h1
  have a2 : after (take2Ops (F := F)) U main_v30 = rows D 2 := (take2_keep U main_v30 (by decide)).trans h2
  have a3 : after (take2Ops (F := F)) U main_v34 = rpick D 2 := (take2_idx U).trans (by rw [h2]; rfl)
  refine ⟨(bar2_keep _ main_v11 (by decide)).trans a1, (bar2_rows _ a1).trans (by rw [a2, a3]; rfl), (bar2_col _).trans (by rw [a3]), fun r hr hs => ?_⟩
  exact (bar2_keep _ r hs).trans (take2_keep U r hr)

theorem step3 (D : FVec F S1024x10x8192 .f32) (U : Valuation τ sig (Elt F)) (h1 : U main_v11 = (iotaInDim S8192 32 0 : IVec S8192 32)) (h2 : U main_v40 = rows D 3) :
    after (bar3Ops (F := F)) (after (take3Ops (F := F)) U) main_v11 = (iotaInDim S8192 32 0 : IVec S8192 32)
      ∧ after (bar3Ops (F := F)) (after (take3Ops (F := F)) U) main_v50 = rows D 4
      ∧ after (bar3Ops (F := F)) (after (take3Ops (F := F)) U) main_v51 = rcol (rpick D 3)
      ∧ ∀ r : Ref sig .tc, r ∉ take3W → r ∉ bar3W → after (bar3Ops (F := F)) (after (take3Ops (F := F)) U) (Proc.devRef .tc r) = U (Proc.devRef .tc r) := by
  have a1 : after (take3Ops (F := F)) U main_v11 = (iotaInDim S8192 32 0 : IVec S8192 32) := (take3_keep U main_v11 (by decide)).trans h1
  have a2 : after (take3Ops (F := F)) U main_v40 = rows D 3 := (take3_keep U main_v40 (by decide)).trans h2
  have a3 : after (take3Ops (F := F)) U main_v44 = rpick D 3 := (take3_idx U).trans (by rw [h2]; rfl)
  refine ⟨(bar3_keep _ main_v11 (by decide)).trans a1, (bar3_rows _ a1).trans (by rw [a2, a3]; rfl), (bar3_col _).trans (by rw [a3]), fun r hr hs => ?_⟩
  exact (bar3_keep _ r hs).trans (take3_keep U r hr)

theorem step4 (D : FVec F S1024x10x8192 .f32) (U : Valuation τ sig (Elt F)) (h1 : U main_v11 = (iotaInDim S8192 32 0 : IVec S8192 32)) (h2 : U main_v50 = rows D 4) :
    after (bar4Ops (F := F)) (after (take4Ops (F := F)) U) main_v11 = (iotaInDim S8192 32 0 : IVec S8192 32)
      ∧ after (bar4Ops (F := F)) (after (take4Ops (F := F)) U) main_v60 = rows D 5
      ∧ after (bar4Ops (F := F)) (after (take4Ops (F := F)) U) main_v61 = rcol (rpick D 4)
      ∧ ∀ r : Ref sig .tc, r ∉ take4W → r ∉ bar4W → after (bar4Ops (F := F)) (after (take4Ops (F := F)) U) (Proc.devRef .tc r) = U (Proc.devRef .tc r) := by
  have a1 : after (take4Ops (F := F)) U main_v11 = (iotaInDim S8192 32 0 : IVec S8192 32) := (take4_keep U main_v11 (by decide)).trans h1
  have a2 : after (take4Ops (F := F)) U main_v50 = rows D 4 := (take4_keep U main_v50 (by decide)).trans h2
  have a3 : after (take4Ops (F := F)) U main_v54 = rpick D 4 := (take4_idx U).trans (by rw [h2]; rfl)
  refine ⟨(bar4_keep _ main_v11 (by decide)).trans a1, (bar4_rows _ a1).trans (by rw [a2, a3]; rfl), (bar4_col _).trans (by rw [a3]), fun r hr hs => ?_⟩
  exact (bar4_keep _ r hs).trans (take4_keep U r hr)

theorem step5 (D : FVec F S1024x10x8192 .f32) (U : Valuation τ sig (Elt F)) (h1 : U main_v11 = (iotaInDim S8192 32 0 : IVec S8192 32)) (h2 : U main_v60 = rows D 5) :
    after (bar5Ops (F := F)) (after (take5Ops (F := F)) U) main_v11 = (iotaInDim S8192 32 0 : IVec S8192 32)
      ∧ after (bar5Ops (F := F)) (after (take5Ops (F := F)) U) main_v70 = rows D 6
      ∧ after (bar5Ops (F := F)) (after (take5Ops (F := F)) U) main_v71 = rcol (rpick D 5)
      ∧ ∀ r : Ref sig .tc, r ∉ take5W → r ∉ bar5W → after (bar5Ops (F := F)) (after (take5Ops (F := F)) U) (Proc.devRef .tc r) = U (Proc.devRef .tc r) := by
  have a1 : after (take5Ops (F := F)) U main_v11 = (iotaInDim S8192 32 0 : IVec S8192 32) := (take5_keep U main_v11 (by decide)).trans h1
  have a2 : after (take5Ops (F := F)) U main_v60 = rows D 5 := (take5_keep U main_v60 (by decide)).trans h2
  have a3 : after (take5Ops (F := F)) U main_v64 = rpick D 5 := (take5_idx U).trans (by rw [h2]; rfl)
  refine ⟨(bar5_keep _ main_v11 (by decide)).trans a1, (bar5_rows _ a1).trans (by rw [a2, a3]; rfl), (bar5_col _).trans (by rw [a3]), fun r hr hs => ?_⟩
  exact (bar5_keep _ r hs).trans (take5_keep U r hr)

theorem step6 (D : FVec F S1024x10x8192 .f32) (U : Valuation τ sig (Elt F)) (h1 : U main_v11 = (iotaInDim S8192 32 0 : IVec S8192 32)) (h2 : U main_v70 = rows D 6) :
    after (bar6Ops (F := F)) (after (take6Ops (F := F)) U) main_v11 = (iotaInDim S8192 32 0 : IVec S8192 32)
      ∧ after (bar6Ops (F := F)) (after (take6Ops (F := F)) U) main_v80 = rows D 7
      ∧ after (bar6Ops (F := F)) (after (take6Ops (F := F)) U) main_v81 = rcol (rpick D 6)
      ∧ ∀ r : Ref sig .tc, r ∉ take6W → r ∉ bar6W → after (bar6Ops (F := F)) (after (take6Ops (F := F)) U) (Proc.devRef .tc r) = U (Proc.devRef .tc r) := by
  have a1 : after (take6Ops (F := F)) U main_v11 = (iotaInDim S8192 32 0 : IVec S8192 32) := (take6_keep U main_v11 (by decide)).trans h1
  have a2 : after (take6Ops (F := F)) U main_v70 = rows D 6 := (take6_keep U main_v70 (by decide)).trans h2
  have a3 : after (take6Ops (F := F)) U main_v74 = rpick D 6 := (take6_idx U).trans (by rw [h2]; rfl)
  refine ⟨(bar6_keep _ main_v11 (by decide)).trans a1, (bar6_rows _ a1).trans (by rw [a2, a3]; rfl), (bar6_col _).trans (by rw [a3]), fun r hr hs => ?_⟩
  exact (bar6_keep _ r hs).trans (take6_keep U r hr)

theorem step7 (D : FVec F S1024x10x8192 .f32) (U : Valuation τ sig (Elt F)) (h1 : U main_v11 = (iotaInDim S8192 32 0 : IVec S8192 32)) (h2 : U main_v80 = rows D 7) :
    after (bar7Ops (F := F)) (after (take7Ops (F := F)) U) main_v11 = (iotaInDim S8192 32 0 : IVec S8192 32)
      ∧ after (bar7Ops (F := F)) (after (take7Ops (F := F)) U) main_v90 = rows D 8
      ∧ after (bar7Ops (F := F)) (after (take7Ops (F := F)) U) main_v91 = rcol (rpick D 7)
      ∧ ∀ r : Ref sig .tc, r ∉ take7W → r ∉ bar7W → after (bar7Ops (F := F)) (after (take7Ops (F := F)) U) (Proc.devRef .tc r) = U (Proc.devRef .tc r) := by
  have a1 : after (take7Ops (F := F)) U main_v11 = (iotaInDim S8192 32 0 : IVec S8192 32) := (take7_keep U main_v11 (by decide)).trans h1
  have a2 : after (take7Ops (F := F)) U main_v80 = rows D 7 := (take7_keep U main_v80 (by decide)).trans h2
  have a3 : after (take7Ops (F := F)) U main_v84 = rpick D 7 := (take7_idx U).trans (by rw [h2]; rfl)
  refine ⟨(bar7_keep _ main_v11 (by decide)).trans a1, (bar7_rows _ a1).trans (by rw [a2, a3]; rfl), (bar7_col _).trans (by rw [a3]), fun r hr hs => ?_⟩
  exact (bar7_keep _ r hs).trans (take7_keep U r hr)

theorem step8 (D : FVec F S1024x10x8192 .f32) (U : Valuation τ sig (Elt F)) (h1 : U main_v11 = (iotaInDim S8192 32 0 : IVec S8192 32)) (h2 : U main_v90 = rows D 8) :
    after (bar8Ops (F := F)) (after (take8Ops (F := F)) U) main_v11 = (iotaInDim S8192 32 0 : IVec S8192 32)
      ∧ after (bar8Ops (F := F)) (after (take8Ops (F := F)) U) main_v100 = rows D 9
      ∧ after (bar8Ops (F := F)) (after (take8Ops (F := F)) U) main_v101 = rcol (rpick D 8)
      ∧ ∀ r : Ref sig .tc, r ∉ take8W → r ∉ bar8W → after (bar8Ops (F := F)) (after (take8Ops (F := F)) U) (Proc.devRef .tc r) = U (Proc.devRef .tc r) := by
  have a1 : after (take8Ops (F := F)) U main_v11 = (iotaInDim S8192 32 0 : IVec S8192 32) := (take8_keep U main_v11 (by decide)).trans h1
  have a2 : after (take8Ops (F := F)) U main_v90 = rows D 8 := (take8_keep U main_v90 (by decide)).trans h2
  have a3 : after (take8Ops (F := F)) U main_v94 = rpick D 8 := (take8_idx U).trans (by rw [h2]; rfl)
  refine ⟨(bar8_keep _ main_v11 (by decide)).trans a1, (bar8_rows _ a1).trans (by rw [a2, a3]; rfl), (bar8_col _).trans (by rw [a3]), fun r hr hs => ?_⟩
  exact (bar8_keep _ r hs).trans (take8_keep U r hr)

theorem step9 (D : FVec F S1024x10x8192 .f32) (U : Valuation τ sig (Elt F)) (h1 : U main_v11 = (iotaInDim S8192 32 0 : IVec S8192 32)) (h2 : U main_v100 = rows D 9) :
    after (bar9Ops (F := F)) (after (take9Ops (F := F)) U) main_v11 = (iotaInDim S8192 32 0 : IVec S8192 32)
      ∧ after (bar9Ops (F := F)) (after (take9Ops (F := F)) U) main_v110 = rows D 10
      ∧ after (bar9Ops (F := F)) (after (take9Ops (F := F)) U) main_v111 = rcol (rpick D 9)
      ∧ ∀ r : Ref sig .tc, r ∉ take9W → r ∉ bar9W → after (bar9Ops (F := F)) (after (take9Ops (F := F)) U) (Proc.devRef .tc r) = U (Proc.devRef .tc r) := by
  have a1 : after (take9Ops (F := F)) U main_v11 = (iotaInDim S8192 32 0 : IVec S8192 32) := (take9_keep U main_v11 (by decide)).trans h1
  have a2 : after (take9Ops (F := F)) U main_v100 = rows D 9 := (take9_keep U main_v100 (by decide)).trans h2
  have a3 : after (take9Ops (F := F)) U main_v104 = rpick D 9 := (take9_idx U).trans (by rw [h2]; rfl)
  refine ⟨(bar9_keep _ main_v11 (by decide)).trans a1, (bar9_rows _ a1).trans (by rw [a2, a3]; rfl), (bar9_col _).trans (by rw [a3]), fun r hr hs => ?_⟩
  exact (bar9_keep _ r hs).trans (take9_keep U r hr)

theorem final_val (U : Valuation τ sig (Elt F)) (D : FVec F S1024x10x8192 .f32)
    (h0 : U main_v21 = rcol (rpick D 0))
    (h1 : U main_v31 = rcol (rpick D 1))
    (h2 : U main_v41 = rcol (rpick D 2))
    (h3 : U main_v51 = rcol (rpick D 3))
    (h4 : U main_v61 = rcol (rpick D 4))
    (h5 : U main_v71 = rcol (rpick D 5))
    (h6 : U main_v81 = rcol (rpick D 6))
    (h7 : U main_v91 = rcol (rpick D 7))
    (h8 : U main_v101 = rcol (rpick D 8))
    (h9 : U main_v111 = rcol (rpick D 9))
    : after (finalOps (F := F)) U main_v112 = rpicks D := by
  have e : after (finalOps (F := F)) U main_v112 = concatenate S1024x10 1 [⟨S1024x1, (U main_v21 : IVec S1024x1 32)⟩, ⟨S1024x1, (U main_v31 : IVec S1024x1 32)⟩, ⟨S1024x1, (U main_v41 : IVec S1024x1 32)⟩, ⟨S1024x1, (U main_v51 : IVec S1024x1 32)⟩, ⟨S1024x1, (U main_v61 : IVec S1024x1 32)⟩, ⟨S1024x1, (U main_v71 : IVec S1024x1 32)⟩, ⟨S1024x1, (U main_v81 : IVec S1024x1 32)⟩, ⟨S1024x1, (U main_v91 : IVec S1024x1 32)⟩, ⟨S1024x1, (U main_v101 : IVec S1024x1 32)⟩, ⟨S1024x1, (U main_v111 : IVec S1024x1 32)⟩] concatenates_S1024x1_S1024x1_S1024x1_S1024x1_S1024x1_S1024x1_S1024x1_S1024x1_S1024x1_S1024x1_S1024x10_d1 := by
    after_results_simp; rfl
  rw [e]
  unfold rpicks
  rw [h0, h1, h2, h3, h4, h5, h6, h7, h8, h9]

theorem all_val (U : Valuation τ sig (Elt F)) :
    after (allOps (F := F)) U main_v112 = rpicks (rdist (U main_arg0) (U main_arg1) (U main_arg2))
      ∧ after (allOps (F := F)) U main_arg0 = U main_arg0 ∧ after (allOps (F := F)) U main_arg1 = U main_arg1 ∧ after (allOps (F := F)) U main_arg2 = U main_arg2 := by
  simp only [allOps, after_two]
  generalize hD : rdist (U main_arg0) (U main_arg1) (U main_arg2) = D
  have b1 := pre_cols U
  have b2 := (pre_dist U).trans hD
  have bk := pre_keep U
  generalize after (preOps (F := F)) U = U0 at b1 b2 bk ⊢
  obtain ⟨c01, c02, c03, k0⟩ := step0 D U0 b1 b2
  generalize after (bar0Ops (F := F)) (after (take0Ops (F := F)) U0) = U1 at c01 c02 c03 k0 ⊢
  obtain ⟨c11, c12, c13, k1⟩ := step1 D U1 c01 c02
  generalize after (bar1Ops (F := F)) (after (take1Ops (F := F)) U1) = U2 at c11 c12 c13 k1 ⊢
  obtain ⟨c21, c22, c23, k2⟩ := step2 D U2 c11 c12
  generalize after (bar2Ops (F := F)) (after (take2Ops (F := F)) U2) = U3 at c21 c22 c23 k2 ⊢
  obtain ⟨c31, c32, c33, k3⟩ := step3 D U3 c21 c22
  generalize after (bar3Ops (F := F)) (after (take3Ops (F := F)) U3) = U4 at c31 c32 c33 k3 ⊢
  obtain ⟨c41, c42, c43, k4⟩ := step4 D U4 c31 c32
  generalize after (bar4Ops (F := F)) (after (take4Ops (F := F)) U4) = U5 at c41 c42 c43 k4 ⊢
  obtain ⟨c51, c52, c53, k5⟩ := step5 D U5 c41 c42
  generalize after (bar5Ops (F := F)) (after (take5Ops (F := F)) U5) = U6 at c51 c52 c53 k5 ⊢
  obtain ⟨c61, c62, c63, k6⟩ := step6 D U6 c51 c52
  generalize after (bar6Ops (F := F)) (after (take6Ops (F := F)) U6) = U7 at c61 c62 c63 k6 ⊢
  obtain ⟨c71, c72, c73, k7⟩ := step7 D U7 c61 c62
  generalize after (bar7Ops (F := F)) (after (take7Ops (F := F)) U7) = U8 at c71 c72 c73 k7 ⊢
  obtain ⟨c81, c82, c83, k8⟩ := step8 D U8 c71 c72
  generalize after (bar8Ops (F := F)) (after (take8Ops (F := F)) U8) = U9 at c81 c82 c83 k8 ⊢
  obtain ⟨c91, c92, c93, k9⟩ := step9 D U9 c81 c82
  generalize after (bar9Ops (F := F)) (after (take9Ops (F := F)) U9) = U10 at c91 c92 c93 k9 ⊢
  refine ⟨final_val U10 D
    (((k9 main_v21 (by decide) (by decide)).trans ((k8 main_v21 (by decide) (by decide)).trans ((k7 main_v21 (by decide) (by decide)).trans ((k6 main_v21 (by decide) (by decide)).trans ((k5 main_v21 (by decide) (by decide)).trans ((k4 main_v21 (by decide) (by decide)).trans ((k3 main_v21 (by decide) (by decide)).trans ((k2 main_v21 (by decide) (by decide)).trans ((k1 main_v21 (by decide) (by decide)).trans c03))))))))))
    (((k9 main_v31 (by decide) (by decide)).trans ((k8 main_v31 (by decide) (by decide)).trans ((k7 main_v31 (by decide) (by decide)).trans ((k6 main_v31 (by decide) (by decide)).trans ((k5 main_v31 (by decide) (by decide)).trans ((k4 main_v31 (by decide) (by decide)).trans ((k3 main_v31 (by decide) (by decide)).trans ((k2 main_v31 (by decide) (by decide)).trans c13)))))))))
    (((k9 main_v41 (by decide) (by decide)).trans ((k8 main_v41 (by decide) (by decide)).trans ((k7 main_v41 (by decide) (by decide)).trans ((k6 main_v41 (by decide) (by decide)).trans ((k5 main_v41 (by decide) (by decide)).trans ((k4 main_v41 (by decide) (by decide)).trans ((k3 main_v41 (by decide) (by decide)).trans c23))))))))
    (((k9 main_v51 (by decide) (by decide)).trans ((k8 main_v51 (by decide) (by decide)).trans ((k7 main_v51 (by decide) (by decide)).trans ((k6 main_v51 (by decide) (by decide)).trans ((k5 main_v51 (by decide) (by decide)).trans ((k4 main_v51 (by decide) (by decide)).trans c33)))))))
    (((k9 main_v61 (by decide) (by decide)).trans ((k8 main_v61 (by decide) (by decide)).trans ((k7 main_v61 (by decide) (by decide)).trans ((k6 main_v61 (by decide) (by decide)).trans ((k5 main_v61 (by decide) (by decide)).trans c43))))))
    (((k9 main_v71 (by decide) (by decide)).trans ((k8 main_v71 (by decide) (by decide)).trans ((k7 main_v71 (by decide) (by decide)).trans ((k6 main_v71 (by decide) (by decide)).trans c53)))))
    (((k9 main_v81 (by decide) (by decide)).trans ((k8 main_v81 (by decide) (by decide)).trans ((k7 main_v81 (by decide) (by decide)).trans c63))))
    (((k9 main_v91 (by decide) (by decide)).trans ((k8 main_v91 (by decide) (by decide)).trans c73)))
    (((k9 main_v101 (by decide) (by decide)).trans c83))
    c93, ?_, ?_, ?_⟩
  · exact (final_keep U10 main_arg0 (by decide)).trans ((k9 main_arg0 (by decide) (by decide)).trans ((k8 main_arg0 (by decide) (by decide)).trans ((k7 main_arg0 (by decide) (by decide)).trans ((k6 main_arg0 (by decide) (by decide)).trans ((k5 main_arg0 (by decide) (by decide)).trans ((k4 main_arg0 (by decide) (by decide)).trans ((k3 main_arg0 (by decide) (by decide)).trans ((k2 main_arg0 (by decide) (by decide)).trans ((k1 main_arg0 (by decide) (by decide)).trans ((k0 main_arg0 (by decide) (by decide)).trans (bk main_arg0 (by decide))))))))))))
  · exact (final_keep U10 main_arg1 (by decide)).trans ((k9 main_arg1 (by decide) (by decide)).trans ((k8 main_arg1 (by decide) (by decide)).trans ((k7 main_arg1 (by decide) (by decide)).trans ((k6 main_arg1 (by decide) (by decide)).trans ((k5 main_arg1 (by decide) (by decide)).trans ((k4 main_arg1 (by decide) (by decide)).trans ((k3 main_arg1 (by decide) (by decide)).trans ((k2 main_arg1 (by decide) (by decide)).trans ((k1 main_arg1 (by decide) (by decide)).trans ((k0 main_arg1 (by decide) (by decide)).trans (bk main_arg1 (by decide))))))))))))
  · exact (final_keep U10 main_arg2 (by decide)).trans ((k9 main_arg2 (by decide) (by decide)).trans ((k8 main_arg2 (by decide) (by decide)).trans ((k7 main_arg2 (by decide) (by decide)).trans ((k6 main_arg2 (by decide) (by decide)).trans ((k5 main_arg2 (by decide) (by decide)).trans ((k4 main_arg2 (by decide) (by decide)).trans ((k3 main_arg2 (by decide) (by decide)).trans ((k2 main_arg2 (by decide) (by decide)).trans ((k1 main_arg2 (by decide) (by decide)).trans ((k0 main_arg2 (by decide) (by decide)).trans (bk main_arg2 (by decide))))))))))))

set_option maxHeartbeats 4000000 in
/-- Every run of the reference ends with the picks in its result, the arguments unchanged and every counter at zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v112) = rpicks (rdist (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v112).trans (all_val _).1, (h c main_arg0).trans (all_val _).2.1,
      (h c main_arg1).trans (all_val _).2.2.1, (h c main_arg2).trans (all_val _).2.2.2⟩)
    (run_seq no_refs no_sems defs main (fun _ => allOps) all_eq (fun _ => all_sub) m ρ)

end Cert.Proof.Ar

end
-- ==== Proof.AxDist.lean ====
/- The distances: a grid point's block against the reference's table. -/
module

public import proofs.«01_k».proof.Proof.AsLaunch
public import proofs.«01_k».proof.Proof.ArOps
public import Idealize.ShloMosaic.Lib.ValueIdx
public import Idealize.ShloMosaic.Lib.Pipeline.Value
public import Idealize.ShloMosaic.Lib.MatmulPlain
public import Idealize.ShloMosaic.Lib.StackMember
public import Idealize.ShloMosaic.Lib.IdealHost

@[expose] public section

set_option maxRecDepth 16384

noncomputable section

namespace Cert.Proof.Ax

open Idealize.ShloMosaic Idealize.ShloMosaic.ValueIdx Idealize.ShloMosaic.TcCoe Idealize.SL.Sem

/-- Row `10 n + g` of the vectors: point `n`'s slot `g`. -/
def slot (n : Fin 1024) (g : Fin 10) : Fin 10240 := ⟨10 * n.val + g.val, by have := n.isLt; have := g.isLt; omega⟩

/-- The distance of point `n`'s slot `g` from column `d`. -/
def dval (z : (⟨2, ![10240, 512]⟩ : Shape).Idx → EReal) (q : (⟨2, ![8192, 1]⟩ : Shape).Idx → EReal)
    (w : (⟨2, ![512, 8192]⟩ : Shape).Idx → EReal) (n : Fin 1024) (g : Fin 10) (d : Fin 8192) : EReal :=
  (∑ k : Fin 512, z (ix2 (slot n g) k) * z (ix2 (slot n g) k)) + q (ix2 d 0) - ∑ k : Fin 512, z (ix2 (slot n g) k) * w (ix2 k d)

section Ref

open Cert.AssignReferenceIdeal Cert.AssignReferenceIdeal.Gen Cert.Proof.Ar

theorem sq_apply (z : FVec Ideal S10240x512 .f32) (s : Fin 10240) :
    Host.reduceAdd (mulf z z) (constant (F := Ideal) S_ .f32 0x00000000#32) reducesTo_S10240x512_S10240_d1 h_S_ (ix1 s : S10240.Idx)
      = ∑ k : Fin 512, z (ix2 s k) * z (ix2 s k) := by
  have hR : Shape.Reduces S10240x512 [1] S10240 := by decide
  rw [ValueIdx.hostReduceAdd_apply, Ideal.hostReduceAdd_single _ hR, constant_apply, Ideal.ofBits_zero_f32, zero_add]
  refine Finset.sum_congr rfl fun k _ => ?_
  have hl : hR.lift (ix1 s) k = (ix2 s (k : Fin 512) : S10240x512.Idx) := by
    funext a; apply Fin.ext
    match a with
    | ⟨0, _⟩ => rfl
    | ⟨1, _⟩ => rfl
  have hb : z (hR.lift (ix1 s) k) = z (ix2 s (k : Fin 512)) := congrArg z hl
  exact congrArg₂ (· * ·) hb hb

theorem rdist_apply (z : FVec Ideal S10240x512 .f32) (q : FVec Ideal S8192x1 .f32) (w : FVec Ideal S512x8192 .f32)
    (n : Fin 1024) (g : Fin 10) (d : Fin 8192) : rdist z q w (ix3 n g d) = dval z q w n g d := by
  unfold rdist
  refine (shapeCast_apply _ _ _ (ix2 (slot n g) d : S10240x8192.Idx) ?_).trans ?_
  · rw [Shape.rowMajor_val_three, Shape.rowMajor_val_two]
    show (10 * n.val + g.val) * 8192 + d.val = (n.val * 10 + g.val) * 8192 + d.val
    omega
  have e1 : broadcastInDim S10240x8192 ![0, 1] bcast_S10240x1_S10240x8192_0_1 (broadcastInDim S10240x1 ![0] bcast_S10240_S10240x1_0
        (Host.reduceAdd (mulf z z) (constant (F := Ideal) S_ .f32 0x00000000#32) reducesTo_S10240x512_S10240_d1 h_S_)) (ix2 (slot n g) d)
      = ∑ k : Fin 512, z (ix2 (slot n g) k) * z (ix2 (slot n g) k) := by
    refine (broadcastInDim_apply _ _ _ _ (ix2 (slot n g) 0 : S10240x1.Idx) (fun a => by match a with | ⟨0, _⟩ => rfl | ⟨1, _⟩ => rfl)).trans ?_
    refine (broadcastInDim_apply _ _ _ _ (ix1 (slot n g) : S10240.Idx) (fun a => by match a with | ⟨0, _⟩ => rfl)).trans ?_
    exact sq_apply z (slot n g)
  have e2 : broadcastInDim S10240x8192 ![0, 1] bcast_S1x8192_S10240x8192_0_1 (broadcastInDim S1x8192 ![1] bcast_S8192_S1x8192_1
        (shapeCast S8192 q shapeCasts_S8192x1_S8192)) (ix2 (slot n g) d) = q (ix2 d 0) := by
    refine (broadcastInDim_apply _ _ _ _ (ix2 0 d : S1x8192.Idx) (fun a => by match a with | ⟨0, _⟩ => rfl | ⟨1, _⟩ => rfl)).trans ?_
    refine (broadcastInDim_apply _ _ _ _ (ix1 d : S8192.Idx) (fun a => by match a with | ⟨0, _⟩ => rfl)).trans ?_
    refine shapeCast_apply _ _ _ (ix2 d 0 : S8192x1.Idx) ?_
    rw [Shape.rowMajor_val_one, Shape.rowMajor_val_two]
    show d.val * 1 + 0 = d.val
    omega
  have e3 : Host.dotGeneral (DotDims.plain 10240 512 8192) none z w (ix2 (slot n g) d) = ∑ k : Fin 512, z (ix2 (slot n g) k) * w (ix2 k d) :=
    StackMember.dotGeneral_plain_apply none z w (slot n g) d
  exact congrArg₂ (· - ·) (congrArg₂ (· + ·) e1 e2) e3

end Ref

section Kernel

open Cert.AssignIdeal Cert.AssignIdeal.Gen Cert.Proof.As

/-- Row `p` of slot `g` among a half's hundred and sixty rows. -/
def flat (g : Fin 10) (p : Fin 16) : Fin 160 := ⟨16 * g.val + p.val, by have := g.isLt; have := p.isLt; omega⟩

theorem mul_apply (x : FVec Ideal S160x512 .f32) (w : FVec Ideal S512x8192 .f32) (s : Fin 160) (d : Fin 8192) :
    matmul (F := Ideal) (φ₁ := .f32) (φ₂ := .f32) dot_S160x512_S512x8192_S160x8192_1_0_0_1_n_n none x w (constant S160x8192 .f32 0x00000000#32) (ix2 s d)
      = ∑ k : Fin 512, x (ix2 s k) * w (ix2 k d) := by
  have e : matmul (F := Ideal) (φ₁ := .f32) (φ₂ := .f32) (DotDims.plain 160 512 8192) none x w (constant S160x8192 .f32 0x00000000#32) (ix2 s d)
      = ∑ k : Fin 512, x (ix2 s k) * w (ix2 k d) := by
    refine (Ideal.matmul_plain_apply none x w _ s d).trans ?_
    rw [constant_apply, Ideal.ofBits_zero_f32, zero_add]
  exact e

/-- A row of lengths along every row of a block. -/
theorem row_apply (x : FVec Ideal S1x8192 .f32) (g : Fin 10) (p : Fin 16) (d : Fin 8192) :
    broadcastTo S10x16x8192 (shapeCast S1x1x8192 x shapeCasts_S1x8192_S1x1x8192) broadcasts_S1x1x8192_S10x16x8192 (ix3 g p d)
      = x (ix2 0 d) := by
  refine (broadcastTo_apply _ _ _ (ix3 0 0 d : S1x1x8192.Idx) (fun a => by match a with | ⟨0, _⟩ => rfl | ⟨1, _⟩ => rfl | ⟨2, _⟩ => rfl)).trans ?_
  refine shapeCast_apply _ _ _ (ix2 0 d : S1x8192.Idx) ?_
  rw [Shape.rowMajor_val_three, Shape.rowMajor_val_two]
  show 0 * 8192 + d.val = (0 * 1 + 0) * 8192 + d.val
  omega

theorem unflat_apply (y : FVec Ideal S160x8192 .f32) (g : Fin 10) (p : Fin 16) (d : Fin 8192) :
    shapeCast S10x16x8192 y shapeCasts_S160x8192_S10x16x8192 (ix3 g p d) = y (ix2 (flat g p) d) := by
  refine shapeCast_apply _ _ _ (ix2 (flat g p) d : S160x8192.Idx) ?_
  rw [Shape.rowMajor_val_three, Shape.rowMajor_val_two]
  show (16 * g.val + p.val) * 8192 + d.val = (g.val * 16 + p.val) * 8192 + d.val
  omega

theorem flat_apply (y : FVec Ideal S10x16x512 .f32) (g : Fin 10) (p : Fin 16) (k : Fin 512) :
    shapeCast S160x512 y shapeCasts_S10x16x512_S160x512 (ix2 (flat g p) k) = y (ix3 g p k) := by
  refine shapeCast_apply _ _ _ (ix3 g p k : S10x16x512.Idx) ?_
  rw [Shape.rowMajor_val_three, Shape.rowMajor_val_two]
  show (g.val * 16 + p.val) * 512 + k.val = (16 * g.val + p.val) * 512 + k.val
  omega

theorem stretch_apply (x : FVec Ideal S10x16x1 .f32) (g : Fin 10) (p : Fin 16) (d : Fin 8192) :
    broadcastTo S10x16x8192 x broadcasts_S10x16x1_S10x16x8192 (ix3 g p d) = x (ix3 g p 0) :=
  broadcastTo_apply _ _ _ (ix3 g p 0 : S10x16x1.Idx) (fun a => by match a with | ⟨0, _⟩ => rfl | ⟨1, _⟩ => rfl | ⟨2, _⟩ => rfl)

theorem distA_apply (z : FVec Ideal S10x32x512 .f32) (q : FVec Ideal S10x32x1 .f32) (w : FVec Ideal S512x8192 .f32) (x : FVec Ideal S1x8192 .f32)
    (g : Fin 10) (p : Fin 16) (d : Fin 8192) (s : Fin 32) (hs : s.val = p.val) :
    distA z q w x (ix3 g p d) = q (ix3 g s 0) + x (ix2 0 d) - ∑ k : Fin 512, z (ix3 g s k) * w (ix2 k d) := by
  unfold distA k0_pay27 k0_pay25 k0_pay26 k0_pay2 k0_pay3
  simp only [shapeCast_self]
  have e1 : broadcastTo S10x16x8192 (extractStridedSlice S10x16x1 ![0, 0, 0] q slices_S10x32x1_o0_0_0_S10x16x1) broadcasts_S10x16x1_S10x16x8192 (ix3 g p d) = q (ix3 g s 0) :=
    (stretch_apply _ g p d).trans (extractStridedSlice_apply _ _ _ _ _ (fun a => by
      match a with
      | ⟨0, _⟩ => exact (Nat.zero_add _).symm
      | ⟨1, _⟩ => exact hs.trans (Nat.zero_add _).symm
      | ⟨2, _⟩ => rfl))
  have e3 (k : Fin 512) : shapeCast S160x512 (extractStridedSlice S10x16x512 ![0, 0, 0] z slices_S10x32x512_o0_0_0_S10x16x512) shapeCasts_S10x16x512_S160x512 (ix2 (flat g p) k) = z (ix3 g s k) :=
    (flat_apply _ g p k).trans (extractStridedSlice_apply _ _ _ _ _ (fun a => by
      match a with
      | ⟨0, _⟩ => exact (Nat.zero_add _).symm
      | ⟨1, _⟩ => exact hs.trans (Nat.zero_add _).symm
      | ⟨2, _⟩ => exact (Nat.zero_add _).symm))
  refine congrArg₂ (· - ·) (congrArg₂ (· + ·) e1 (row_apply x g p d)) ?_
  refine (unflat_apply _ g p d).trans ((mul_apply _ _ _ _).trans (Finset.sum_congr rfl fun k _ => ?_))
  rw [e3]

theorem distB_apply (z : FVec Ideal S10x32x512 .f32) (q : FVec Ideal S10x32x1 .f32) (w : FVec Ideal S512x8192 .f32) (x : FVec Ideal S1x8192 .f32)
    (g : Fin 10) (p : Fin 16) (d : Fin 8192) (s : Fin 32) (hs : s.val = 16 + p.val) :
    distB z q w x (ix3 g p d) = q (ix3 g s 0) + x (ix2 0 d) - ∑ k : Fin 512, z (ix3 g s k) * w (ix2 k d) := by
  unfold distB k0_pay1 k0_pay48 k0_pay49 k0_pay50 k0_pay2 k0_pay3
  simp only [shapeCast_self]
  have e1 : broadcastTo S10x16x8192 (extractStridedSlice S10x16x1 ![0, 16, 0] q slices_S10x32x1_o0_16_0_S10x16x1) broadcasts_S10x16x1_S10x16x8192 (ix3 g p d) = q (ix3 g s 0) :=
    (stretch_apply _ g p d).trans (extractStridedSlice_apply _ _ _ _ _ (fun a => by
      match a with
      | ⟨0, _⟩ => exact (Nat.zero_add _).symm
      | ⟨1, _⟩ => exact hs
      | ⟨2, _⟩ => rfl))
  have e3 (k : Fin 512) : shapeCast S160x512 (extractStridedSlice S10x16x512 ![0, 16, 0] z slices_S10x32x512_o0_16_0_S10x16x512) shapeCasts_S10x16x512_S160x512 (ix2 (flat g p) k) = z (ix3 g s k) :=
    (flat_apply _ g p k).trans (extractStridedSlice_apply _ _ _ _ _ (fun a => by
      match a with
      | ⟨0, _⟩ => exact (Nat.zero_add _).symm
      | ⟨1, _⟩ => exact hs
      | ⟨2, _⟩ => exact (Nat.zero_add _).symm))
  refine congrArg₂ (· - ·) (congrArg₂ (· + ·) e1 (row_apply x g p d)) ?_
  refine (unflat_apply _ g p d).trans ((mul_apply _ _ _ _).trans (Finset.sum_congr rfl fun k _ => ?_))
  rw [e3]

end Kernel

end Cert.Proof.Ax

end
-- ==== Proof.AxPick.lean ====
/- One row's first least column, and the two ways of finding it: a minimum, then the least column where it stands; and
   an arg-min over pairs. -/
module

public import proofs.«01_k».proof.Proof.AsStep
public import proofs.«01_k».proof.Proof.ArOps
public import Idealize.ShloMosaic.PureOps.Reduce
public import Idealize.ShloMosaic.PureOps.Ideal.Laws
public import Idealize.ShloMosaic.Lib.ValueIdx
public import Idealize.ShloMosaic.Lib.Pipeline.Value
public import Idealize.ShloMosaic.Lib.IdealHost

@[expose] public section

set_option maxRecDepth 16384

noncomputable section

namespace Cert.Proof.Ax

open Idealize.ShloMosaic Idealize.ShloMosaic.ValueIdx

/-- `i` is the first column at which the row is least. -/
structure First (f : Fin 8192 → EReal) (i : Fin 8192) : Prop where
  lo : ∀ j, f i ≤ f j
  fst : ∀ j, f j = f i → i ≤ j

theorem first_exists (f : Fin 8192 → EReal) : ∃ i, First f i := by
  obtain ⟨a, ha⟩ := Finite.exists_min f
  have hs : ∀ j, j ∈ (Finset.univ.filter fun j => f j = f a) ↔ f j = f a := fun j => by simp
  generalize (Finset.univ.filter fun j => f j = f a) = s at hs
  have hne : s.Nonempty := ⟨a, (hs a).2 rfl⟩
  have he : f (s.min' hne) = f a := (hs _).1 (s.min'_mem hne)
  exact ⟨s.min' hne, fun j => he.le.trans (ha j), fun j hj => s.min'_le j ((hs j).2 (hj.trans he))⟩

theorem inf_word : Ideal.ofBits .f32 0x7F800000#32 = ⊤ := by
  refine Eq.trans (b := Ideal.ieee 8 23 (0x7F800000#32 : BitVec 32)) rfl ?_
  simp only [Ideal.ieee]
  rw [if_pos (by decide), if_pos (by decide)]
  rw [if_neg (by decide)]

theorem toInt_col (i : Fin 8192) : (BitVec.ofNat 32 i.val).toInt = (i.val : ℤ) := by
  have := i.isLt
  rw [BitVec.toInt_eq_toNat_of_lt (by rw [BitVec.toNat_ofNat]; omega), BitVec.toNat_ofNat]; omega

theorem toInt_minsi' (a b : BitVec 32) : (IntOp.minsi a b).toInt = min a.toInt b.toInt := by
  unfold IntOp.minsi
  rw [BitVec.slt_eq_decide]
  by_cases h : a.toInt < b.toInt
  · rw [if_pos (by simpa using h), min_eq_left h.le]
  · rw [if_neg (by simpa using h), min_eq_right (not_lt.1 h)]

section Kernel

open Cert.AssignIdeal Cert.AssignIdeal.Gen Cert.Proof.As

theorem mem_row (h : S16x8192.Reduces [1] S16) (r : Fin 16) (i : S16x8192.Idx) :
    i ∈ (Finset.univ.filter fun i => h.drop i = (ix1 r : S16.Idx)) ↔ ∃ d : Fin 8192, i = ix2 r d := by
  have hv : (h.drop i 0 : Nat) = i 0 := h.drop_apply_val_of_eq i 0 0
  rw [Finset.mem_filter]
  constructor
  · rintro ⟨-, e⟩
    have e0 : (i 0 : Fin 16) = r := Fin.ext (hv.symm.trans (congrArg Fin.val (congrFun e 0)))
    refine ⟨i 1, funext fun b => ?_⟩
    match b with
    | ⟨0, _⟩ => exact e0
    | ⟨1, _⟩ => rfl
  · rintro ⟨d, rfl⟩
    refine ⟨Finset.mem_univ _, funext fun b => Fin.ext ?_⟩
    match b with
    | ⟨0, _⟩ => exact hv

/-- The minimum of a row is what stands at its first least column. -/
theorem least_apply (x : FVec Ideal S16x8192 .f32) (r : Fin 16) (i d : Fin 8192) (h : First (fun d => x (ix2 r d)) i) :
    least x (ix2 r d) = x (ix2 r i) := by
  unfold least
  refine (broadcastTo_apply _ _ _ (ix2 r 0 : S16x1.Idx) (fun a => by match a with | ⟨0, _⟩ => rfl | ⟨1, _⟩ => rfl)).trans ?_
  refine (shapeCast_apply _ _ _ (ix1 r : S16.Idx) ?_).trans ?_
  · rw [Shape.rowMajor_val_one, Shape.rowMajor_val_two]
    show r.val = r.val * 1 + 0; omega
  refine (multiReduction_minimumf_eq_fold (F := Ideal) x _ _ _ _ _).trans ?_
  show Finset.fold min (Ideal.ofBits .f32 0x7F800000#32) x _ = _
  rw [inf_word]
  refine le_antisymm ((Finset.fold_min_le _).2 (Or.inr ⟨ix2 r i, (mem_row _ _ _).2 ⟨i, rfl⟩, le_rfl⟩)) ((Finset.le_fold_min _).2 ⟨le_top, fun j hj => ?_⟩)
  obtain ⟨d, rfl⟩ := (mem_row _ _ _).1 hj
  exact h.lo d

/-- The first marked column. -/
theorem firstOf_apply (b : IVec S16x8192 1) (r : Fin 16) (i : Fin 8192) (h1 : b (ix2 r i) = 1#1)
    (h0 : ∀ j : Fin 8192, b (ix2 r j) = 1#1 → i ≤ j) : firstOf b (ix1 r) = BitVec.ofNat 32 i.val := by
  apply BitVec.eq_of_toInt_eq
  rw [toInt_col]
  unfold firstOf
  refine (congrArg BitVec.toInt (multiReductionI_eq_fold _ _ _ _ _ _)).trans ?_
  rw [← Finset.fold_hom (op := IKind.minsi.op) (op' := min) (m := BitVec.toInt) toInt_minsi']
  have hc (d : Fin 8192) : cols (ix2 r d) = BitVec.ofNat 32 d.val := by
    show BitVec.ofNat 32 (0 * 8192 + d.val) = _
    rw [Nat.zero_mul, Nat.zero_add]
  refine le_antisymm ((Finset.fold_min_le _).2 (Or.inr ⟨ix2 r i, (mem_row _ _ _).2 ⟨i, rfl⟩, ?_⟩)) ((Finset.le_fold_min _).2 ⟨?_, fun j hj => ?_⟩)
  · show (Scalar.select (b (ix2 r i)) (cols (ix2 r i)) 8192#32).toInt ≤ _
    rw [h1, hc]
    exact (toInt_col i).le
  · have := i.isLt
    show (i.val : ℤ) ≤ 2147483647
    omega
  · obtain ⟨d, rfl⟩ := (mem_row _ _ _).1 hj
    show _ ≤ (Scalar.select (b (ix2 r d)) (cols (ix2 r d)) 8192#32).toInt
    by_cases hb : b (ix2 r d) = 1#1
    · rw [hb, hc]
      exact (by exact_mod_cast h0 d hb : (i.val : ℤ) ≤ (d.val : ℤ)).trans (toInt_col d).ge
    · have hs : Scalar.select (b (ix2 r d)) (cols (ix2 r d)) 8192#32 = 8192#32 := if_neg hb
      rw [hs]
      have := i.isLt
      show (i.val : ℤ) ≤ 8192
      omega

theorem pickOf_apply (x : FVec Ideal S16x8192 .f32) (r : Fin 16) (i : Fin 8192) (h : First (fun d => x (ix2 r d)) i) :
    pickOf x (ix1 r) = BitVec.ofNat 32 i.val := by
  have hb (d : Fin 8192) : cmpf .oeq x (least x) (ix2 r d) = BitVec.ofBool (decide (x (ix2 r d) = x (ix2 r i))) := by
    rw [cmpf_apply, least_apply x r i d h]; rfl
  refine firstOf_apply _ r i ?_ fun j hj => ?_
  · rw [hb, decide_eq_true rfl]; rfl
  · rw [hb] at hj
    by_contra hn
    have : x (ix2 r j) ≠ x (ix2 r i) := fun e => hn (h.fst j e)
    rw [decide_eq_false this] at hj
    exact absurd hj (by decide)

end Kernel

section Ref

open Cert.AssignReferenceIdeal Cert.AssignReferenceIdeal.Gen Cert.Proof.Ar

/-- A pair's place in the order the arg-min goes by: value, then column. -/
def key (p : EReal × BitVec 32) : EReal ×ₗ ℤ := toLex (p.1, p.2.toInt)

theorem key_inj {p q : EReal × BitVec 32} (h : key p = key q) : p = q := by
  have h' : (p.1, p.2.toInt) = (q.1, q.2.toInt) := toLex_inj.1 h
  have h1 : p.1 = q.1 := congrArg (fun z : EReal × ℤ => z.1) h'
  have h2 : p.2.toInt = q.2.toInt := congrArg (fun z : EReal × ℤ => z.2) h'
  exact Prod.ext h1 (BitVec.eq_of_toInt_eq h2)

/-- The arg-min's step keeps one of its pairs, the one that comes first. -/
theorem step_spec (a b : EReal × BitVec 32) :
    (reducer_argmin_f32_i32 (F := Ideal) a b = a ∨ reducer_argmin_f32_i32 (F := Ideal) a b = b)
      ∧ key (reducer_argmin_f32_i32 (F := Ideal) a b) ≤ key a ∧ key (reducer_argmin_f32_i32 (F := Ideal) a b) ≤ key b := by
  obtain ⟨x, i⟩ := a
  obtain ⟨y, j⟩ := b
  have hle (p q : EReal × BitVec 32) (h : p.1 < q.1 ∨ p.1 = q.1 ∧ p.2.toInt ≤ q.2.toInt) : key p ≤ key q := Prod.Lex.le_iff.2 h
  rcases lt_trichotomy x y with h | h | h
  · have e : reducer_argmin_f32_i32 (F := Ideal) (x, i) (y, j) = (x, i) := by
      simp [reducer_argmin_f32_i32, Ideal.cmpf_def, Ideal.cmp, IntOp.ori, IntOp.andi, IntOp.cmpi, Scalar.select, h, h.ne]
    rw [e]
    exact ⟨Or.inl rfl, le_rfl, hle _ _ (Or.inl h)⟩
  · subst h
    by_cases hs : i.toInt < j.toInt
    · have e : reducer_argmin_f32_i32 (F := Ideal) (x, i) (x, j) = (x, i) := by
        simp [reducer_argmin_f32_i32, Ideal.cmpf_def, Ideal.cmp, IntOp.ori, IntOp.andi, IntOp.cmpi, Scalar.select, BitVec.slt_eq_decide, hs]
      rw [e]
      exact ⟨Or.inl rfl, le_rfl, hle _ _ (Or.inr ⟨rfl, hs.le⟩)⟩
    · have e : reducer_argmin_f32_i32 (F := Ideal) (x, i) (x, j) = (x, j) := by
        simp [reducer_argmin_f32_i32, Ideal.cmpf_def, Ideal.cmp, IntOp.ori, IntOp.andi, IntOp.cmpi, Scalar.select, BitVec.slt_eq_decide, hs]
      rw [e]
      exact ⟨Or.inr rfl, hle _ _ (Or.inr ⟨rfl, not_lt.1 hs⟩), le_rfl⟩
  · have e : reducer_argmin_f32_i32 (F := Ideal) (x, i) (y, j) = (y, j) := by
      simp [reducer_argmin_f32_i32, Ideal.cmpf_def, Ideal.cmp, IntOp.ori, IntOp.andi, IntOp.cmpi, Scalar.select, h.not_gt, h.ne']
    rw [e]
    exact ⟨Or.inr rfl, hle _ _ (Or.inl h), le_rfl⟩

theorem fold_spec (L : List (EReal × BitVec 32)) (p : EReal × BitVec 32) :
    (L.foldl (reducer_argmin_f32_i32 (F := Ideal)) p = p ∨ L.foldl (reducer_argmin_f32_i32 (F := Ideal)) p ∈ L)
      ∧ key (L.foldl (reducer_argmin_f32_i32 (F := Ideal)) p) ≤ key p
      ∧ ∀ q ∈ L, key (L.foldl (reducer_argmin_f32_i32 (F := Ideal)) p) ≤ key q := by
  induction L generalizing p with
  | nil => exact ⟨Or.inl rfl, le_rfl, by simp⟩
  | cons a L ih =>
    obtain ⟨h1, h2, h3⟩ := ih (reducer_argmin_f32_i32 (F := Ideal) p a)
    obtain ⟨s1, s2, s3⟩ := step_spec p a
    refine ⟨?_, h2.trans s2, fun q hq => ?_⟩
    · rcases h1 with h1 | h1
      · rcases s1 with s1 | s1
        · exact Or.inl (h1.trans s1)
        · exact Or.inr (List.mem_cons.2 (Or.inl (h1.trans s1)))
      · exact Or.inr (List.mem_cons_of_mem _ h1)
    · rcases List.mem_cons.1 hq with rfl | hq
      · exact h2.trans s3
      · exact h3 q hq

theorem fold_eq (L : List (EReal × BitVec 32)) (p q : EReal × BitVec 32) (hq : q ∈ L) (hp : key q ≤ key p) (hl : ∀ a ∈ L, key q ≤ key a) :
    L.foldl (reducer_argmin_f32_i32 (F := Ideal)) p = q := by
  obtain ⟨h1, h2, h3⟩ := fold_spec L p
  refine key_inj (le_antisymm (h3 q hq) ?_)
  rcases h1 with h1 | h1
  · rw [h1]; exact hp
  · exact hl _ h1

/-- A row's pairs, off whatever shape: those whose row is `n`. -/
theorem mem_fiber {a b : Nat} {axes : List (Fin 2)} (x : FVec Ideal ⟨2, ![a, b]⟩ .f32) (y : (⟨2, ![a, b]⟩ : Shape).Idx → BitVec 32)
    (hy : ∀ (r : Fin a) (d : Fin b), y (ix2 r d) = BitVec.ofNat 32 d.val)
    (h : Shape.ReducesTo (⟨2, ![a, b]⟩ : Shape) axes ⟨1, ![a]⟩) (hv : ∀ j, (h.drop j 0 : Nat) = j 0) (n : Fin a)
    (q : EReal × BitVec 32) : q ∈ Host.argReduceFiber x y h (ix1 n)
      ↔ ∃ d : Fin b, q = (x (ix2 n d), BitVec.ofNat 32 d.val) := by
  unfold Host.argReduceFiber
  simp only [List.mem_map, List.mem_filter, List.mem_finRange, true_and, decide_eq_true_eq]
  constructor
  · rintro ⟨k, e, rfl⟩
    generalize (⟨2, ![a, b]⟩ : Shape).rowMajor.symm k = j at e ⊢
    have e0 : (j 0 : Fin a) = n := Fin.ext ((hv j).symm.trans (congrArg Fin.val (congrFun e 0)))
    refine ⟨j 1, ?_⟩
    have ej : j = ix2 n (j 1) := funext fun b => by
      match b with
      | ⟨0, _⟩ => exact e0
      | ⟨1, _⟩ => rfl
    exact Prod.ext (congrArg x ej) ((congrArg y ej).trans (hy n (j 1)))
  · rintro ⟨d, rfl⟩
    refine ⟨(⟨2, ![a, b]⟩ : Shape).rowMajor (ix2 n d), ?_, ?_⟩
    · rw [Equiv.symm_apply_apply]
      funext b
      apply Fin.ext
      match b with
      | ⟨0, _⟩ => exact hv (ix2 n d)
    · rw [Equiv.symm_apply_apply]; exact Prod.ext rfl (hy n d)

theorem arg_apply {a : Nat} {u : Shape} {axes : List (Fin 2)} (x : FVec Ideal ⟨2, ![a, 8192]⟩ .f32) (y : (⟨2, ![a, 8192]⟩ : Shape).Idx → BitVec 32)
    (hy : ∀ (r : Fin a) (d : Fin 8192), y (ix2 r d) = BitVec.ofNat 32 d.val)
    (h : Shape.ReducesTo (⟨2, ![a, 8192]⟩ : Shape) axes ⟨1, ![a]⟩) (hv : ∀ j, (h.drop j 0 : Nat) = j 0)
    (p : u.Idx → EReal) (q : u.Idx → BitVec 32) (hu : 0 < u.numel) (hp : ∀ i, p i = ⊤) (hq : ∀ i, q i = 0#32)
    (R : (⟨1, ![a]⟩ : Shape).Idx → BitVec 32)
    (hR : R = fun j => (Host.argReduce (F := Ideal) (φ := .f32) reducer_argmin_f32_i32 x y p q h hu j).2) (n : Fin a)
    (i : Fin 8192) (hf : First (fun d => x (ix2 n d)) i) : R (ix1 n) = BitVec.ofNat 32 i.val := by
  subst hR
  show (Host.argReduce (F := Ideal) (φ := .f32) reducer_argmin_f32_i32 x y p q h hu (ix1 n)).2 = BitVec.ofNat 32 i.val
  rw [Ideal.argReduce_eq_reduce2, Host.reduce2_eq_foldl_fiber, hp, hq]
  refine congrArg Prod.snd (fold_eq _ _ (x (ix2 n i), BitVec.ofNat 32 i.val) ((mem_fiber x y hy h hv n _).2 ⟨i, rfl⟩) ?_ fun c hc => ?_)
  · refine Prod.Lex.le_iff.2 ?_
    show x (ix2 n i) < ⊤ ∨ x (ix2 n i) = ⊤ ∧ (BitVec.ofNat 32 i.val).toInt ≤ (0#32 : BitVec 32).toInt
    rw [toInt_col]
    rcases lt_or_eq_of_le (le_top : x (ix2 n i) ≤ ⊤) with ht | ht
    · exact Or.inl ht
    · refine Or.inr ⟨ht, ?_⟩
      have h0 : i ≤ 0 := hf.fst 0 (le_antisymm (le_top.trans ht.ge) (hf.lo 0))
      have h1 : i.val ≤ 0 := h0
      have h2 : (0#32 : BitVec 32).toInt = 0 := by decide
      rw [h2]
      omega
  · obtain ⟨d, rfl⟩ := (mem_fiber x y hy h hv n c).1 hc
    refine Prod.Lex.le_iff.2 ?_
    show x (ix2 n i) < x (ix2 n d) ∨ x (ix2 n i) = x (ix2 n d) ∧ (BitVec.ofNat 32 i.val).toInt ≤ (BitVec.ofNat 32 d.val).toInt
    rw [toInt_col, toInt_col]
    rcases lt_or_eq_of_le (hf.lo d) with hd | hd
    · exact Or.inl hd
    · exact Or.inr ⟨hd, by exact_mod_cast hf.fst d hd.symm⟩

theorem iota_apply (r : Fin 1024) (d : Fin 8192) : iotaInDim S1024x8192 32 1 (ix2 r d) = BitVec.ofNat 32 d.val := rfl
theorem drop_row (j : S1024x8192.Idx) : (reducesTo_S1024x8192_S1024_d1.drop j 0 : Nat) = j 0 := Shape.ReducesTo.drop_apply_val_of_eq _ j 0 0
theorem top_const (i : S_.Idx) : constant (F := Ideal) S_ .f32 0x7F800000#32 i = (⊤ : EReal) := inf_word
theorem zero_const (i : S_.Idx) : constantI S_ 32 0#32 i = 0#32 := rfl
theorem rargmin_def (x : FVec Ideal S1024x8192 .f32) : rargmin x = fun j => (Host.argReduce reducer_argmin_f32_i32 x (iotaInDim S1024x8192 32 1)
    (constant S_ .f32 0x7F800000#32) (constantI S_ 32 0#32) reducesTo_S1024x8192_S1024_d1 h_S_ j).2 := rfl

theorem rargmin_apply (x : FVec Ideal S1024x8192 .f32) (n : Fin 1024) (i : Fin 8192) (h : First (fun d => x (ix2 n d)) i) :
    rargmin x (ix1 n) = BitVec.ofNat 32 i.val :=
  arg_apply x (iotaInDim S1024x8192 32 1) iota_apply reducesTo_S1024x8192_S1024_d1 drop_row _ _ h_S_
    top_const zero_const (rargmin x) (rargmin_def x) n i h

end Ref

end Cert.Proof.Ax

end
-- ==== Proof.AxRounds.lean ====
/- The ten rounds: where a block's distances are a stretch of the reference's, so are its picks. -/
module

public import proofs.«01_k».proof.Proof.AxPick

@[expose] public section

set_option maxRecDepth 16384

noncomputable section

namespace Cert.Proof.Ax

open Idealize.ShloMosaic Idealize.ShloMosaic.ValueIdx

theorem eq_bit (a b : BitVec 32) : IntOp.cmpi .eq a b = BitVec.ofBool (decide (a = b)) := by
  unfold IntOp.cmpi
  by_cases h : a = b
  · subst h; simp
  · rw [decide_eq_false h]; show BitVec.ofBool (a == b) = _; rw [beq_eq_false_iff_ne.2 h]

theorem ori_bit (a : BitVec 1) (p : Prop) [Decidable p] : IntOp.ori a (BitVec.ofBool (decide p)) = 1#1 ↔ a = 1#1 ∨ p := by
  by_cases hp : p
  · rw [decide_eq_true hp]
    exact ⟨fun _ => Or.inr hp, fun _ => (by decide : ∀ a : BitVec 1, IntOp.ori a (BitVec.ofBool true) = 1#1) a⟩
  · rw [decide_eq_false hp]
    have e : IntOp.ori a (BitVec.ofBool false) = a := (by decide : ∀ a : BitVec 1, IntOp.ori a (BitVec.ofBool false) = a) a
    rw [e]
    exact ⟨Or.inl, fun h => h.resolve_right hp⟩

section Kernel

open Cert.AssignIdeal Cert.AssignIdeal.Gen Cert.Proof.As

theorem plane_apply (v : FVec Ideal S10x16x8192 .f32) (k : Nat) (r : Fin 16) (d : Fin 8192) :
    plane v k (ix2 r d) = v (ix3 (Fin.ofNat 10 k) r d) := by
  unfold plane
  refine (shapeCast_apply _ _ _ (ix3 0 r d : S1x16x8192.Idx) ?_).trans ?_
  · rw [Shape.rowMajor_val_three, Shape.rowMajor_val_two]
    show (0 * 16 + r.val) * 8192 + d.val = r.val * 8192 + d.val
    omega
  · exact extractStridedSlice_apply _ _ _ _ _ (fun a => by
      match a with
      | ⟨0, _⟩ => rfl
      | ⟨1, _⟩ => exact (Nat.zero_add _).symm
      | ⟨2, _⟩ => exact (Nat.zero_add _).symm)

theorem hide_apply (b : IVec S16x8192 1) (x : FVec Ideal S16x8192 .f32) (r : Fin 16) (d : Fin 8192) :
    hide b x (ix2 r d) = if b (ix2 r d) = 1#1 then ⊤ else x (ix2 r d) := by
  show (if b (ix2 r d) = 1#1 then Ideal.ofBits .f32 0x7F800000#32 else x (ix2 r d)) = _
  rw [inf_word]

theorem rowI_apply (i : IVec S16 32) (r : Fin 16) (d : Fin 8192) : rowI i (ix2 r d) = i (ix1 r) := by
  unfold rowI
  refine (broadcastTo_apply _ _ _ (ix2 r 0 : S16x1.Idx) (fun a => by match a with | ⟨0, _⟩ => rfl | ⟨1, _⟩ => rfl)).trans ?_
  refine shapeCast_apply _ _ _ (ix1 r : S16.Idx) ?_
  rw [Shape.rowMajor_val_one, Shape.rowMajor_val_two]
  show r.val = r.val * 1 + 0
  omega

theorem cols_apply (r : Fin 16) (d : Fin 8192) : cols (ix2 r d) = BitVec.ofNat 32 d.val := by
  show BitVec.ofNat 32 (0 * 8192 + d.val) = _
  rw [Nat.zero_mul, Nat.zero_add]

theorem mark_apply (b : IVec S16x8192 1) (i : IVec S16 32) (r : Fin 16) (d : Fin 8192) :
    mark b i (ix2 r d) = 1#1 ↔ b (ix2 r d) = 1#1 ∨ BitVec.ofNat 32 d.val = i (ix1 r) := by
  have e : mark b i (ix2 r d) = IntOp.ori (b (ix2 r d)) (IntOp.cmpi .eq (cols (ix2 r d)) (rowI i (ix2 r d))) := rfl
  rw [e, eq_bit, cols_apply, rowI_apply]
  exact ori_bit _ _

theorem col1_apply (i : IVec S16 32) (r : Fin 16) : col1 i (ix2 r 0) = i (ix1 r) := by
  refine shapeCast_apply _ _ _ (ix1 r : S16.Idx) ?_
  rw [Shape.rowMajor_val_one, Shape.rowMajor_val_two]
  show r.val = r.val * 1 + 0
  omega

theorem picks_apply (v : FVec Ideal S10x16x8192 .f32) (r : Fin 16) (k : Fin 10) : picks v (ix2 r k) = idx v k.val (ix1 r) := by
  refine Eq.trans ?_ (col1_apply (idx v k.val) r)
  unfold picks beside
  have h := concatenate_ofFn_unit_apply (t := S16x10) (s₁ := S16x1) 1 (N := 10) (fun n : Fin 10 => col1 (idx v n.val))
    concatenates_S16x1_S16x1_S16x1_S16x1_S16x1_S16x1_S16x1_S16x1_S16x1_S16x1_S16x10_d1 rfl rfl (ix2 r k) k rfl (ix2 r 0) (fun b hb => by
      match b with
      | ⟨0, _⟩ => rfl
      | ⟨1, _⟩ => exact absurd rfl hb)
  exact h

end Kernel

section Ref

open Cert.AssignReferenceIdeal Cert.AssignReferenceIdeal.Gen Cert.Proof.Ar

theorem rplane_apply (x : FVec Ideal S1024x10x8192 .f32) (k : Nat) (n : Fin 1024) (d : Fin 8192) :
    rplane x k (ix2 n d) = x (ix3 n (Fin.ofNat 10 k) d) := by
  unfold rplane
  refine (shapeCast_apply _ _ _ (ix3 n 0 d : S1024x1x8192.Idx) ?_).trans ?_
  · rw [Shape.rowMajor_val_three, Shape.rowMajor_val_two]
    show (n.val * 1 + 0) * 8192 + d.val = n.val * 8192 + d.val
    omega
  · exact extractStridedSlice_apply _ _ _ _ _ (fun a => by
      match a with
      | ⟨0, _⟩ => exact (Nat.zero_add _).symm
      | ⟨1, _⟩ => rfl
      | ⟨2, _⟩ => exact (Nat.zero_add _).symm)

theorem rhide_apply (i : IVec S1024 32) (x : FVec Ideal S1024x10x8192 .f32) (n : Fin 1024) (g : Fin 10) (d : Fin 8192) :
    rhide i x (ix3 n g d) = if BitVec.ofNat 32 d.val = i (ix1 n) then ⊤ else x (ix3 n g d) := by
  have ec : broadcastInDim S1024x1x8192 ![0, 1, 2] bcast_S1x1x8192_S1024x1x8192_0_1_2 (broadcastInDim S1x1x8192 ![2] bcast_S8192_S1x1x8192_2 (iotaInDim S8192 32 0)) (ix3 n 0 d)
      = BitVec.ofNat 32 d.val := by
    refine (broadcastInDim_apply _ _ _ _ (ix3 0 0 d : S1x1x8192.Idx) (fun a => by match a with | ⟨0, _⟩ => rfl | ⟨1, _⟩ => rfl | ⟨2, _⟩ => rfl)).trans ?_
    exact broadcastInDim_apply _ _ _ _ (ix1 d : S8192.Idx) (fun a => by match a with | ⟨0, _⟩ => rfl)
  have ei : broadcastInDim S1024x1x8192 ![0, 1, 2] bcast_S1024x1x1_S1024x1x8192_0_1_2 (broadcastInDim S1024x1x1 ![0] bcast_S1024_S1024x1x1_0 i) (ix3 n 0 d) = i (ix1 n) := by
    refine (broadcastInDim_apply _ _ _ _ (ix3 n 0 0 : S1024x1x1.Idx) (fun a => by match a with | ⟨0, _⟩ => rfl | ⟨1, _⟩ => rfl | ⟨2, _⟩ => rfl)).trans ?_
    exact broadcastInDim_apply _ _ _ _ (ix1 n : S1024.Idx) (fun a => by match a with | ⟨0, _⟩ => rfl)
  unfold rhide
  rw [select_apply]
  have eb (y : IVec S1024x1x8192 1) : broadcastInDim S1024x10x8192 ![0, 1, 2] bcast_S1024x1x8192_S1024x10x8192_0_1_2 y (ix3 n g d) = y (ix3 n 0 d) :=
    broadcastInDim_apply _ _ _ _ (ix3 n 0 d : S1024x1x8192.Idx) (fun a => by match a with | ⟨0, _⟩ => rfl | ⟨1, _⟩ => rfl | ⟨2, _⟩ => rfl)
  have et (y : FVec Ideal S_ .f32) (hy : ∀ j, y j = ⊤) : broadcastInDim S1024x10x8192 ![] bcast_S_S1024x10x8192 y (ix3 n g d) = (⊤ : EReal) := hy _
  rw [eb, et _ top_const]
  refine Eq.trans (congrArg (fun b => Scalar.select b (⊤ : EReal) (x (ix3 n g d))) (a₂ := BitVec.ofBool (decide (BitVec.ofNat 32 d.val = i (ix1 n)))) ?_) ?_
  · refine (congrArg₂ (IntOp.cmpi .eq) ec ei).trans (eq_bit _ _)
  · by_cases h : BitVec.ofNat 32 d.val = i (ix1 n)
    · rw [if_pos h, decide_eq_true h]; rfl
    · rw [if_neg h, decide_eq_false h]; rfl

theorem rcol_apply (i : IVec S1024 32) (n : Fin 1024) : rcol i (ix2 n 0) = i (ix1 n) :=
  broadcastInDim_apply _ _ _ _ (ix1 n : S1024.Idx) (fun a => by match a with | ⟨0, _⟩ => rfl)

theorem rpicks_apply (D : FVec Ideal S1024x10x8192 .f32) (n : Fin 1024) (k : Fin 10) : rpicks D (ix2 n k) = rpick D k.val (ix1 n) := by
  refine Eq.trans ?_ (rcol_apply (rpick D k.val) n)
  unfold rpicks
  have h := concatenate_ofFn_unit_apply (t := S1024x10) (s₁ := S1024x1) 1 (N := 10) (fun n : Fin 10 => rcol (rpick D n.val))
    concatenates_S1024x1_S1024x1_S1024x1_S1024x1_S1024x1_S1024x1_S1024x1_S1024x1_S1024x1_S1024x1_S1024x10_d1 rfl rfl (ix2 n k) k rfl (ix2 n 0) (fun b hb => by
      match b with
      | ⟨0, _⟩ => rfl
      | ⟨1, _⟩ => exact absurd rfl hb)
  exact h

end Ref

section Both

open Cert.Proof.As (plane msk idx hide mark pickOf picks)
open Cert.Proof.Ar (rplane rhide rargmin rows rpick rpicks)

variable (v : FVec Ideal Cert.AssignIdeal.S10x16x8192 .f32) (D : FVec Ideal Cert.AssignReferenceIdeal.S1024x10x8192 .f32) (r : Fin 16) (n : Fin 1024)
  (h : ∀ (g : Fin 10) (d : Fin 8192), D (ix3 n g d) = v (ix3 g r d))

include h

/-- Where the rows agree, so do the picks. -/
theorem pick_of (k : Nat) (hr : ∀ (g : Fin 10) (d : Fin 8192), rows D k (ix3 n g d) = if msk v k (ix2 r d) = 1#1 then ⊤ else v (ix3 g r d)) :
    rpick D k (ix1 n) = idx v k (ix1 r) := by
  have e : (fun d : Fin 8192 => rplane (rows D k) k (ix2 n d)) = fun d => hide (msk v k) (plane v k) (ix2 r d) := funext fun d => by
    rw [rplane_apply, hr, hide_apply, plane_apply]
  obtain ⟨i, hi⟩ := first_exists (fun d : Fin 8192 => hide (msk v k) (plane v k) (ix2 r d))
  exact (rargmin_apply _ n i (by rw [e]; exact hi)).trans (pickOf_apply _ r i hi).symm

/-- The columns barred from a row are those marked. -/
theorem rows_of : ∀ (k : Nat) (g : Fin 10) (d : Fin 8192), rows D k (ix3 n g d) = if msk v k (ix2 r d) = 1#1 then ⊤ else v (ix3 g r d)
  | 0, g, d => by
    have e : msk v 0 (ix2 r d) = 0#1 := rfl
    rw [e, if_neg (by decide)]
    exact h g d
  | k + 1, g, d => by
    have hp := pick_of v D r n h k (rows_of k)
    show rhide (rpick D k) (rows D k) (ix3 n g d) = if mark (msk v k) (idx v k) (ix2 r d) = 1#1 then ⊤ else v (ix3 g r d)
    rw [rhide_apply, rows_of k, hp]
    simp only [mark_apply]
    by_cases h1 : BitVec.ofNat 32 d.val = idx v k (ix1 r)
    · rw [if_pos h1, if_pos (Or.inr h1)]
    · rw [if_neg h1]
      by_cases h2 : msk v k (ix2 r d) = 1#1
      · rw [if_pos h2, if_pos (Or.inl h2)]
      · rw [if_neg h2, if_neg (by rintro (a | a); exacts [h2 a, h1 a])]

theorem picks_of (k : Fin 10) : picks v (ix2 r k) = rpicks D (ix2 n k) := by
  rw [picks_apply, rpicks_apply]
  exact (pick_of v D r n h k.val (rows_of v D r n h k.val)).symm

end Both

end Cert.Proof.Ax

end
-- ==== Proof.AxValue.lean ====
/-
  The assign call: each point's ten picks, half a block of 32 points at a time, against the picks out of the whole table
  of distances.
-/
module

public import proofs.«01_k».proof.Defs
public import proofs.«01_k».proof.Proof.AkLaunch
public import proofs.«01_k».proof.Proof.AsLaunch
public import proofs.«01_k».proof.Proof.ArRun
public import proofs.«01_k».proof.Proof.AxDist
public import proofs.«01_k».proof.Proof.AxRounds
public import Idealize.ShloMosaic.Lib.Quiescent

@[expose] public section

set_option maxRecDepth 16384

noncomputable section

namespace Cert.Proof.Ax

open Idealize.ShloMosaic Idealize.ShloMosaic.ValueIdx Idealize.ShloMosaic.TcCoe Idealize.SL.Sem

section Blocks

open Cert.AssignIdeal Cert.AssignIdeal.Gen Cert.Proof.As

variable (m : (ℓ : Loc nD τ sig) → Buf (Elt Ideal) ℓ) (c : Dev nD)

/-- The vectors, the columns' lengths and the columns the run is given. -/
def zs : (⟨2, ![10240, 512]⟩ : Shape).Idx → EReal := m ((c.tc : Thread nD τ).loc main_arg0)
def qs : (⟨2, ![8192, 1]⟩ : Shape).Idx → EReal := m ((c.tc : Thread nD τ).loc main_arg1)
def ws : (⟨2, ![512, 8192]⟩ : Shape).Idx → EReal := m ((c.tc : Thread nD τ).loc main_arg2)

/-- What the host leaves for the call: the lengths as a row, -/
theorem V_row : (V m c main_v0 : S1x8192.Idx → EReal) = shapeCast S1x8192 (qs m c : FVec Ideal S8192x1 .f32) shapeCasts_S8192x1_S1x8192 := by
  dsimp only [V, hostOps0]
  after_results
  rfl

/-- the vectors by slot and then by point, -/
theorem V_slots : (V m c main_v2 : S10x1024x512.Idx → EReal)
    = transpose S10x1024x512 [1, 0, 2] (shapeCast S1024x10x512 (zs m c : FVec Ideal S10240x512 .f32) shapeCasts_S10240x512_S1024x10x512) transposes_S1024x10x512_S10x1024x512_1_0_2 := by
  dsimp only [V, hostOps0]
  after_results
  rfl

/-- and their squared lengths likewise. -/
theorem V_norms : (V m c main_v7 : S10x1024x1.Idx → EReal)
    = broadcastInDim S10x1024x1 ![0, 1] bcast_S10x1024_S10x1024x1_0_1 (transpose S10x1024 [1, 0]
        (shapeCast S1024x10 (Host.reduceAdd (mulf (zs m c : FVec Ideal S10240x512 .f32) (zs m c : FVec Ideal S10240x512 .f32)) (constant (F := Ideal) S_ .f32 0x00000000#32) reducesTo_S10240x512_S10240_d1 h_S_) shapeCasts_S10240_S1024x10)
        transposes_S1024x10_S10x1024_1_0) := by
  dsimp only [V, hostOps0]
  after_results
  rfl

theorem row_at (d : Fin 8192) : (V m c main_v0 : S1x8192.Idx → EReal) (ix2 0 d) = qs m c (ix2 d 0) := by
  rw [V_row]
  refine shapeCast_apply _ _ _ (ix2 d 0 : S8192x1.Idx) ?_
  rw [Shape.rowMajor_val_two, Shape.rowMajor_val_two]
  show d.val * 1 + 0 = 0 * 8192 + d.val
  omega

theorem slots_at (g : Fin 10) (n : Fin 1024) (k : Fin 512) :
    (V m c main_v2 : S10x1024x512.Idx → EReal) (ix3 g n k) = zs m c (ix2 (slot n g) k) := by
  rw [V_slots]
  refine (transpose_apply _ _ _ _ (ix3 n g k : S1024x10x512.Idx) (fun a => by match a with | ⟨0, _⟩ => rfl | ⟨1, _⟩ => rfl | ⟨2, _⟩ => rfl)).trans ?_
  refine shapeCast_apply _ _ _ (ix2 (slot n g) k : S10240x512.Idx) ?_
  rw [Shape.rowMajor_val_three, Shape.rowMajor_val_two]
  show (10 * n.val + g.val) * 512 + k.val = (n.val * 10 + g.val) * 512 + k.val
  omega

theorem norms_at (g : Fin 10) (n : Fin 1024) :
    (V m c main_v7 : S10x1024x1.Idx → EReal) (ix3 g n 0) = ∑ k : Fin 512, zs m c (ix2 (slot n g) k) * zs m c (ix2 (slot n g) k) := by
  rw [V_norms]
  refine (broadcastInDim_apply _ _ _ _ (ix2 g n : S10x1024.Idx) (fun a => by match a with | ⟨0, _⟩ => rfl | ⟨1, _⟩ => rfl)).trans ?_
  refine (transpose_apply _ _ _ _ (ix2 n g : S1024x10.Idx) (fun a => by match a with | ⟨0, _⟩ => rfl | ⟨1, _⟩ => rfl)).trans ?_
  refine (shapeCast_apply _ _ _ (ix1 (slot n g) : S10240.Idx) ?_).trans ?_
  · rw [Shape.rowMajor_val_one, Shape.rowMajor_val_two]
    show 10 * n.val + g.val = n.val * 10 + g.val
    omega
  exact sq_apply (zs m c) (slot n g)

theorem index0 : ∀ t : Fin grid0.N, win0_0.index t 0 = 0 ∧ win0_0.index t 1 = min t.val 31 ∧ win0_0.index t 2 = 0 := by decide +kernel
theorem index1 : ∀ t : Fin grid0.N, win0_1.index t 0 = 0 ∧ win0_1.index t 1 = min t.val 31 ∧ win0_1.index t 2 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel

/-- A point's block holds 32 points' vectors, -/
theorem iblk0 (t : Fin cfg0.N) (g : Fin 10) (s : Fin 32) (k : Fin 512) (n : Fin 1024) (ht : t.val < 32) (h : n.val = 32 * t.val + s.val) :
    (iblk m c 0 t : S10x32x512.Idx → EReal) (ix3 g s k) = zs m c (ix2 (slot n g) k) := by
  refine Eq.trans ?_ (slots_at m c g n k)
  show V m c main_v2 ((win0_0.rect t).emb (ix3 g s k)) = _
  have e := index0 t
  refine congrArg (V m c main_v2 : S10x1024x512.Idx → EReal) (funext fun a => Fin.ext ?_)
  match a with
  | ⟨0, _⟩ => exact Pipeline.Window.rect_emb_val_of_index_zero win0_0 t 0 e.1 _
  | ⟨1, _⟩ => refine (Pipeline.Window.rect_emb_val win0_0 t (ix3 g s k) 1).trans ?_; rw [e.2.1]; show min t.val 31 * 32 + s.val = n.val; omega
  | ⟨2, _⟩ => exact Pipeline.Window.rect_emb_val_of_index_zero win0_0 t 2 e.2.2 _

/-- their squared lengths, -/
theorem iblk1 (t : Fin cfg0.N) (g : Fin 10) (s : Fin 32) (n : Fin 1024) (ht : t.val < 32) (h : n.val = 32 * t.val + s.val) :
    (iblk m c 1 t : S10x32x1.Idx → EReal) (ix3 g s 0) = ∑ k : Fin 512, zs m c (ix2 (slot n g) k) * zs m c (ix2 (slot n g) k) := by
  refine Eq.trans ?_ (norms_at m c g n)
  show V m c main_v7 ((win0_1.rect t).emb (ix3 g s 0)) = _
  have e := index1 t
  refine congrArg (V m c main_v7 : S10x1024x1.Idx → EReal) (funext fun a => Fin.ext ?_)
  match a with
  | ⟨0, _⟩ => exact Pipeline.Window.rect_emb_val_of_index_zero win0_1 t 0 e.1 _
  | ⟨1, _⟩ => refine (Pipeline.Window.rect_emb_val win0_1 t (ix3 g s 0) 1).trans ?_; rw [e.2.1]; show min t.val 31 * 32 + s.val = n.val; omega
  | ⟨2, _⟩ => exact Pipeline.Window.rect_emb_val_of_index_zero win0_1 t 2 e.2.2 _

/-- all the columns, -/
theorem iblk2 (t : Fin cfg0.N) (k : Fin 512) (d : Fin 8192) : (iblk m c 2 t : S512x8192.Idx → EReal) (ix2 k d) = ws m c (ix2 k d) := by
  show V m c main_arg2 ((win0_2.rect t).emb (ix2 k d)) = _
  rw [V_main_arg2]
  have e := index2 t
  refine congrArg (ws m c) (funext fun a => Fin.ext ?_)
  match a with
  | ⟨0, _⟩ => exact Pipeline.Window.rect_emb_val_of_index_zero win0_2 t 0 e.1 _
  | ⟨1, _⟩ => exact Pipeline.Window.rect_emb_val_of_index_zero win0_2 t 1 e.2 _

/-- and all their lengths. -/
theorem iblk3 (t : Fin cfg0.N) (d : Fin 8192) : (iblk m c 3 t : S1x8192.Idx → EReal) (ix2 0 d) = qs m c (ix2 d 0) := by
  refine Eq.trans ?_ (row_at m c d)
  show V m c main_v0 ((win0_3.rect t).emb (ix2 0 d)) = _
  have e := index3 t
  refine congrArg (V m c main_v0 : S1x8192.Idx → EReal) (funext fun a => Fin.ext ?_)
  match a with
  | ⟨0, _⟩ => exact Pipeline.Window.rect_emb_val_of_index_zero win0_3 t 0 e.1 _
  | ⟨1, _⟩ => exact Pipeline.Window.rect_emb_val_of_index_zero win0_3 t 1 e.2 _

theorem fst_at (t : Fin cfg0.N) (g : Fin 10) (p : Fin 16) (d : Fin 8192) (n : Fin 1024) (ht : t.val < 32) (h : n.val = 32 * t.val + p.val) :
    (fstD m c t : S10x16x8192.Idx → EReal) (ix3 g p d) = dval (zs m c) (qs m c) (ws m c) n g d := by
  have hp := p.isLt
  have e := distA_apply (iblk m c 0 t) (iblk m c 1 t) (iblk m c 2 t) (iblk m c 3 t) g p d ⟨p.val, by omega⟩ rfl
  refine e.trans ?_
  unfold dval
  refine congrArg₂ (· - ·) (congrArg₂ (· + ·) (iblk1 m c t g _ n ht h) (iblk3 m c t d)) (Finset.sum_congr rfl fun k _ => ?_)
  exact congrArg₂ (· * ·) (iblk0 m c t g _ k n ht h) (iblk2 m c t k d)

theorem snd_at (t : Fin cfg0.N) (g : Fin 10) (p : Fin 16) (d : Fin 8192) (n : Fin 1024) (ht : t.val < 32) (h : n.val = 32 * t.val + (16 + p.val)) :
    (sndD m c t : S10x16x8192.Idx → EReal) (ix3 g p d) = dval (zs m c) (qs m c) (ws m c) n g d := by
  have hp := p.isLt
  have e := distB_apply (iblk m c 0 t) (iblk m c 1 t) (iblk m c 2 t) (iblk m c 3 t) g p d ⟨16 + p.val, by omega⟩ rfl
  refine e.trans ?_
  unfold dval
  refine congrArg₂ (· - ·) (congrArg₂ (· + ·) (iblk1 m c t g _ n ht h) (iblk3 m c t d)) (Finset.sum_congr rfl fun k _ => ?_)
  exact congrArg₂ (· * ·) (iblk0 m c t g _ k n ht h) (iblk2 m c t k d)

/-- What both runs leave. -/
def value : IVec S1024x10 32 := Ar.rpicks (Ar.rdist (F := Ideal) (zs m c) (qs m c) (ws m c))

theorem want_eq (n : Fin 1024) (k : Fin 10) : want m c n k = value m c (ix2 n k) := by
  have hn := n.isLt
  unfold want value
  split
  · refine picks_of _ _ ⟨n.val % 16, Nat.mod_lt _ (by decide)⟩ n (fun g d => ?_) k
    refine (rdist_apply _ _ _ n g d).trans (fst_at m c (ptOf n) g _ d n ?_ ?_).symm
    · show n.val / 32 < 32; omega
    · show n.val = 32 * (n.val / 32) + n.val % 16; omega
  · refine picks_of _ _ ⟨n.val % 16, Nat.mod_lt _ (by decide)⟩ n (fun g d => ?_) k
    refine (rdist_apply _ _ _ n g d).trans (snd_at m c (ptOf n) g _ d n ?_ ?_).symm
    · show n.val / 32 < 32; omega
    · show n.val = 32 * (n.val / 32) + (16 + n.val % 16); omega

end Blocks

theorem frame_assign : Cert.quiescent_Assign := fun m ρ _ => Ak.frame m ρ

theorem frame_assignIdeal : Cert.quiescent_AssignIdeal := fun m ρ _ => As.frame m ρ

theorem frame_assignRef : Cert.quiescent_AssignReferenceIdeal := fun m ρ _ =>
  (θ_run Cert.AssignReferenceIdeal.defs _ _).mono
    (fun r h => ⟨fun c => (h c).2, sem_eq_zero_of_no_sems (by decide) r.2⟩)
    (Ar.run m ρ)

theorem algebraic : Cert.algebraic_AssignIdeal_AssignReferenceIdeal := fun m ρ m' ρ' _ ha =>
  ⟨fun c => value m c,
    (θ_run Cert.AssignIdeal.defs _ _).mono
      (fun r h c => ⟨funext fun j => by
        have e : j = (ix2 (j 0 : Fin 1024) (j 1 : Fin 10) : Cert.AssignIdeal.S1024x10.Idx) := eq_ix2 j
        exact (congrArg _ e).trans ((((h.1 c).2.2.2 (j 0) (j 1)).trans (want_eq m c (j 0) (j 1))).trans (congrArg (value m c) e.symm)),
        (h.1 c).1, (h.1 c).2.1, (h.1 c).2.2.1⟩)
      (As.run_out m ρ),
    (θ_run Cert.AssignReferenceIdeal.defs _ _).mono
      (fun r h c => by
        obtain ⟨e0, e1, e2⟩ := ha c
        have h3 := (h c).1
        rw [e0, e1, e2] at h3
        exact ⟨h3, (h c).2⟩)
      (Ar.run m' ρ')⟩

end Cert.Proof.Ax

end
-- ==== Proof.lean ====
/-
  The claim: both readings of each program keep their arguments and end with every counter at zero, their references too,
  and over the extended reals each program's results are its reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idx_in_rows
public import proofs.«01_k».proof.Proof.Value
public import proofs.«01_k».proof.Proof.CodebookValue
public import proofs.«01_k».proof.Proof.AxValue
public import proofs.«01_k».proof.Proof.Gen.Codebook
public import proofs.«01_k».proof.Proof.Gen.Codebook.Frame
public import proofs.«01_k».proof.Proof.Gen.CodebookIdeal
public import proofs.«01_k».proof.Proof.Gen.CodebookIdeal.Value
public import proofs.«01_k».proof.Proof.Gen.CodebookReferenceIdeal
public import proofs.«01_k».proof.Proof.Gen.CodebookReferenceIdeal.Run
public import proofs.«01_k».proof.Proof.Gen.Assign
public import proofs.«01_k».proof.Proof.Gen.Assign.Launch
public import proofs.«01_k».proof.Proof.Gen.Assign.Points
public import proofs.«01_k».proof.Proof.Gen.Assign.Skeleton
public import proofs.«01_k».proof.Proof.Gen.AssignIdeal
public import proofs.«01_k».proof.Proof.Gen.AssignIdeal.Launch
public import proofs.«01_k».proof.Proof.Gen.AssignIdeal.Points
public import proofs.«01_k».proof.Proof.Gen.AssignIdeal.Skeleton
public import proofs.«01_k».proof.Proof.Gen.AssignReferenceIdeal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Codebook.Gen.facts, Cert.CodebookIdeal.Gen.facts, Cert.CodebookReferenceIdeal.Gen.facts, Cert.Assign.Gen.facts, Cert.AssignIdeal.Gen.facts, Cert.AssignReferenceIdeal.Gen.facts, Cert.Pre_idx_in_rows.Gen.facts,
    Sc.frame_kernel, Sc.frame_kernelIdeal, Sc.frame_ref, Sc.frame_ref_pre,
    Cb.frame_codebook, Cb.frame_codebookIdeal, Cb.frame_codebookRef, Ax.frame_assign, Ax.frame_assignIdeal, Ax.frame_assignRef,
    IdealRules.named_const.statement Cert.KernelIdeal.κ "mean" .f32 0x344CCCCD#32 ((5242880⁻¹ : ℝ) : EReal) rfl, Sc.algebraic,
    trivial, Cb.algebraic, trivial, Ax.algebraic⟩

end Cert.Proof

end
